-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_in_range [hPre_neighbours_in_range : Cert.Pre_neighbours_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_in_range [hPre_neighbours_in_range : Cert.Pre_neighbours_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesIdeal_scale_neighbours_in_range [hPre_scale_neighbours_in_range : Cert.Pre_scale_neighbours_in_range.Facts] (m : (ℓ : Loc Cert.ScalesIdeal.nD Cert.ScalesIdeal.τ Cert.ScalesIdeal.sig) → Buf (Elt Ideal) ℓ) : Prop :=
  ∀ c : Dev Cert.ScalesIdeal.nD,
    (Cert.Pre_scale_neighbours_in_range.fn (F := Ideal) (m ((c.tc : Thread Cert.ScalesIdeal.nD Cert.ScalesIdeal.τ).loc Cert.ScalesIdeal.main_arg0)) (m ((c.tc : Thread Cert.ScalesIdeal.nD Cert.ScalesIdeal.τ).loc Cert.ScalesIdeal.main_arg1))) = (fun _ => 1#1)

def Pre_ReferenceScalesIdeal (m : (ℓ : Loc Cert.ReferenceScalesIdeal.nD Cert.ReferenceScalesIdeal.τ Cert.ReferenceScalesIdeal.sig) → Buf (Elt Ideal) ℓ) : Prop :=
  True

def Pre_ReferenceScalesIdeal_scale_neighbours_in_range [hPre_scale_neighbours_in_range : Cert.Pre_scale_neighbours_in_range.Facts] (m : (ℓ : Loc Cert.ReferenceScalesIdeal.nD Cert.ReferenceScalesIdeal.τ Cert.ReferenceScalesIdeal.sig) → Buf (Elt Ideal) ℓ) : Prop :=
  ∀ c : Dev Cert.ReferenceScalesIdeal.nD,
    (Cert.Pre_scale_neighbours_in_range.fn (F := Ideal) (m ((c.tc : Thread Cert.ReferenceScalesIdeal.nD Cert.ReferenceScalesIdeal.τ).loc Cert.ReferenceScalesIdeal.main_arg0)) (m ((c.tc : Thread Cert.ReferenceScalesIdeal.nD Cert.ReferenceScalesIdeal.τ).loc Cert.ReferenceScalesIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_neighbours_in_range [hKernelIdeal : Cert.KernelIdeal.Facts] [hPre_neighbours_in_range : Cert.Pre_neighbours_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_neighbours_in_range [hReferenceIdeal : Cert.ReferenceIdeal.Facts] [hPre_neighbours_in_range : Cert.Pre_neighbours_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ r.2.sem = fun _ => 0)

def quiescent_ScalesIdeal_pre_scale_neighbours_in_range [hScalesIdeal : Cert.ScalesIdeal.Facts] [hPre_scale_neighbours_in_range : Cert.Pre_scale_neighbours_in_range.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal_scale_neighbours_in_range m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ r.2.sem = fun _ => 0)

def quiescent_ReferenceScalesIdeal [hReferenceScalesIdeal : Cert.ReferenceScalesIdeal.Facts] : Prop :=
  ∀ (m : (ℓ : Loc Cert.ReferenceScalesIdeal.nD Cert.ReferenceScalesIdeal.τ Cert.ReferenceScalesIdeal.sig) → Buf (Elt Ideal) ℓ) (g : Dev Cert.ReferenceScalesIdeal.nD → PrngReg), Pre_ReferenceScalesIdeal m →
    θ_run (Cert.ReferenceScalesIdeal.defs (F := Ideal)) (onTc (τ := Cert.ReferenceScalesIdeal.τ) (Cert.ReferenceScalesIdeal.main (F := Ideal))) ⟨m, fun _ => 0, g⟩ (fun r => (∀ c : Dev Cert.ReferenceScalesIdeal.nD,
      r.2.mem ((c.tc : Thread Cert.ReferenceScalesIdeal.nD Cert.ReferenceScalesIdeal.τ).loc Cert.ReferenceScalesIdeal.main_arg0) = m ((c.tc : Thread Cert.ReferenceScalesIdeal.nD Cert.ReferenceScalesIdeal.τ).loc Cert.ReferenceScalesIdeal.main_arg0)
      ∧ r.2.mem ((c.tc : Thread Cert.ReferenceScalesIdeal.nD Cert.ReferenceScalesIdeal.τ).loc Cert.ReferenceScalesIdeal.main_arg1) = m ((c.tc : Thread Cert.ReferenceScalesIdeal.nD Cert.ReferenceScalesIdeal.τ).loc Cert.ReferenceScalesIdeal.main_arg1))
      ∧ r.2.sem = fun _ => 0)

def quiescent_ReferenceScalesIdeal_pre_scale_neighbours_in_range [hReferenceScalesIdeal : Cert.ReferenceScalesIdeal.Facts] [hPre_scale_neighbours_in_range : Cert.Pre_scale_neighbours_in_range.Facts] : Prop :=
  ∀ (m : (ℓ : Loc Cert.ReferenceScalesIdeal.nD Cert.ReferenceScalesIdeal.τ Cert.ReferenceScalesIdeal.sig) → Buf (Elt Ideal) ℓ) (g : Dev Cert.ReferenceScalesIdeal.nD → PrngReg), Pre_ReferenceScalesIdeal_scale_neighbours_in_range m →
    θ_run (Cert.ReferenceScalesIdeal.defs (F := Ideal)) (onTc (τ := Cert.ReferenceScalesIdeal.τ) (Cert.ReferenceScalesIdeal.main (F := Ideal))) ⟨m, fun _ => 0, g⟩ (fun r => (∀ c : Dev Cert.ReferenceScalesIdeal.nD,
      r.2.mem ((c.tc : Thread Cert.ReferenceScalesIdeal.nD Cert.ReferenceScalesIdeal.τ).loc Cert.ReferenceScalesIdeal.main_arg0) = m ((c.tc : Thread Cert.ReferenceScalesIdeal.nD Cert.ReferenceScalesIdeal.τ).loc Cert.ReferenceScalesIdeal.main_arg0)
      ∧ r.2.mem ((c.tc : Thread Cert.ReferenceScalesIdeal.nD Cert.ReferenceScalesIdeal.τ).loc Cert.ReferenceScalesIdeal.main_arg1) = m ((c.tc : Thread Cert.ReferenceScalesIdeal.nD Cert.ReferenceScalesIdeal.τ).loc Cert.ReferenceScalesIdeal.main_arg1))
      ∧ r.2.sem = fun _ => 0)

def preserves_Kernel_KernelIdeal : Prop :=
  True

def algebraic_KernelIdeal_ReferenceIdeal_pre_neighbours_in_range [hKernelIdeal : Cert.KernelIdeal.Facts] [hReferenceIdeal : Cert.ReferenceIdeal.Facts] [hPre_neighbours_in_range : Cert.Pre_neighbours_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Scales_ScalesIdeal : Prop :=
  True

def algebraic_ScalesIdeal_ReferenceScalesIdeal_pre_scale_neighbours_in_range [hScalesIdeal : Cert.ScalesIdeal.Facts] [hReferenceScalesIdeal : Cert.ReferenceScalesIdeal.Facts] [hPre_scale_neighbours_in_range : Cert.Pre_scale_neighbours_in_range.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ReferenceScalesIdeal.nD Cert.ReferenceScalesIdeal.τ Cert.ReferenceScalesIdeal.sig) → Buf (Elt Ideal) ℓ) (g' : Dev Cert.ReferenceScalesIdeal.nD → PrngReg), Pre_ScalesIdeal_scale_neighbours_in_range m →
    (∀ c : Dev Cert.ScalesIdeal.nD,
      m' ((c.tc : Thread Cert.ReferenceScalesIdeal.nD Cert.ReferenceScalesIdeal.τ).loc Cert.ReferenceScalesIdeal.main_arg0) = m ((c.tc : Thread Cert.ScalesIdeal.nD Cert.ScalesIdeal.τ).loc Cert.ScalesIdeal.main_arg0)
      ∧ m' ((c.tc : Thread Cert.ReferenceScalesIdeal.nD Cert.ReferenceScalesIdeal.τ).loc Cert.ReferenceScalesIdeal.main_arg1) = m ((c.tc : Thread Cert.ScalesIdeal.nD Cert.ScalesIdeal.τ).loc Cert.ScalesIdeal.main_arg1)) →
    ∃ (v0 : (c : Dev Cert.ScalesIdeal.nD) → Buf (Elt Ideal) ((c.tc : Thread Cert.ScalesIdeal.nD Cert.ScalesIdeal.τ).loc Cert.ScalesIdeal.main_v1)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v1) = v0 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1))
      ∧ θ_run (Cert.ReferenceScalesIdeal.defs (F := Ideal)) (onTc (τ := Cert.ReferenceScalesIdeal.τ) (Cert.ReferenceScalesIdeal.main (F := Ideal))) ⟨m', fun _ => 0, g'⟩ (fun r => ∀ c : Dev Cert.ReferenceScalesIdeal.nD,
          r.2.mem ((c.tc : Thread Cert.ReferenceScalesIdeal.nD Cert.ReferenceScalesIdeal.τ).loc Cert.ReferenceScalesIdeal.main_v50) = v0 c
          ∧ r.2.mem ((c.tc : Thread Cert.ReferenceScalesIdeal.nD Cert.ReferenceScalesIdeal.τ).loc Cert.ReferenceScalesIdeal.main_arg0) = m' ((c.tc : Thread Cert.ReferenceScalesIdeal.nD Cert.ReferenceScalesIdeal.τ).loc Cert.ReferenceScalesIdeal.main_arg0)
          ∧ r.2.mem ((c.tc : Thread Cert.ReferenceScalesIdeal.nD Cert.ReferenceScalesIdeal.τ).loc Cert.ReferenceScalesIdeal.main_arg1) = m' ((c.tc : Thread Cert.ReferenceScalesIdeal.nD Cert.ReferenceScalesIdeal.τ).loc Cert.ReferenceScalesIdeal.main_arg1))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hReferenceScalesIdeal : Cert.ReferenceScalesIdeal.Facts) (hPre_neighbours_in_range : Cert.Pre_neighbours_in_range.Facts) (hPre_scale_neighbours_in_range : Cert.Pre_scale_neighbours_in_range.Facts),
    quiescent_Kernel (hKernel := hKernel)
    ∧ quiescent_KernelIdeal (hKernelIdeal := hKernelIdeal)
    ∧ quiescent_KernelIdeal_pre_neighbours_in_range (hKernelIdeal := hKernelIdeal) (hPre_neighbours_in_range := hPre_neighbours_in_range)
    ∧ quiescent_ReferenceIdeal (hReferenceIdeal := hReferenceIdeal)
    ∧ quiescent_ReferenceIdeal_pre_neighbours_in_range (hReferenceIdeal := hReferenceIdeal) (hPre_neighbours_in_range := hPre_neighbours_in_range)
    ∧ quiescent_Scales (hScales := hScales)
    ∧ quiescent_ScalesIdeal (hScalesIdeal := hScalesIdeal)
    ∧ quiescent_ScalesIdeal_pre_scale_neighbours_in_range (hScalesIdeal := hScalesIdeal) (hPre_scale_neighbours_in_range := hPre_scale_neighbours_in_range)
    ∧ quiescent_ReferenceScalesIdeal (hReferenceScalesIdeal := hReferenceScalesIdeal)
    ∧ quiescent_ReferenceScalesIdeal_pre_scale_neighbours_in_range (hReferenceScalesIdeal := hReferenceScalesIdeal) (hPre_scale_neighbours_in_range := hPre_scale_neighbours_in_range)
    ∧ preserves_Kernel_KernelIdeal
    ∧ algebraic_KernelIdeal_ReferenceIdeal_pre_neighbours_in_range (hKernelIdeal := hKernelIdeal) (hReferenceIdeal := hReferenceIdeal) (hPre_neighbours_in_range := hPre_neighbours_in_range)
    ∧ preserves_Scales_ScalesIdeal
    ∧ algebraic_ScalesIdeal_ReferenceScalesIdeal_pre_scale_neighbours_in_range (hScalesIdeal := hScalesIdeal) (hReferenceScalesIdeal := hReferenceScalesIdeal) (hPre_scale_neighbours_in_range := hPre_scale_neighbours_in_range)
-- ==== Pre_neighbours_in_range.lean ====
abbrev S2x128x768 : Shape := ⟨3, ![2, 128, 768]⟩
abbrev S2x128 : Shape := ⟨2, ![2, 128]⟩
abbrev S2x128x3 : Shape := ⟨3, ![2, 128, 3]⟩
abbrev S2x128x96 : Shape := ⟨3, ![2, 128, 96]⟩
abbrev S33x768x512 : Shape := ⟨3, ![33, 768, 512]⟩
abbrev S33x24x512 : Shape := ⟨3, ![33, 24, 512]⟩
abbrev S768x768 : Shape := ⟨2, ![768, 768]⟩
abbrev S768 : Shape := ⟨1, ![768]⟩
abbrev S_ : Shape := ⟨0, ![]⟩

class Facts : Prop where
  bcast_S_S2x128x96 : S_.BroadcastsInDim S2x128x96 (![] : Fin 0 → Fin S2x128x96.rank)

variable [Facts]

def fn {F : FTy → Type} [FloatOps F] (main_arg0 : IVec S2x128x768 8) (main_arg1 : FVec F S2x128 .f32) (main_arg2 : FVec F S2x128x3 .f32) (main_arg3 : IVec S2x128x96 32) (main_arg4 : IVec S2x128 32) (main_arg5 : FVec F S33x768x512 .fp8e4m3) (main_arg6 : FVec F S33x24x512 .f32) (main_arg7 : FVec F S768x768 .fp8e4m3) (main_arg8 : FVec F S768 .f32) (main_arg9 : FVec F S768 .f32) : IVec S2x128x96 1 :=
  let main_c : IVec S_ 32 := constantI S_ 32 0#32
  let main_v0 : IVec S2x128x96 32 := broadcastInDim S2x128x96 ![] bcast_S_S2x128x96 main_c
  let main_v1 : IVec S2x128x96 1 := cmpi .sge main_arg3 main_v0
  let main_c_0 : IVec S_ 32 := constantI S_ 32 128#32
  let main_v2 : IVec S2x128x96 32 := broadcastInDim S2x128x96 ![] bcast_S_S2x128x96 main_c_0
  let main_v3 : IVec S2x128x96 1 := cmpi .slt main_arg3 main_v2
  let main_v4 : IVec S2x128x96 1 := andi main_v1 main_v3
  main_v4
-- ==== Pre_scale_neighbours_in_range.lean ====
abbrev S2x128x96 : Shape := ⟨3, ![2, 128, 96]⟩
abbrev S33x24x512 : Shape := ⟨3, ![33, 24, 512]⟩
abbrev S_ : Shape := ⟨0, ![]⟩

class Facts : Prop where
  bcast_S_S2x128x96 : S_.BroadcastsInDim S2x128x96 (![] : Fin 0 → Fin S2x128x96.rank)

variable [Facts]

def fn {F : FTy → Type} [FloatOps F] (main_arg0 : IVec S2x128x96 32) (main_arg1 : FVec F S33x24x512 .f32) : IVec S2x128x96 1 :=
  let main_c : IVec S_ 32 := constantI S_ 32 0#32
  let main_v0 : IVec S2x128x96 32 := broadcastInDim S2x128x96 ![] bcast_S_S2x128x96 main_c
  let main_v1 : IVec S2x128x96 1 := cmpi .sge main_arg0 main_v0
  let main_c_0 : IVec S_ 32 := constantI S_ 32 128#32
  let main_v2 : IVec S2x128x96 32 := broadcastInDim S2x128x96 ![] bcast_S_S2x128x96 main_c_0
  let main_v3 : IVec S2x128x96 1 := cmpi .slt main_arg0 main_v2
  let main_v4 : IVec S2x128x96 1 := andi main_v1 main_v3
  main_v4
-- ==== Kernel.lean ====
abbrev S2x128x768 : Shape := ⟨3, ![2, 128, 768]⟩
abbrev S2x128 : Shape := ⟨2, ![2, 128]⟩
abbrev S2x128x3 : Shape := ⟨3, ![2, 128, 3]⟩
abbrev S2x128x96 : Shape := ⟨3, ![2, 128, 96]⟩
abbrev S33x768x512 : Shape := ⟨3, ![33, 768, 512]⟩
abbrev S33x24x512 : Shape := ⟨3, ![33, 24, 512]⟩
abbrev S768x768 : Shape := ⟨2, ![768, 768]⟩
abbrev S768 : Shape := ⟨1, ![768]⟩
abbrev S2x3x128 : Shape := ⟨3, ![2, 3, 128]⟩
abbrev S2x96x128 : Shape := ⟨3, ![2, 96, 128]⟩
abbrev S1x768 : Shape := ⟨2, ![1, 768]⟩
abbrev S768x128 : Shape := ⟨2, ![768, 128]⟩
abbrev S2x768x128 : Shape := ⟨3, ![2, 768, 128]⟩
abbrev S4x40x128 : Shape := ⟨3, ![4, 40, 128]⟩
abbrev S2x128x128 : Shape := ⟨3, ![2, 128, 128]⟩
abbrev S2x2x64x128 : Shape := ⟨4, ![2, 2, 64, 128]⟩
abbrev S768x512 : Shape := ⟨2, ![768, 512]⟩
abbrev S128x128 : Shape := ⟨2, ![128, 128]⟩
abbrev S2x6x128x128 : Shape := ⟨4, ![2, 6, 128, 128]⟩
abbrev S8x128 : Shape := ⟨2, ![8, 128]⟩
abbrev S1x128 : Shape := ⟨2, ![1, 128]⟩
abbrev S256x128 : Shape := ⟨2, ![256, 128]⟩
abbrev S256x768 : Shape := ⟨2, ![256, 768]⟩
abbrev S2x1x128 : Shape := ⟨3, ![2, 1, 128]⟩
abbrev S2x8x128 : Shape := ⟨3, ![2, 8, 128]⟩
abbrev S1x8x128 : Shape := ⟨3, ![1, 8, 128]⟩
abbrev S8x128x1 : Shape := ⟨3, ![8, 128, 1]⟩
abbrev S1x768x128 : Shape := ⟨3, ![1, 768, 128]⟩
abbrev S1x1x128 : Shape := ⟨3, ![1, 1, 128]⟩
abbrev S40x128 : Shape := ⟨2, ![40, 128]⟩
abbrev S1x40x128 : Shape := ⟨3, ![1, 40, 128]⟩
abbrev S96x128 : Shape := ⟨2, ![96, 128]⟩
abbrev S1x96x128 : Shape := ⟨3, ![1, 96, 128]⟩
abbrev S96x128x1 : Shape := ⟨3, ![96, 128, 1]⟩
abbrev S1x128x128 : Shape := ⟨3, ![1, 128, 128]⟩
abbrev S1x64x128 : Shape := ⟨3, ![1, 64, 128]⟩
abbrev S64x128 : Shape := ⟨2, ![64, 128]⟩
abbrev S1x1x64x128 : Shape := ⟨4, ![1, 1, 64, 128]⟩
abbrev S1x32x128 : Shape := ⟨3, ![1, 32, 128]⟩
abbrev S32x128 : Shape := ⟨2, ![32, 128]⟩
abbrev S1x1x1x128 : Shape := ⟨4, ![1, 1, 1, 128]⟩
abbrev S256x512 : Shape := ⟨2, ![256, 512]⟩
abbrev S1x1x128x128 : Shape := ⟨4, ![1, 1, 128, 128]⟩

abbrev nBuf : Space → Nat
  | .hbm => 15
  | .vmem => 22
  | .smem => 0
  | _ => 0

abbrev bufTy : (tb : Table) → Fin (tcTables nBuf tb) → BufTy
  | .hbm, ⟨0, _⟩ => ⟨S2x128x768, .i8⟩
  | .hbm, ⟨1, _⟩ => ⟨S2x128, .f32⟩
  | .hbm, ⟨2, _⟩ => ⟨S2x128x3, .f32⟩
  | .hbm, ⟨3, _⟩ => ⟨S2x128x96, .i32⟩
  | .hbm, ⟨4, _⟩ => ⟨S2x128, .i32⟩
  | .hbm, ⟨5, _⟩ => ⟨S33x768x512, .fp8e4m3⟩
  | .hbm, ⟨6, _⟩ => ⟨S33x24x512, .f32⟩
  | .hbm, ⟨7, _⟩ => ⟨S768x768, .fp8e4m3⟩
  | .hbm, ⟨8, _⟩ => ⟨S768, .f32⟩
  | .hbm, ⟨9, _⟩ => ⟨S768, .f32⟩
  | .hbm, ⟨10, _⟩ => ⟨S2x3x128, .f32⟩
  | .hbm, ⟨11, _⟩ => ⟨S2x96x128, .i32⟩
  | .hbm, ⟨12, _⟩ => ⟨S1x768, .f32⟩
  | .hbm, ⟨13, _⟩ => ⟨S1x768, .f32⟩
  | .hbm, ⟨14, _⟩ => ⟨S2x128x768, .bf16⟩
  | .local _ .vmem, ⟨0, _⟩ => ⟨S2x128x768, .i8⟩
  | .local _ .vmem, ⟨1, _⟩ => ⟨S2x128, .f32⟩
  | .local _ .vmem, ⟨2, _⟩ => ⟨S2x3x128, .f32⟩
  | .local _ .vmem, ⟨3, _⟩ => ⟨S2x96x128, .i32⟩
  | .local _ .vmem, ⟨4, _⟩ => ⟨S2x128, .i32⟩
  | .local _ .vmem, ⟨5, _⟩ => ⟨S33x768x512, .fp8e4m3⟩
  | .local _ .vmem, ⟨6, _⟩ => ⟨S33x24x512, .f32⟩
  | .local _ .vmem, ⟨7, _⟩ => ⟨S768x768, .fp8e4m3⟩
  | .local _ .vmem, ⟨8, _⟩ => ⟨S1x768, .f32⟩
  | .local _ .vmem, ⟨9, _⟩ => ⟨S1x768, .f32⟩
  | .local _ .vmem, ⟨10, _⟩ => ⟨S2x128x768, .bf16⟩
  | .local _ .vmem, ⟨11, _⟩ => ⟨S768x768, .bf16⟩
  | .local _ .vmem, ⟨12, _⟩ => ⟨S768x128, .f32⟩
  | .local _ .vmem, ⟨13, _⟩ => ⟨S768x128, .f32⟩
  | .local _ .vmem, ⟨14, _⟩ => ⟨S2x768x128, .f32⟩
  | .local _ .vmem, ⟨15, _⟩ => ⟨S2x768x128, .f32⟩
  | .local _ .vmem, ⟨16, _⟩ => ⟨S4x40x128, .f32⟩
  | .local _ .vmem, ⟨17, _⟩ => ⟨S2x128x128, .f32⟩
  | .local _ .vmem, ⟨18, _⟩ => ⟨S2x2x64x128, .f32⟩
  | .local _ .vmem, ⟨19, _⟩ => ⟨S768x512, .bf16⟩
  | .local _ .vmem, ⟨20, _⟩ => ⟨S128x128, .f32⟩
  | .local _ .vmem, ⟨21, _⟩ => ⟨S2x6x128x128, .f32⟩
  | _, _ => ⟨S2x128x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_881 : BitVec 32 := 0#32
  let c33_i32 : BitVec 32 := 33#32
  let v2539 : BitVec 32 := Scalar.addi c0_i32_881 c33_i32
  let c1_i32_882 : BitVec 32 := 1#32
  ⟨c0_i32_881, v2539, c1_i32_882⟩
def k0_off1 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2785 : Index := Scalar.indexCast arg22
  let c0_1175 : Index := 0#32
  let c0_1176 : Index := 0#32
  ![v2785.toNat, 0, 0]
def k0_off2 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2788 : Index := Scalar.indexCast arg22
  let c0_1177 : Index := 0#32
  let c0_1178 : Index := 0#32
  ![v2788.toNat, 0, 0]
def k0_off3 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2799 : Index := Scalar.indexCast arg22
  let c0_1181 : Index := 0#32
  let c128_1182 : Index := 128#32
  ![v2799.toNat, 0, 128]
def k0_off4 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2802 : Index := Scalar.indexCast arg22
  let c0_1183 : Index := 0#32
  let c128_1184 : Index := 128#32
  ![v2802.toNat, 0, 128]
def k0_off5 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2813 : Index := Scalar.indexCast arg22
  let c0_1187 : Index := 0#32
  let c256_1188 : Index := 256#32
  ![v2813.toNat, 0, 256]
def k0_off6 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2816 : Index := Scalar.indexCast arg22
  let c0_1189 : Index := 0#32
  let c256_1190 : Index := 256#32
  ![v2816.toNat, 0, 256]
def k0_off7 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2827 : Index := Scalar.indexCast arg22
  let c0_1193 : Index := 0#32
  let c384_1194 : Index := 384#32
  ![v2827.toNat, 0, 384]
def k0_off8 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2830 : Index := Scalar.indexCast arg22
  let c0_1195 : Index := 0#32
  let c384_1196 : Index := 384#32
  ![v2830.toNat, 0, 384]
def k0_off9 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2841 : Index := Scalar.indexCast arg22
  let c32 : Index := 32#32
  let c0_1199 : Index := 0#32
  ![v2841.toNat, 32, 0]
def k0_off10 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2844 : Index := Scalar.indexCast arg22
  let c1_1200 : Index := 1#32
  let c0_1201 : Index := 0#32
  ![v2844.toNat, 1, 0]
def k0_off11 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2855 : Index := Scalar.indexCast arg22
  let c32_1204 : Index := 32#32
  let c128_1205 : Index := 128#32
  ![v2855.toNat, 32, 128]
def k0_off12 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2858 : Index := Scalar.indexCast arg22
  let c1_1206 : Index := 1#32
  let c128_1207 : Index := 128#32
  ![v2858.toNat, 1, 128]
def k0_off13 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2869 : Index := Scalar.indexCast arg22
  let c32_1210 : Index := 32#32
  let c256_1211 : Index := 256#32
  ![v2869.toNat, 32, 256]
def k0_off14 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2872 : Index := Scalar.indexCast arg22
  let c1_1212 : Index := 1#32
  let c256_1213 : Index := 256#32
  ![v2872.toNat, 1, 256]
def k0_off15 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2883 : Index := Scalar.indexCast arg22
  let c32_1216 : Index := 32#32
  let c384_1217 : Index := 384#32
  ![v2883.toNat, 32, 384]
def k0_off16 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2886 : Index := Scalar.indexCast arg22
  let c1_1218 : Index := 1#32
  let c384_1219 : Index := 384#32
  ![v2886.toNat, 1, 384]
def k0_off17 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2897 : Index := Scalar.indexCast arg22
  let c64_1222 : Index := 64#32
  let c0_1223 : Index := 0#32
  ![v2897.toNat, 64, 0]
def k0_off18 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2900 : Index := Scalar.indexCast arg22
  let c2_1224 : Index := 2#32
  let c0_1225 : Index := 0#32
  ![v2900.toNat, 2, 0]
def k0_off19 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2911 : Index := Scalar.indexCast arg22
  let c64_1228 : Index := 64#32
  let c128_1229 : Index := 128#32
  ![v2911.toNat, 64, 128]
def k0_off20 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2914 : Index := Scalar.indexCast arg22
  let c2_1230 : Index := 2#32
  let c128_1231 : Index := 128#32
  ![v2914.toNat, 2, 128]
def k0_off21 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2925 : Index := Scalar.indexCast arg22
  let c64_1234 : Index := 64#32
  let c256_1235 : Index := 256#32
  ![v2925.toNat, 64, 256]
def k0_off22 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2928 : Index := Scalar.indexCast arg22
  let c2_1236 : Index := 2#32
  let c256_1237 : Index := 256#32
  ![v2928.toNat, 2, 256]
def k0_off23 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2939 : Index := Scalar.indexCast arg22
  let c64_1240 : Index := 64#32
  let c384_1241 : Index := 384#32
  ![v2939.toNat, 64, 384]
def k0_off24 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2942 : Index := Scalar.indexCast arg22
  let c2_1242 : Index := 2#32
  let c384_1243 : Index := 384#32
  ![v2942.toNat, 2, 384]
def k0_off25 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2953 : Index := Scalar.indexCast arg22
  let c96 : Index := 96#32
  let c0_1246 : Index := 0#32
  ![v2953.toNat, 96, 0]
def k0_off26 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2956 : Index := Scalar.indexCast arg22
  let c3_1247 : Index := 3#32
  let c0_1248 : Index := 0#32
  ![v2956.toNat, 3, 0]
def k0_off27 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2967 : Index := Scalar.indexCast arg22
  let c96_1251 : Index := 96#32
  let c128_1252 : Index := 128#32
  ![v2967.toNat, 96, 128]
def k0_off28 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2970 : Index := Scalar.indexCast arg22
  let c3_1253 : Index := 3#32
  let c128_1254 : Index := 128#32
  ![v2970.toNat, 3, 128]
def k0_off29 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2981 : Index := Scalar.indexCast arg22
  let c96_1257 : Index := 96#32
  let c256_1258 : Index := 256#32
  ![v2981.toNat, 96, 256]
def k0_off30 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2984 : Index := Scalar.indexCast arg22
  let c3_1259 : Index := 3#32
  let c256_1260 : Index := 256#32
  ![v2984.toNat, 3, 256]
def k0_off31 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2995 : Index := Scalar.indexCast arg22
  let c96_1263 : Index := 96#32
  let c384_1264 : Index := 384#32
  ![v2995.toNat, 96, 384]
def k0_off32 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v2998 : Index := Scalar.indexCast arg22
  let c3_1265 : Index := 3#32
  let c384_1266 : Index := 384#32
  ![v2998.toNat, 3, 384]
def k0_off33 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3009 : Index := Scalar.indexCast arg22
  let c128_1269 : Index := 128#32
  let c0_1270 : Index := 0#32
  ![v3009.toNat, 128, 0]
def k0_off34 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3012 : Index := Scalar.indexCast arg22
  let c4_1271 : Index := 4#32
  let c0_1272 : Index := 0#32
  ![v3012.toNat, 4, 0]
def k0_off35 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3023 : Index := Scalar.indexCast arg22
  let c128_1275 : Index := 128#32
  let c128_1276 : Index := 128#32
  ![v3023.toNat, 128, 128]
def k0_off36 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3026 : Index := Scalar.indexCast arg22
  let c4_1277 : Index := 4#32
  let c128_1278 : Index := 128#32
  ![v3026.toNat, 4, 128]
def k0_off37 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3037 : Index := Scalar.indexCast arg22
  let c128_1281 : Index := 128#32
  let c256_1282 : Index := 256#32
  ![v3037.toNat, 128, 256]
def k0_off38 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3040 : Index := Scalar.indexCast arg22
  let c4_1283 : Index := 4#32
  let c256_1284 : Index := 256#32
  ![v3040.toNat, 4, 256]
def k0_off39 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3051 : Index := Scalar.indexCast arg22
  let c128_1287 : Index := 128#32
  let c384_1288 : Index := 384#32
  ![v3051.toNat, 128, 384]
def k0_off40 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3054 : Index := Scalar.indexCast arg22
  let c4_1289 : Index := 4#32
  let c384_1290 : Index := 384#32
  ![v3054.toNat, 4, 384]
def k0_off41 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3065 : Index := Scalar.indexCast arg22
  let c160 : Index := 160#32
  let c0_1293 : Index := 0#32
  ![v3065.toNat, 160, 0]
def k0_off42 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3068 : Index := Scalar.indexCast arg22
  let c5_1294 : Index := 5#32
  let c0_1295 : Index := 0#32
  ![v3068.toNat, 5, 0]
def k0_off43 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3079 : Index := Scalar.indexCast arg22
  let c160_1298 : Index := 160#32
  let c128_1299 : Index := 128#32
  ![v3079.toNat, 160, 128]
def k0_off44 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3082 : Index := Scalar.indexCast arg22
  let c5_1300 : Index := 5#32
  let c128_1301 : Index := 128#32
  ![v3082.toNat, 5, 128]
def k0_off45 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3093 : Index := Scalar.indexCast arg22
  let c160_1304 : Index := 160#32
  let c256_1305 : Index := 256#32
  ![v3093.toNat, 160, 256]
def k0_off46 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3096 : Index := Scalar.indexCast arg22
  let c5_1306 : Index := 5#32
  let c256_1307 : Index := 256#32
  ![v3096.toNat, 5, 256]
def k0_off47 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3107 : Index := Scalar.indexCast arg22
  let c160_1310 : Index := 160#32
  let c384_1311 : Index := 384#32
  ![v3107.toNat, 160, 384]
def k0_off48 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3110 : Index := Scalar.indexCast arg22
  let c5_1312 : Index := 5#32
  let c384_1313 : Index := 384#32
  ![v3110.toNat, 5, 384]
def k0_off49 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3121 : Index := Scalar.indexCast arg22
  let c192 : Index := 192#32
  let c0_1316 : Index := 0#32
  ![v3121.toNat, 192, 0]
def k0_off50 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3124 : Index := Scalar.indexCast arg22
  let c6 : Index := 6#32
  let c0_1317 : Index := 0#32
  ![v3124.toNat, 6, 0]
def k0_off51 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3135 : Index := Scalar.indexCast arg22
  let c192_1320 : Index := 192#32
  let c128_1321 : Index := 128#32
  ![v3135.toNat, 192, 128]
def k0_off52 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3138 : Index := Scalar.indexCast arg22
  let c6_1322 : Index := 6#32
  let c128_1323 : Index := 128#32
  ![v3138.toNat, 6, 128]
def k0_off53 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3149 : Index := Scalar.indexCast arg22
  let c192_1326 : Index := 192#32
  let c256_1327 : Index := 256#32
  ![v3149.toNat, 192, 256]
def k0_off54 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3152 : Index := Scalar.indexCast arg22
  let c6_1328 : Index := 6#32
  let c256_1329 : Index := 256#32
  ![v3152.toNat, 6, 256]
def k0_off55 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3163 : Index := Scalar.indexCast arg22
  let c192_1332 : Index := 192#32
  let c384_1333 : Index := 384#32
  ![v3163.toNat, 192, 384]
def k0_off56 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3166 : Index := Scalar.indexCast arg22
  let c6_1334 : Index := 6#32
  let c384_1335 : Index := 384#32
  ![v3166.toNat, 6, 384]
def k0_off57 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3177 : Index := Scalar.indexCast arg22
  let c224 : Index := 224#32
  let c0_1338 : Index := 0#32
  ![v3177.toNat, 224, 0]
def k0_off58 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3180 : Index := Scalar.indexCast arg22
  let c7 : Index := 7#32
  let c0_1339 : Index := 0#32
  ![v3180.toNat, 7, 0]
def k0_off59 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3191 : Index := Scalar.indexCast arg22
  let c224_1342 : Index := 224#32
  let c128_1343 : Index := 128#32
  ![v3191.toNat, 224, 128]
def k0_off60 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3194 : Index := Scalar.indexCast arg22
  let c7_1344 : Index := 7#32
  let c128_1345 : Index := 128#32
  ![v3194.toNat, 7, 128]
def k0_off61 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3205 : Index := Scalar.indexCast arg22
  let c224_1348 : Index := 224#32
  let c256_1349 : Index := 256#32
  ![v3205.toNat, 224, 256]
def k0_off62 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3208 : Index := Scalar.indexCast arg22
  let c7_1350 : Index := 7#32
  let c256_1351 : Index := 256#32
  ![v3208.toNat, 7, 256]
def k0_off63 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3219 : Index := Scalar.indexCast arg22
  let c224_1354 : Index := 224#32
  let c384_1355 : Index := 384#32
  ![v3219.toNat, 224, 384]
def k0_off64 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3222 : Index := Scalar.indexCast arg22
  let c7_1356 : Index := 7#32
  let c384_1357 : Index := 384#32
  ![v3222.toNat, 7, 384]
def k0_off65 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3233 : Index := Scalar.indexCast arg22
  let c256_1360 : Index := 256#32
  let c0_1361 : Index := 0#32
  ![v3233.toNat, 256, 0]
def k0_off66 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3236 : Index := Scalar.indexCast arg22
  let c8 : Index := 8#32
  let c0_1362 : Index := 0#32
  ![v3236.toNat, 8, 0]
def k0_off67 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3247 : Index := Scalar.indexCast arg22
  let c256_1365 : Index := 256#32
  let c128_1366 : Index := 128#32
  ![v3247.toNat, 256, 128]
def k0_off68 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3250 : Index := Scalar.indexCast arg22
  let c8_1367 : Index := 8#32
  let c128_1368 : Index := 128#32
  ![v3250.toNat, 8, 128]
def k0_off69 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3261 : Index := Scalar.indexCast arg22
  let c256_1371 : Index := 256#32
  let c256_1372 : Index := 256#32
  ![v3261.toNat, 256, 256]
def k0_off70 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3264 : Index := Scalar.indexCast arg22
  let c8_1373 : Index := 8#32
  let c256_1374 : Index := 256#32
  ![v3264.toNat, 8, 256]
def k0_off71 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3275 : Index := Scalar.indexCast arg22
  let c256_1377 : Index := 256#32
  let c384_1378 : Index := 384#32
  ![v3275.toNat, 256, 384]
def k0_off72 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3278 : Index := Scalar.indexCast arg22
  let c8_1379 : Index := 8#32
  let c384_1380 : Index := 384#32
  ![v3278.toNat, 8, 384]
def k0_off73 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3289 : Index := Scalar.indexCast arg22
  let c288 : Index := 288#32
  let c0_1383 : Index := 0#32
  ![v3289.toNat, 288, 0]
def k0_off74 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3292 : Index := Scalar.indexCast arg22
  let c9 : Index := 9#32
  let c0_1384 : Index := 0#32
  ![v3292.toNat, 9, 0]
def k0_off75 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3303 : Index := Scalar.indexCast arg22
  let c288_1387 : Index := 288#32
  let c128_1388 : Index := 128#32
  ![v3303.toNat, 288, 128]
def k0_off76 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3306 : Index := Scalar.indexCast arg22
  let c9_1389 : Index := 9#32
  let c128_1390 : Index := 128#32
  ![v3306.toNat, 9, 128]
def k0_off77 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3317 : Index := Scalar.indexCast arg22
  let c288_1393 : Index := 288#32
  let c256_1394 : Index := 256#32
  ![v3317.toNat, 288, 256]
def k0_off78 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3320 : Index := Scalar.indexCast arg22
  let c9_1395 : Index := 9#32
  let c256_1396 : Index := 256#32
  ![v3320.toNat, 9, 256]
def k0_off79 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3331 : Index := Scalar.indexCast arg22
  let c288_1399 : Index := 288#32
  let c384_1400 : Index := 384#32
  ![v3331.toNat, 288, 384]
def k0_off80 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3334 : Index := Scalar.indexCast arg22
  let c9_1401 : Index := 9#32
  let c384_1402 : Index := 384#32
  ![v3334.toNat, 9, 384]
def k0_off81 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3345 : Index := Scalar.indexCast arg22
  let c320 : Index := 320#32
  let c0_1405 : Index := 0#32
  ![v3345.toNat, 320, 0]
def k0_off82 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3348 : Index := Scalar.indexCast arg22
  let c10 : Index := 10#32
  let c0_1406 : Index := 0#32
  ![v3348.toNat, 10, 0]
def k0_off83 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3359 : Index := Scalar.indexCast arg22
  let c320_1409 : Index := 320#32
  let c128_1410 : Index := 128#32
  ![v3359.toNat, 320, 128]
def k0_off84 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3362 : Index := Scalar.indexCast arg22
  let c10_1411 : Index := 10#32
  let c128_1412 : Index := 128#32
  ![v3362.toNat, 10, 128]
def k0_off85 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3373 : Index := Scalar.indexCast arg22
  let c320_1415 : Index := 320#32
  let c256_1416 : Index := 256#32
  ![v3373.toNat, 320, 256]
def k0_off86 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3376 : Index := Scalar.indexCast arg22
  let c10_1417 : Index := 10#32
  let c256_1418 : Index := 256#32
  ![v3376.toNat, 10, 256]
def k0_off87 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3387 : Index := Scalar.indexCast arg22
  let c320_1421 : Index := 320#32
  let c384_1422 : Index := 384#32
  ![v3387.toNat, 320, 384]
def k0_off88 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3390 : Index := Scalar.indexCast arg22
  let c10_1423 : Index := 10#32
  let c384_1424 : Index := 384#32
  ![v3390.toNat, 10, 384]
def k0_off89 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3401 : Index := Scalar.indexCast arg22
  let c352 : Index := 352#32
  let c0_1427 : Index := 0#32
  ![v3401.toNat, 352, 0]
def k0_off90 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3404 : Index := Scalar.indexCast arg22
  let c11 : Index := 11#32
  let c0_1428 : Index := 0#32
  ![v3404.toNat, 11, 0]
def k0_off91 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3415 : Index := Scalar.indexCast arg22
  let c352_1431 : Index := 352#32
  let c128_1432 : Index := 128#32
  ![v3415.toNat, 352, 128]
def k0_off92 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3418 : Index := Scalar.indexCast arg22
  let c11_1433 : Index := 11#32
  let c128_1434 : Index := 128#32
  ![v3418.toNat, 11, 128]
def k0_off93 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3429 : Index := Scalar.indexCast arg22
  let c352_1437 : Index := 352#32
  let c256_1438 : Index := 256#32
  ![v3429.toNat, 352, 256]
def k0_off94 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3432 : Index := Scalar.indexCast arg22
  let c11_1439 : Index := 11#32
  let c256_1440 : Index := 256#32
  ![v3432.toNat, 11, 256]
def k0_off95 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3443 : Index := Scalar.indexCast arg22
  let c352_1443 : Index := 352#32
  let c384_1444 : Index := 384#32
  ![v3443.toNat, 352, 384]
def k0_off96 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3446 : Index := Scalar.indexCast arg22
  let c11_1445 : Index := 11#32
  let c384_1446 : Index := 384#32
  ![v3446.toNat, 11, 384]
def k0_off97 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3457 : Index := Scalar.indexCast arg22
  let c384_1449 : Index := 384#32
  let c0_1450 : Index := 0#32
  ![v3457.toNat, 384, 0]
def k0_off98 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3460 : Index := Scalar.indexCast arg22
  let c12 : Index := 12#32
  let c0_1451 : Index := 0#32
  ![v3460.toNat, 12, 0]
def k0_off99 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3471 : Index := Scalar.indexCast arg22
  let c384_1454 : Index := 384#32
  let c128_1455 : Index := 128#32
  ![v3471.toNat, 384, 128]
def k0_off100 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3474 : Index := Scalar.indexCast arg22
  let c12_1456 : Index := 12#32
  let c128_1457 : Index := 128#32
  ![v3474.toNat, 12, 128]
def k0_off101 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3485 : Index := Scalar.indexCast arg22
  let c384_1460 : Index := 384#32
  let c256_1461 : Index := 256#32
  ![v3485.toNat, 384, 256]
def k0_off102 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3488 : Index := Scalar.indexCast arg22
  let c12_1462 : Index := 12#32
  let c256_1463 : Index := 256#32
  ![v3488.toNat, 12, 256]
def k0_off103 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3499 : Index := Scalar.indexCast arg22
  let c384_1466 : Index := 384#32
  let c384_1467 : Index := 384#32
  ![v3499.toNat, 384, 384]
def k0_off104 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3502 : Index := Scalar.indexCast arg22
  let c12_1468 : Index := 12#32
  let c384_1469 : Index := 384#32
  ![v3502.toNat, 12, 384]
def k0_off105 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3513 : Index := Scalar.indexCast arg22
  let c416 : Index := 416#32
  let c0_1472 : Index := 0#32
  ![v3513.toNat, 416, 0]
def k0_off106 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3516 : Index := Scalar.indexCast arg22
  let c13 : Index := 13#32
  let c0_1473 : Index := 0#32
  ![v3516.toNat, 13, 0]
def k0_off107 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3527 : Index := Scalar.indexCast arg22
  let c416_1476 : Index := 416#32
  let c128_1477 : Index := 128#32
  ![v3527.toNat, 416, 128]
def k0_off108 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3530 : Index := Scalar.indexCast arg22
  let c13_1478 : Index := 13#32
  let c128_1479 : Index := 128#32
  ![v3530.toNat, 13, 128]
def k0_off109 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3541 : Index := Scalar.indexCast arg22
  let c416_1482 : Index := 416#32
  let c256_1483 : Index := 256#32
  ![v3541.toNat, 416, 256]
def k0_off110 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3544 : Index := Scalar.indexCast arg22
  let c13_1484 : Index := 13#32
  let c256_1485 : Index := 256#32
  ![v3544.toNat, 13, 256]
def k0_off111 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3555 : Index := Scalar.indexCast arg22
  let c416_1488 : Index := 416#32
  let c384_1489 : Index := 384#32
  ![v3555.toNat, 416, 384]
def k0_off112 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3558 : Index := Scalar.indexCast arg22
  let c13_1490 : Index := 13#32
  let c384_1491 : Index := 384#32
  ![v3558.toNat, 13, 384]
def k0_off113 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3569 : Index := Scalar.indexCast arg22
  let c448 : Index := 448#32
  let c0_1494 : Index := 0#32
  ![v3569.toNat, 448, 0]
def k0_off114 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3572 : Index := Scalar.indexCast arg22
  let c14 : Index := 14#32
  let c0_1495 : Index := 0#32
  ![v3572.toNat, 14, 0]
def k0_off115 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3583 : Index := Scalar.indexCast arg22
  let c448_1498 : Index := 448#32
  let c128_1499 : Index := 128#32
  ![v3583.toNat, 448, 128]
def k0_off116 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3586 : Index := Scalar.indexCast arg22
  let c14_1500 : Index := 14#32
  let c128_1501 : Index := 128#32
  ![v3586.toNat, 14, 128]
def k0_off117 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3597 : Index := Scalar.indexCast arg22
  let c448_1504 : Index := 448#32
  let c256_1505 : Index := 256#32
  ![v3597.toNat, 448, 256]
def k0_off118 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3600 : Index := Scalar.indexCast arg22
  let c14_1506 : Index := 14#32
  let c256_1507 : Index := 256#32
  ![v3600.toNat, 14, 256]
def k0_off119 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3611 : Index := Scalar.indexCast arg22
  let c448_1510 : Index := 448#32
  let c384_1511 : Index := 384#32
  ![v3611.toNat, 448, 384]
def k0_off120 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3614 : Index := Scalar.indexCast arg22
  let c14_1512 : Index := 14#32
  let c384_1513 : Index := 384#32
  ![v3614.toNat, 14, 384]
def k0_off121 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3625 : Index := Scalar.indexCast arg22
  let c480 : Index := 480#32
  let c0_1516 : Index := 0#32
  ![v3625.toNat, 480, 0]
def k0_off122 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3628 : Index := Scalar.indexCast arg22
  let c15 : Index := 15#32
  let c0_1517 : Index := 0#32
  ![v3628.toNat, 15, 0]
def k0_off123 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3639 : Index := Scalar.indexCast arg22
  let c480_1520 : Index := 480#32
  let c128_1521 : Index := 128#32
  ![v3639.toNat, 480, 128]
def k0_off124 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3642 : Index := Scalar.indexCast arg22
  let c15_1522 : Index := 15#32
  let c128_1523 : Index := 128#32
  ![v3642.toNat, 15, 128]
def k0_off125 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3653 : Index := Scalar.indexCast arg22
  let c480_1526 : Index := 480#32
  let c256_1527 : Index := 256#32
  ![v3653.toNat, 480, 256]
def k0_off126 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3656 : Index := Scalar.indexCast arg22
  let c15_1528 : Index := 15#32
  let c256_1529 : Index := 256#32
  ![v3656.toNat, 15, 256]
def k0_off127 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3667 : Index := Scalar.indexCast arg22
  let c480_1532 : Index := 480#32
  let c384_1533 : Index := 384#32
  ![v3667.toNat, 480, 384]
def k0_off128 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3670 : Index := Scalar.indexCast arg22
  let c15_1534 : Index := 15#32
  let c384_1535 : Index := 384#32
  ![v3670.toNat, 15, 384]
def k0_off129 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3681 : Index := Scalar.indexCast arg22
  let c512_1538 : Index := 512#32
  let c0_1539 : Index := 0#32
  ![v3681.toNat, 512, 0]
def k0_off130 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3684 : Index := Scalar.indexCast arg22
  let c16 : Index := 16#32
  let c0_1540 : Index := 0#32
  ![v3684.toNat, 16, 0]
def k0_off131 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3695 : Index := Scalar.indexCast arg22
  let c512_1543 : Index := 512#32
  let c128_1544 : Index := 128#32
  ![v3695.toNat, 512, 128]
def k0_off132 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3698 : Index := Scalar.indexCast arg22
  let c16_1545 : Index := 16#32
  let c128_1546 : Index := 128#32
  ![v3698.toNat, 16, 128]
def k0_off133 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3709 : Index := Scalar.indexCast arg22
  let c512_1549 : Index := 512#32
  let c256_1550 : Index := 256#32
  ![v3709.toNat, 512, 256]
def k0_off134 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3712 : Index := Scalar.indexCast arg22
  let c16_1551 : Index := 16#32
  let c256_1552 : Index := 256#32
  ![v3712.toNat, 16, 256]
def k0_off135 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3723 : Index := Scalar.indexCast arg22
  let c512_1555 : Index := 512#32
  let c384_1556 : Index := 384#32
  ![v3723.toNat, 512, 384]
def k0_off136 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3726 : Index := Scalar.indexCast arg22
  let c16_1557 : Index := 16#32
  let c384_1558 : Index := 384#32
  ![v3726.toNat, 16, 384]
def k0_off137 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3737 : Index := Scalar.indexCast arg22
  let c544 : Index := 544#32
  let c0_1561 : Index := 0#32
  ![v3737.toNat, 544, 0]
def k0_off138 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3740 : Index := Scalar.indexCast arg22
  let c17 : Index := 17#32
  let c0_1562 : Index := 0#32
  ![v3740.toNat, 17, 0]
def k0_off139 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3751 : Index := Scalar.indexCast arg22
  let c544_1565 : Index := 544#32
  let c128_1566 : Index := 128#32
  ![v3751.toNat, 544, 128]
def k0_off140 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3754 : Index := Scalar.indexCast arg22
  let c17_1567 : Index := 17#32
  let c128_1568 : Index := 128#32
  ![v3754.toNat, 17, 128]
def k0_off141 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3765 : Index := Scalar.indexCast arg22
  let c544_1571 : Index := 544#32
  let c256_1572 : Index := 256#32
  ![v3765.toNat, 544, 256]
def k0_off142 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3768 : Index := Scalar.indexCast arg22
  let c17_1573 : Index := 17#32
  let c256_1574 : Index := 256#32
  ![v3768.toNat, 17, 256]
def k0_off143 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3779 : Index := Scalar.indexCast arg22
  let c544_1577 : Index := 544#32
  let c384_1578 : Index := 384#32
  ![v3779.toNat, 544, 384]
def k0_off144 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3782 : Index := Scalar.indexCast arg22
  let c17_1579 : Index := 17#32
  let c384_1580 : Index := 384#32
  ![v3782.toNat, 17, 384]
def k0_off145 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3793 : Index := Scalar.indexCast arg22
  let c576 : Index := 576#32
  let c0_1583 : Index := 0#32
  ![v3793.toNat, 576, 0]
def k0_off146 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3796 : Index := Scalar.indexCast arg22
  let c18 : Index := 18#32
  let c0_1584 : Index := 0#32
  ![v3796.toNat, 18, 0]
def k0_off147 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3807 : Index := Scalar.indexCast arg22
  let c576_1587 : Index := 576#32
  let c128_1588 : Index := 128#32
  ![v3807.toNat, 576, 128]
def k0_off148 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3810 : Index := Scalar.indexCast arg22
  let c18_1589 : Index := 18#32
  let c128_1590 : Index := 128#32
  ![v3810.toNat, 18, 128]
def k0_off149 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3821 : Index := Scalar.indexCast arg22
  let c576_1593 : Index := 576#32
  let c256_1594 : Index := 256#32
  ![v3821.toNat, 576, 256]
def k0_off150 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3824 : Index := Scalar.indexCast arg22
  let c18_1595 : Index := 18#32
  let c256_1596 : Index := 256#32
  ![v3824.toNat, 18, 256]
def k0_off151 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3835 : Index := Scalar.indexCast arg22
  let c576_1599 : Index := 576#32
  let c384_1600 : Index := 384#32
  ![v3835.toNat, 576, 384]
def k0_off152 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3838 : Index := Scalar.indexCast arg22
  let c18_1601 : Index := 18#32
  let c384_1602 : Index := 384#32
  ![v3838.toNat, 18, 384]
def k0_off153 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3849 : Index := Scalar.indexCast arg22
  let c608 : Index := 608#32
  let c0_1605 : Index := 0#32
  ![v3849.toNat, 608, 0]
def k0_off154 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3852 : Index := Scalar.indexCast arg22
  let c19 : Index := 19#32
  let c0_1606 : Index := 0#32
  ![v3852.toNat, 19, 0]
def k0_off155 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3863 : Index := Scalar.indexCast arg22
  let c608_1609 : Index := 608#32
  let c128_1610 : Index := 128#32
  ![v3863.toNat, 608, 128]
def k0_off156 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3866 : Index := Scalar.indexCast arg22
  let c19_1611 : Index := 19#32
  let c128_1612 : Index := 128#32
  ![v3866.toNat, 19, 128]
def k0_off157 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3877 : Index := Scalar.indexCast arg22
  let c608_1615 : Index := 608#32
  let c256_1616 : Index := 256#32
  ![v3877.toNat, 608, 256]
def k0_off158 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3880 : Index := Scalar.indexCast arg22
  let c19_1617 : Index := 19#32
  let c256_1618 : Index := 256#32
  ![v3880.toNat, 19, 256]
def k0_off159 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3891 : Index := Scalar.indexCast arg22
  let c608_1621 : Index := 608#32
  let c384_1622 : Index := 384#32
  ![v3891.toNat, 608, 384]
def k0_off160 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3894 : Index := Scalar.indexCast arg22
  let c19_1623 : Index := 19#32
  let c384_1624 : Index := 384#32
  ![v3894.toNat, 19, 384]
def k0_off161 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3905 : Index := Scalar.indexCast arg22
  let c640_1627 : Index := 640#32
  let c0_1628 : Index := 0#32
  ![v3905.toNat, 640, 0]
def k0_off162 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3908 : Index := Scalar.indexCast arg22
  let c20 : Index := 20#32
  let c0_1629 : Index := 0#32
  ![v3908.toNat, 20, 0]
def k0_off163 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3919 : Index := Scalar.indexCast arg22
  let c640_1632 : Index := 640#32
  let c128_1633 : Index := 128#32
  ![v3919.toNat, 640, 128]
def k0_off164 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3922 : Index := Scalar.indexCast arg22
  let c20_1634 : Index := 20#32
  let c128_1635 : Index := 128#32
  ![v3922.toNat, 20, 128]
def k0_off165 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3933 : Index := Scalar.indexCast arg22
  let c640_1638 : Index := 640#32
  let c256_1639 : Index := 256#32
  ![v3933.toNat, 640, 256]
def k0_off166 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3936 : Index := Scalar.indexCast arg22
  let c20_1640 : Index := 20#32
  let c256_1641 : Index := 256#32
  ![v3936.toNat, 20, 256]
def k0_off167 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3947 : Index := Scalar.indexCast arg22
  let c640_1644 : Index := 640#32
  let c384_1645 : Index := 384#32
  ![v3947.toNat, 640, 384]
def k0_off168 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3950 : Index := Scalar.indexCast arg22
  let c20_1646 : Index := 20#32
  let c384_1647 : Index := 384#32
  ![v3950.toNat, 20, 384]
def k0_off169 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3961 : Index := Scalar.indexCast arg22
  let c672 : Index := 672#32
  let c0_1650 : Index := 0#32
  ![v3961.toNat, 672, 0]
def k0_off170 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3964 : Index := Scalar.indexCast arg22
  let c21 : Index := 21#32
  let c0_1651 : Index := 0#32
  ![v3964.toNat, 21, 0]
def k0_off171 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3975 : Index := Scalar.indexCast arg22
  let c672_1654 : Index := 672#32
  let c128_1655 : Index := 128#32
  ![v3975.toNat, 672, 128]
def k0_off172 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3978 : Index := Scalar.indexCast arg22
  let c21_1656 : Index := 21#32
  let c128_1657 : Index := 128#32
  ![v3978.toNat, 21, 128]
def k0_off173 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3989 : Index := Scalar.indexCast arg22
  let c672_1660 : Index := 672#32
  let c256_1661 : Index := 256#32
  ![v3989.toNat, 672, 256]
def k0_off174 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v3992 : Index := Scalar.indexCast arg22
  let c21_1662 : Index := 21#32
  let c256_1663 : Index := 256#32
  ![v3992.toNat, 21, 256]
def k0_off175 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4003 : Index := Scalar.indexCast arg22
  let c672_1666 : Index := 672#32
  let c384_1667 : Index := 384#32
  ![v4003.toNat, 672, 384]
def k0_off176 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4006 : Index := Scalar.indexCast arg22
  let c21_1668 : Index := 21#32
  let c384_1669 : Index := 384#32
  ![v4006.toNat, 21, 384]
def k0_off177 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4017 : Index := Scalar.indexCast arg22
  let c704 : Index := 704#32
  let c0_1672 : Index := 0#32
  ![v4017.toNat, 704, 0]
def k0_off178 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4020 : Index := Scalar.indexCast arg22
  let c22 : Index := 22#32
  let c0_1673 : Index := 0#32
  ![v4020.toNat, 22, 0]
def k0_off179 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4031 : Index := Scalar.indexCast arg22
  let c704_1676 : Index := 704#32
  let c128_1677 : Index := 128#32
  ![v4031.toNat, 704, 128]
def k0_off180 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4034 : Index := Scalar.indexCast arg22
  let c22_1678 : Index := 22#32
  let c128_1679 : Index := 128#32
  ![v4034.toNat, 22, 128]
def k0_off181 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4045 : Index := Scalar.indexCast arg22
  let c704_1682 : Index := 704#32
  let c256_1683 : Index := 256#32
  ![v4045.toNat, 704, 256]
def k0_off182 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4048 : Index := Scalar.indexCast arg22
  let c22_1684 : Index := 22#32
  let c256_1685 : Index := 256#32
  ![v4048.toNat, 22, 256]
def k0_off183 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4059 : Index := Scalar.indexCast arg22
  let c704_1688 : Index := 704#32
  let c384_1689 : Index := 384#32
  ![v4059.toNat, 704, 384]
def k0_off184 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4062 : Index := Scalar.indexCast arg22
  let c22_1690 : Index := 22#32
  let c384_1691 : Index := 384#32
  ![v4062.toNat, 22, 384]
def k0_off185 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4073 : Index := Scalar.indexCast arg22
  let c736 : Index := 736#32
  let c0_1694 : Index := 0#32
  ![v4073.toNat, 736, 0]
def k0_off186 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4076 : Index := Scalar.indexCast arg22
  let c23 : Index := 23#32
  let c0_1695 : Index := 0#32
  ![v4076.toNat, 23, 0]
def k0_off187 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4087 : Index := Scalar.indexCast arg22
  let c736_1698 : Index := 736#32
  let c128_1699 : Index := 128#32
  ![v4087.toNat, 736, 128]
def k0_off188 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4090 : Index := Scalar.indexCast arg22
  let c23_1700 : Index := 23#32
  let c128_1701 : Index := 128#32
  ![v4090.toNat, 23, 128]
def k0_off189 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4101 : Index := Scalar.indexCast arg22
  let c736_1704 : Index := 736#32
  let c256_1705 : Index := 256#32
  ![v4101.toNat, 736, 256]
def k0_off190 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4104 : Index := Scalar.indexCast arg22
  let c23_1706 : Index := 23#32
  let c256_1707 : Index := 256#32
  ![v4104.toNat, 23, 256]
def k0_off191 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4115 : Index := Scalar.indexCast arg22
  let c736_1710 : Index := 736#32
  let c384_1711 : Index := 384#32
  ![v4115.toNat, 736, 384]
def k0_off192 (k0_t1 : Fin k0_t1_loop.trips) : Fin 3 → Nat :=
  let c0_i32_881 : BitVec 32 := 0#32
  let c1_i32_882 : BitVec 32 := 1#32
  let arg22 : BitVec 32 := Scf.iv c0_i32_881 c1_i32_882 k0_t1
  let v4118 : Index := Scalar.indexCast arg22
  let c23_1712 : Index := 23#32
  let c384_1713 : Index := 384#32
  ![v4118.toNat, 23, 384]
def k0_off193 (k0_t1 : Fin k0_t1_loop.trips) : Fin 3 → Nat :=
  let c0_1720 : Index := 0#32
  let c32_i32 : BitVec 32 := 32#32
  let c0_i32_881 : BitVec 32 := 0#32
  let c1_i32_882 : BitVec 32 := 1#32
  let arg22 : BitVec 32 := Scf.iv c0_i32_881 c1_i32_882 k0_t1
  let v2784 : BitVec 32 := Scalar.subi c32_i32 arg22
  let v4133 : Index := Scalar.indexCast v2784
  let c0_1721 : Index := 0#32
  ![0, v4133.toNat, 0]
def k0_off194 (k0_t1 : Fin k0_t1_loop.trips) (c0_i32_1722 : BitVec 32) : Fin 3 → Nat :=
  let c0_1723 : Index := 0#32
  let c0_i32_881 : BitVec 32 := 0#32
  let c1_i32_882 : BitVec 32 := 1#32
  let arg22 : BitVec 32 := Scf.iv c0_i32_881 c1_i32_882 k0_t1
  let v4136 : BitVec 32 := Scalar.addi c0_i32_1722 arg22
  let v4137 : Index := Scalar.indexCast v4136
  let c0_1724 : Index := 0#32
  ![0, v4137.toNat, 0]
def k0_off195 (k0_t1 : Fin k0_t1_loop.trips) : Fin 4 → Nat :=
  let c0_1727 : Index := 0#32
  let c0_1728 : Index := 0#32
  let c64_i32_1725 : BitVec 32 := 64#32
  let c0_i32_881 : BitVec 32 := 0#32
  let c1_i32_882 : BitVec 32 := 1#32
  let arg22 : BitVec 32 := Scf.iv c0_i32_881 c1_i32_882 k0_t1
  let v4143 : BitVec 32 := Scalar.subi c64_i32_1725 arg22
  let c63_i32_1726 : BitVec 32 := 63#32
  let v4144 : BitVec 32 := Scalar.andi v4143 c63_i32_1726
  let v4145 : Index := Scalar.indexCast v4144
  let c0_1729 : Index := 0#32
  ![0, 0, v4145.toNat, 0]
def k0_off196 (k0_t1 : Fin k0_t1_loop.trips) : Fin 3 → Nat :=
  let c1_1730 : Index := 1#32
  let c32_i32 : BitVec 32 := 32#32
  let c0_i32_881 : BitVec 32 := 0#32
  let c1_i32_882 : BitVec 32 := 1#32
  let arg22 : BitVec 32 := Scf.iv c0_i32_881 c1_i32_882 k0_t1
  let v2784 : BitVec 32 := Scalar.subi c32_i32 arg22
  let v4149 : Index := Scalar.indexCast v2784
  let c0_1731 : Index := 0#32
  ![1, v4149.toNat, 0]
def k0_off197 (k0_t1 : Fin k0_t1_loop.trips) : Fin 4 → Nat :=
  let c1_1737 : Index := 1#32
  let c0_1738 : Index := 0#32
  let c64_i32_1735 : BitVec 32 := 64#32
  let c0_i32_881 : BitVec 32 := 0#32
  let c1_i32_882 : BitVec 32 := 1#32
  let arg22 : BitVec 32 := Scf.iv c0_i32_881 c1_i32_882 k0_t1
  let v4159 : BitVec 32 := Scalar.subi c64_i32_1735 arg22
  let c63_i32_1736 : BitVec 32 := 63#32
  let v4160 : BitVec 32 := Scalar.andi v4159 c63_i32_1736
  let v4161 : Index := Scalar.indexCast v4160
  let c0_1739 : Index := 0#32
  ![1, 0, v4161.toNat, 0]
def k0_off198 (k0_t1 : Fin k0_t1_loop.trips) : Fin 3 → Nat :=
  let c2_1740 : Index := 2#32
  let c32_i32 : BitVec 32 := 32#32
  let c0_i32_881 : BitVec 32 := 0#32
  let c1_i32_882 : BitVec 32 := 1#32
  let arg22 : BitVec 32 := Scf.iv c0_i32_881 c1_i32_882 k0_t1
  let v2784 : BitVec 32 := Scalar.subi c32_i32 arg22
  let v4165 : Index := Scalar.indexCast v2784
  let c0_1741 : Index := 0#32
  ![2, v4165.toNat, 0]
def k0_off199 (k0_t1 : Fin k0_t1_loop.trips) (c0_i32_1742 : BitVec 32) : Fin 3 → Nat :=
  let c1_1743 : Index := 1#32
  let c0_i32_881 : BitVec 32 := 0#32
  let c1_i32_882 : BitVec 32 := 1#32
  let arg22 : BitVec 32 := Scf.iv c0_i32_881 c1_i32_882 k0_t1
  let v4168 : BitVec 32 := Scalar.addi c0_i32_1742 arg22
  let v4169 : Index := Scalar.indexCast v4168
  let c0_1744 : Index := 0#32
  ![1, v4169.toNat, 0]
def k0_off200 (k0_t1 : Fin k0_t1_loop.trips) : Fin 4 → Nat :=
  let c0_1747 : Index := 0#32
  let c1_1748 : Index := 1#32
  let c64_i32_1745 : BitVec 32 := 64#32
  let c0_i32_881 : BitVec 32 := 0#32
  let c1_i32_882 : BitVec 32 := 1#32
  let arg22 : BitVec 32 := Scf.iv c0_i32_881 c1_i32_882 k0_t1
  let v4175 : BitVec 32 := Scalar.subi c64_i32_1745 arg22
  let c63_i32_1746 : BitVec 32 := 63#32
  let v4176 : BitVec 32 := Scalar.andi v4175 c63_i32_1746
  let v4177 : Index := Scalar.indexCast v4176
  let c0_1749 : Index := 0#32
  ![0, 1, v4177.toNat, 0]
def k0_off201 (k0_t1 : Fin k0_t1_loop.trips) : Fin 3 → Nat :=
  let c3_1750 : Index := 3#32
  let c32_i32 : BitVec 32 := 32#32
  let c0_i32_881 : BitVec 32 := 0#32
  let c1_i32_882 : BitVec 32 := 1#32
  let arg22 : BitVec 32 := Scf.iv c0_i32_881 c1_i32_882 k0_t1
  let v2784 : BitVec 32 := Scalar.subi c32_i32 arg22
  let v4181 : Index := Scalar.indexCast v2784
  let c0_1751 : Index := 0#32
  ![3, v4181.toNat, 0]
def k0_off202 (k0_t1 : Fin k0_t1_loop.trips) : Fin 4 → Nat :=
  let c1_1757 : Index := 1#32
  let c1_1758 : Index := 1#32
  let c64_i32_1755 : BitVec 32 := 64#32
  let c0_i32_881 : BitVec 32 := 0#32
  let c1_i32_882 : BitVec 32 := 1#32
  let arg22 : BitVec 32 := Scf.iv c0_i32_881 c1_i32_882 k0_t1
  let v4191 : BitVec 32 := Scalar.subi c64_i32_1755 arg22
  let c63_i32_1756 : BitVec 32 := 63#32
  let v4192 : BitVec 32 := Scalar.andi v4191 c63_i32_1756
  let v4193 : Index := Scalar.indexCast v4192
  let c0_1759 : Index := 0#32
  ![1, 1, v4193.toNat, 0]
abbrev stage0_0 : Fin 1 → Memref sig .tc .vmem S2x128x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x96x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S33x768x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S33x24x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x768 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S2x128x768 : Shape := ⟨3, ![2, 128, 768]⟩
abbrev S2x128 : Shape := ⟨2, ![2, 128]⟩
abbrev S2x128x3 : Shape := ⟨3, ![2, 128, 3]⟩
abbrev S2x128x96 : Shape := ⟨3, ![2, 128, 96]⟩
abbrev S33x768x512 : Shape := ⟨3, ![33, 768, 512]⟩
abbrev S33x24x512 : Shape := ⟨3, ![33, 24, 512]⟩
abbrev S768x768 : Shape := ⟨2, ![768, 768]⟩
abbrev S768 : Shape := ⟨1, ![768]⟩
abbrev S2 : Shape := ⟨1, ![2]⟩
abbrev S2x1x1 : Shape := ⟨3, ![2, 1, 1]⟩
abbrev S128 : Shape := ⟨1, ![128]⟩
abbrev S1x128x1 : Shape := ⟨3, ![1, 128, 1]⟩
abbrev S_ : Shape := ⟨0, ![]⟩
abbrev S24576 : Shape := ⟨1, ![24576]⟩
abbrev S2x128x1 : Shape := ⟨3, ![2, 128, 1]⟩
abbrev S256x3 : Shape := ⟨2, ![256, 3]⟩
abbrev S24576x1 : Shape := ⟨2, ![24576, 1]⟩
abbrev S24576x3 : Shape := ⟨2, ![24576, 3]⟩
abbrev S33x512x768 : Shape := ⟨3, ![33, 512, 768]⟩
abbrev S16896x768 : Shape := ⟨2, ![16896, 768]⟩
abbrev S24576x768 : Shape := ⟨2, ![24576, 768]⟩
abbrev S33x512x24 : Shape := ⟨3, ![33, 512, 24]⟩
abbrev S16896x24 : Shape := ⟨2, ![16896, 24]⟩
abbrev S24576x24 : Shape := ⟨2, ![24576, 24]⟩
abbrev S24576x24x1 : Shape := ⟨3, ![24576, 24, 1]⟩
abbrev S24576x24x32 : Shape := ⟨3, ![24576, 24, 32]⟩
abbrev S1x768 : Shape := ⟨2, ![1, 768]⟩
abbrev S256x768 : Shape := ⟨2, ![256, 768]⟩
abbrev S256 : Shape := ⟨1, ![256]⟩
abbrev S96 : Shape := ⟨1, ![96]⟩
abbrev S1x1x96 : Shape := ⟨3, ![1, 1, 96]⟩
abbrev S2x128x96x768 : Shape := ⟨4, ![2, 128, 96, 768]⟩

abbrev nBuf : Space → Nat
  | .hbm => 196
  | .vmem => 6
  | .smem => 0
  | _ => 0

abbrev hbmTy0_0 (i : Nat) : BufTy := match i % 128 with
  | 0 => ⟨S2x128x768, .i8⟩
  | 1 => ⟨S2x128, .f32⟩
  | 2 => ⟨S2x128x3, .f32⟩
  | 3 => ⟨S2x128x96, .i32⟩
  | 4 => ⟨S2x128, .i32⟩
  | 5 => ⟨S33x768x512, .fp8e4m3⟩
  | 6 => ⟨S33x24x512, .f32⟩
  | 7 => ⟨S768x768, .fp8e4m3⟩
  | 8 => ⟨S768, .f32⟩
  | 9 => ⟨S768, .f32⟩
  | 10 => ⟨S2x128x768, .f32⟩
  | 11 => ⟨S33x768x512, .bf16⟩
  | 12 => ⟨S768x768, .bf16⟩
  | 13 => ⟨S2, .i32⟩
  | 14 => ⟨S2x1x1, .i32⟩
  | 15 => ⟨S128, .i32⟩
  | 16 => ⟨S1x128x1, .i32⟩
  | 17 => ⟨S_, .i32⟩
  | 18 => ⟨S2x1x1, .i32⟩
  | 19 => ⟨S2x1x1, .i32⟩
  | 20 => ⟨S2x128x96, .i32⟩
  | 21 => ⟨S2x128x96, .i32⟩
  | 22 => ⟨S24576, .i32⟩
  | 23 => ⟨S_, .i32⟩
  | 24 => ⟨S2x1x1, .i32⟩
  | 25 => ⟨S2x1x1, .i32⟩
  | 26 => ⟨S2x128x1, .i32⟩
  | 27 => ⟨S2x128x1, .i32⟩
  | 28 => ⟨S2x128x1, .i32⟩
  | 29 => ⟨S2x128x96, .i32⟩
  | 30 => ⟨S24576, .i32⟩
  | 31 => ⟨S256x3, .f32⟩
  | 32 => ⟨S_, .i32⟩
  | 33 => ⟨S24576, .i32⟩
  | 34 => ⟨S24576, .i1⟩
  | 35 => ⟨S_, .i32⟩
  | 36 => ⟨S24576, .i32⟩
  | 37 => ⟨S24576, .i32⟩
  | 38 => ⟨S24576, .i32⟩
  | 39 => ⟨S24576x1, .i32⟩
  | 40 => ⟨S24576x3, .f32⟩
  | 41 => ⟨S_, .i32⟩
  | 42 => ⟨S24576, .i32⟩
  | 43 => ⟨S24576, .i1⟩
  | 44 => ⟨S_, .i32⟩
  | 45 => ⟨S24576, .i32⟩
  | 46 => ⟨S24576, .i32⟩
  | 47 => ⟨S24576, .i32⟩
  | 48 => ⟨S24576x1, .i32⟩
  | 49 => ⟨S24576x3, .f32⟩
  | 50 => ⟨S24576x3, .f32⟩
  | 51 => ⟨S24576x3, .f32⟩
  | 52 => ⟨S_, .f32⟩
  | 53 => ⟨S24576, .f32⟩
  | 54 => ⟨S24576, .f32⟩
  | 55 => ⟨S_, .i32⟩
  | 56 => ⟨S2x128x96, .i32⟩
  | 57 => ⟨S2x128x96, .i32⟩
  | 58 => ⟨S_, .i32⟩
  | 59 => ⟨S1x128x1, .i32⟩
  | 60 => ⟨S1x128x1, .i32⟩
  | 61 => ⟨S2x128x96, .i32⟩
  | 62 => ⟨S2x128x96, .i32⟩
  | 63 => ⟨S_, .i32⟩
  | 64 => ⟨S2x128x96, .i32⟩
  | 65 => ⟨S2x128x96, .i32⟩
  | 66 => ⟨S_, .i32⟩
  | 67 => ⟨S2x128x96, .i32⟩
  | 68 => ⟨S2x128x96, .i1⟩
  | 69 => ⟨S_, .i32⟩
  | 70 => ⟨S2x128x96, .i32⟩
  | 71 => ⟨S2x128x96, .i32⟩
  | 72 => ⟨S2x128x96, .i32⟩
  | 73 => ⟨S2x128x96, .i32⟩
  | 74 => ⟨S2x128x96, .i32⟩
  | 75 => ⟨S2x128x96, .i32⟩
  | 76 => ⟨S2x128x96, .i32⟩
  | 77 => ⟨S_, .i32⟩
  | 78 => ⟨S2x128x96, .i32⟩
  | 79 => ⟨S2x128x96, .i32⟩
  | 80 => ⟨S_, .i32⟩
  | 81 => ⟨S2x128x96, .i32⟩
  | 82 => ⟨S2x128x96, .i32⟩
  | 83 => ⟨S_, .i32⟩
  | 84 => ⟨S2x128x96, .i32⟩
  | 85 => ⟨S2x128x96, .i32⟩
  | 86 => ⟨S2x128x96, .i32⟩
  | 87 => ⟨S_, .i32⟩
  | 88 => ⟨S2x128x96, .i32⟩
  | 89 => ⟨S2x128x96, .i32⟩
  | 90 => ⟨S_, .i32⟩
  | 91 => ⟨S2x128x96, .i32⟩
  | 92 => ⟨S2x128x96, .i32⟩
  | 93 => ⟨S2x128x96, .i32⟩
  | 94 => ⟨S_, .i32⟩
  | 95 => ⟨S2x128x96, .i32⟩
  | 96 => ⟨S2x128x96, .i32⟩
  | 97 => ⟨S_, .i32⟩
  | 98 => ⟨S2x128x96, .i32⟩
  | 99 => ⟨S2x128x96, .i32⟩
  | 100 => ⟨S2x128x96, .i32⟩
  | 101 => ⟨S2x128x96, .i32⟩
  | 102 => ⟨S2x128x96, .i32⟩
  | 103 => ⟨S24576, .i32⟩
  | 104 => ⟨S33x512x768, .bf16⟩
  | 105 => ⟨S16896x768, .bf16⟩
  | 106 => ⟨S_, .i32⟩
  | 107 => ⟨S24576, .i32⟩
  | 108 => ⟨S24576, .i1⟩
  | 109 => ⟨S_, .i32⟩
  | 110 => ⟨S24576, .i32⟩
  | 111 => ⟨S24576, .i32⟩
  | 112 => ⟨S24576, .i32⟩
  | 113 => ⟨S24576x1, .i32⟩
  | 114 => ⟨S24576x768, .bf16⟩
  | 115 => ⟨S33x512x24, .f32⟩
  | 116 => ⟨S16896x24, .f32⟩
  | 117 => ⟨S_, .i32⟩
  | 118 => ⟨S24576, .i32⟩
  | 119 => ⟨S24576, .i1⟩
  | 120 => ⟨S_, .i32⟩
  | 121 => ⟨S24576, .i32⟩
  | 122 => ⟨S24576, .i32⟩
  | 123 => ⟨S24576, .i32⟩
  | 124 => ⟨S24576x1, .i32⟩
  | 125 => ⟨S24576x24, .f32⟩
  | 126 => ⟨S24576x24, .bf16⟩
  | 127 => ⟨S24576x24x1, .bf16⟩
  | _ => ⟨S2x128x768, .i8⟩

abbrev hbmTy0_1 (i : Nat) : BufTy := match i % 128 with
  | 0 => ⟨S24576x24x32, .bf16⟩
  | 1 => ⟨S24576x768, .bf16⟩
  | 2 => ⟨S24576x768, .bf16⟩
  | 3 => ⟨S24576x768, .f32⟩
  | 4 => ⟨S1x768, .f32⟩
  | 5 => ⟨S24576x768, .f32⟩
  | 6 => ⟨S24576x768, .f32⟩
  | 7 => ⟨S1x768, .f32⟩
  | 8 => ⟨S24576x768, .f32⟩
  | 9 => ⟨S24576x768, .f32⟩
  | 10 => ⟨S_, .f32⟩
  | 11 => ⟨S24576, .f32⟩
  | 12 => ⟨S24576, .i1⟩
  | 13 => ⟨S_, .f32⟩
  | 14 => ⟨S24576, .f32⟩
  | 15 => ⟨S24576, .f32⟩
  | 16 => ⟨S_, .f32⟩
  | 17 => ⟨S24576, .f32⟩
  | 18 => ⟨S24576, .f32⟩
  | 19 => ⟨S24576, .f32⟩
  | 20 => ⟨S_, .f32⟩
  | 21 => ⟨S24576, .f32⟩
  | 22 => ⟨S24576, .f32⟩
  | 23 => ⟨S_, .f32⟩
  | 24 => ⟨S24576, .f32⟩
  | 25 => ⟨S24576, .f32⟩
  | 26 => ⟨S_, .f32⟩
  | 27 => ⟨S_, .f32⟩
  | 28 => ⟨S24576, .f32⟩
  | 29 => ⟨S24576, .f32⟩
  | 30 => ⟨S256x768, .f32⟩
  | 31 => ⟨S_, .i32⟩
  | 32 => ⟨S24576, .i32⟩
  | 33 => ⟨S24576, .i1⟩
  | 34 => ⟨S_, .i32⟩
  | 35 => ⟨S24576, .i32⟩
  | 36 => ⟨S24576, .i32⟩
  | 37 => ⟨S24576, .i32⟩
  | 38 => ⟨S24576x1, .i32⟩
  | 39 => ⟨S24576x768, .f32⟩
  | 40 => ⟨S256, .f32⟩
  | 41 => ⟨S_, .i32⟩
  | 42 => ⟨S24576, .i32⟩
  | 43 => ⟨S24576, .i1⟩
  | 44 => ⟨S_, .i32⟩
  | 45 => ⟨S24576, .i32⟩
  | 46 => ⟨S24576, .i32⟩
  | 47 => ⟨S24576, .i32⟩
  | 48 => ⟨S24576x1, .i32⟩
  | 49 => ⟨S24576, .f32⟩
  | 50 => ⟨S96, .i32⟩
  | 51 => ⟨S1x1x96, .i32⟩
  | 52 => ⟨S2x128x1, .i32⟩
  | 53 => ⟨S2x128x96, .i32⟩
  | 54 => ⟨S2x128x96, .i32⟩
  | 55 => ⟨S2x128x96, .i1⟩
  | 56 => ⟨S2x128x96, .f32⟩
  | 57 => ⟨S24576, .f32⟩
  | 58 => ⟨S24576, .f32⟩
  | 59 => ⟨S24576, .f32⟩
  | 60 => ⟨S24576x1, .f32⟩
  | 61 => ⟨S24576x768, .f32⟩
  | 62 => ⟨S24576x768, .f32⟩
  | 63 => ⟨S24576x768, .f32⟩
  | 64 => ⟨S2x128x96x768, .f32⟩
  | 65 => ⟨S_, .f32⟩
  | 66 => ⟨S2x128x768, .f32⟩
  | 67 => ⟨S2x128x768, .bf16⟩
  | _ => ⟨S2x128x768, .i8⟩

abbrev hbmTy (i : Nat) : BufTy := match i / 128 with
  | 0 => hbmTy0_0 i
  | 1 => hbmTy0_1 i
  | _ => ⟨S2x128x768, .i8⟩

abbrev bufTy : (tb : Table) → Fin (tcTables nBuf tb) → BufTy
  | .hbm, ⟨i, _⟩ => hbmTy i
  | .local _ .vmem, ⟨0, _⟩ => ⟨S2x128x768, .i8⟩
  | .local _ .vmem, ⟨1, _⟩ => ⟨S33x768x512, .fp8e4m3⟩
  | .local _ .vmem, ⟨2, _⟩ => ⟨S768x768, .fp8e4m3⟩
  | .local _ .vmem, ⟨3, _⟩ => ⟨S2x128x768, .f32⟩
  | .local _ .vmem, ⟨4, _⟩ => ⟨S33x768x512, .bf16⟩
  | .local _ .vmem, ⟨5, _⟩ => ⟨S768x768, .bf16⟩
  | _, _ => ⟨S2x128x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_v0 : Ref sig .tc := ⟨.hbm, 73, rfl⟩
abbrev main_v49 : Ref sig .tc := ⟨.hbm, 74, rfl⟩
abbrev main_call2_v0 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_19 : Ref sig .tc := ⟨.hbm, 117, rfl⟩
abbrev main_v82 : Ref sig .tc := ⟨.hbm, 118, rfl⟩
abbrev main_v83 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_21 : Ref sig .tc := ⟨.hbm, 138, rfl⟩
abbrev main_v101 : Ref sig .tc := ⟨.hbm, 139, rfl⟩
abbrev main_v102 : Ref sig .tc := ⟨.hbm, 140, rfl⟩
abbrev main_cst_22 : Ref sig .tc := ⟨.hbm, 141, rfl⟩
abbrev main_v103 : Ref sig .tc := ⟨.hbm, 142, rfl⟩
abbrev main_v104 : Ref sig .tc := ⟨.hbm, 143, rfl⟩
abbrev main_cst_23 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_24 : Ref sig .tc := ⟨.hbm, 148, rfl⟩
abbrev main_v108 : Ref sig .tc := ⟨.hbm, 149, rfl⟩
abbrev main_v109 : Ref sig .tc := ⟨.hbm, 150, rfl⟩
abbrev main_cst_25 : Ref sig .tc := ⟨.hbm, 151, rfl⟩
abbrev main_v110 : Ref sig .tc := ⟨.hbm, 152, rfl⟩
abbrev main_v111 : Ref sig .tc := ⟨.hbm, 153, rfl⟩
abbrev main_cst_26 : Ref sig .tc := ⟨.hbm, 154, rfl⟩
abbrev main_call3_v0 : Ref sig .tc := ⟨.hbm, 155, rfl⟩
abbrev main_call3_v1 : Ref sig .tc := ⟨.hbm, 156, rfl⟩
abbrev main_v112 : Ref sig .tc := ⟨.hbm, 157, rfl⟩
abbrev main_v113 : Ref sig .tc := ⟨.hbm, 158, rfl⟩
abbrev main_c_27 : Ref sig .tc := ⟨.hbm, 159, rfl⟩
abbrev main_v114 : Ref sig .tc := ⟨.hbm, 160, rfl⟩
abbrev main_v115 : Ref sig .tc := ⟨.hbm, 161, rfl⟩
abbrev main_c_28 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_29 : Ref sig .tc := ⟨.hbm, 169, rfl⟩
abbrev main_v122 : Ref sig .tc := ⟨.hbm, 170, rfl⟩
abbrev main_v123 : Ref sig .tc := ⟨.hbm, 171, rfl⟩
abbrev main_c_30 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_31 : Ref sig .tc := ⟨.hbm, 193, rfl⟩
abbrev main_v144 : Ref sig .tc := ⟨.hbm, 194, rfl⟩
abbrev main_v145 : Ref sig .tc := ⟨.hbm, 195, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x768x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S33x768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Scales.lean ====
abbrev S2x128x96 : Shape := ⟨3, ![2, 128, 96]⟩
abbrev S33x24x512 : Shape := ⟨3, ![33, 24, 512]⟩
abbrev S2x96x128 : Shape := ⟨3, ![2, 96, 128]⟩
abbrev S2x2304x128 : Shape := ⟨3, ![2, 2304, 128]⟩
abbrev S2x128x128 : Shape := ⟨3, ![2, 128, 128]⟩
abbrev S3936x128 : Shape := ⟨2, ![3936, 128]⟩
abbrev S7168x128 : Shape := ⟨2, ![7168, 128]⟩
abbrev S2x3072x128 : Shape := ⟨3, ![2, 3072, 128]⟩
abbrev S96x128 : Shape := ⟨2, ![96, 128]⟩
abbrev S32x128 : Shape := ⟨2, ![32, 128]⟩
abbrev S1x96x128 : Shape := ⟨3, ![1, 96, 128]⟩
abbrev S128x128 : Shape := ⟨2, ![128, 128]⟩
abbrev S1x128x128 : Shape := ⟨3, ![1, 128, 128]⟩
abbrev S33x1x128 : Shape := ⟨3, ![33, 1, 128]⟩
abbrev S33x128 : Shape := ⟨2, ![33, 128]⟩
abbrev S1x2x128 : Shape := ⟨3, ![1, 2, 128]⟩
abbrev S2x128 : Shape := ⟨2, ![2, 128]⟩
abbrev S24x128 : Shape := ⟨2, ![24, 128]⟩
abbrev S1x128 : Shape := ⟨2, ![1, 128]⟩
abbrev S24x128x1 : Shape := ⟨3, ![24, 128, 1]⟩
abbrev S48x128 : Shape := ⟨2, ![48, 128]⟩
abbrev S1x48x128 : Shape := ⟨3, ![1, 48, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x128x96, .i32⟩
  | .hbm, ⟨1, _⟩ => ⟨S33x24x512, .f32⟩
  | .hbm, ⟨2, _⟩ => ⟨S2x96x128, .i32⟩
  | .hbm, ⟨3, _⟩ => ⟨S2x2304x128, .f32⟩
  | .local _ .vmem, ⟨0, _⟩ => ⟨S2x96x128, .i32⟩
  | .local _ .vmem, ⟨1, _⟩ => ⟨S33x24x512, .f32⟩
  | .local _ .vmem, ⟨2, _⟩ => ⟨S2x2304x128, .f32⟩
  | .local _ .vmem, ⟨3, _⟩ => ⟨S2x128x128, .i32⟩
  | .local _ .vmem, ⟨4, _⟩ => ⟨S3936x128, .f32⟩
  | .local _ .vmem, ⟨5, _⟩ => ⟨S7168x128, .f32⟩
  | .local _ .vmem, ⟨6, _⟩ => ⟨S2x3072x128, .f32⟩
  | .local _ .vmem, ⟨7, _⟩ => ⟨S2x2304x128, .f32⟩
  | _, _ => ⟨S2x128x96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_894 : BitVec 32 := 0#32
  let c128_i32_895 : BitVec 32 := 128#32
  let v1232 : BitVec 32 := Scalar.addi c0_i32_894 c128_i32_895
  let c1_i32_896 : BitVec 32 := 1#32
  ⟨c0_i32_894, v1232, c1_i32_896⟩
def k0_off1 (k0_t1 : Fin k0_t1_loop.trips) : Fin 3 → Nat :=
  let c0_i32_894 : BitVec 32 := 0#32
  let c1_i32_896 : BitVec 32 := 1#32
  let arg8 : BitVec 32 := Scf.iv c0_i32_894 c1_i32_896 k0_t1
  let c2_i32_1192 : BitVec 32 := 2#32
  let v1571 : BitVec 32 := Scalar.remsi arg8 c2_i32_1192
  let v1574 : Index := Scalar.indexCast v1571
  let c2_i32_1193 : BitVec 32 := 2#32
  let v1572 : BitVec 32 := Scalar.divsi arg8 c2_i32_1193
  let c2_i32_1194 : BitVec 32 := 2#32
  let v1573 : BitVec 32 := Scalar.muli v1572 c2_i32_1194
  let v1575 : Index := Scalar.indexCast v1573
  let c0_1195 : Index := 0#32
  ![v1574.toNat, v1575.toNat, 0]
def k0_off2 (k0_t1 : Fin k0_t1_loop.trips) : Fin 2 → Nat :=
  let c0_i32_894 : BitVec 32 := 0#32
  let c1_i32_896 : BitVec 32 := 1#32
  let arg8 : BitVec 32 := Scf.iv c0_i32_894 c1_i32_896 k0_t1
  let c56_i32 : BitVec 32 := 56#32
  let v1578 : BitVec 32 := Scalar.muli arg8 c56_i32
  let v1579 : Index := Scalar.indexCast v1578
  let c0_1196 : Index := 0#32
  ![v1579.toNat, 0]
def k0_off3 (k0_t1 : Fin k0_t1_loop.trips) : Fin 2 → Nat :=
  let c0_i32_894 : BitVec 32 := 0#32
  let c1_i32_896 : BitVec 32 := 1#32
  let arg8 : BitVec 32 := Scf.iv c0_i32_894 c1_i32_896 k0_t1
  let c56_i32_1197 : BitVec 32 := 56#32
  let v1581 : BitVec 32 := Scalar.muli arg8 c56_i32_1197
  let c24_i32 : BitVec 32 := 24#32
  let v1582 : BitVec 32 := Scalar.addi v1581 c24_i32
  let v1583 : Index := Scalar.indexCast v1582
  let c0_1198 : Index := 0#32
  ![v1583.toNat, 0]
def k0_off4 (k0_t1 : Fin k0_t1_loop.trips) : Fin 3 → Nat :=
  let c0_i32_894 : BitVec 32 := 0#32
  let c1_i32_896 : BitVec 32 := 1#32
  let arg8 : BitVec 32 := Scf.iv c0_i32_894 c1_i32_896 k0_t1
  let c2_i32_1192 : BitVec 32 := 2#32
  let v1571 : BitVec 32 := Scalar.remsi arg8 c2_i32_1192
  let v1635 : Index := Scalar.indexCast v1571
  let c2_i32_1193 : BitVec 32 := 2#32
  let v1572 : BitVec 32 := Scalar.divsi arg8 c2_i32_1193
  let c2_i32_1194 : BitVec 32 := 2#32
  let v1573 : BitVec 32 := Scalar.muli v1572 c2_i32_1194
  let c24_i32_1210 : BitVec 32 := 24#32
  let v1634 : BitVec 32 := Scalar.muli v1573 c24_i32_1210
  let v1636 : Index := Scalar.indexCast v1634
  let c0_1211 : Index := 0#32
  ![v1635.toNat, v1636.toNat, 0]
abbrev stage0_0 : Fin 1 → Memref sig .tc .vmem S2x96x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x24x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceScalesIdeal.lean ====
abbrev S2x128x96 : Shape := ⟨3, ![2, 128, 96]⟩
abbrev S33x24x512 : Shape := ⟨3, ![33, 24, 512]⟩
abbrev S2 : Shape := ⟨1, ![2]⟩
abbrev S2x1x1 : Shape := ⟨3, ![2, 1, 1]⟩
abbrev S128 : Shape := ⟨1, ![128]⟩
abbrev S1x128x1 : Shape := ⟨3, ![1, 128, 1]⟩
abbrev S_ : Shape := ⟨0, ![]⟩
abbrev S33x512x24 : Shape := ⟨3, ![33, 512, 24]⟩
abbrev S16896x24 : Shape := ⟨2, ![16896, 24]⟩
abbrev S24576 : Shape := ⟨1, ![24576]⟩
abbrev S24576x1 : Shape := ⟨2, ![24576, 1]⟩
abbrev S24576x24 : Shape := ⟨2, ![24576, 24]⟩
abbrev S2x128x96x24 : Shape := ⟨4, ![2, 128, 96, 24]⟩
abbrev S2x96x24x128 : Shape := ⟨4, ![2, 96, 24, 128]⟩
abbrev S2x2304x128 : Shape := ⟨3, ![2, 2304, 128]⟩

abbrev nBuf : Space → Nat
  | .hbm => 69
  | .vmem => 0
  | .smem => 0
  | _ => 0

abbrev bufTy : (tb : Table) → Fin (tcTables nBuf tb) → BufTy
  | .hbm, ⟨0, _⟩ => ⟨S2x128x96, .i32⟩
  | .hbm, ⟨1, _⟩ => ⟨S33x24x512, .f32⟩
  | .hbm, ⟨2, _⟩ => ⟨S2, .i32⟩
  | .hbm, ⟨3, _⟩ => ⟨S2x1x1, .i32⟩
  | .hbm, ⟨4, _⟩ => ⟨S128, .i32⟩
  | .hbm, ⟨5, _⟩ => ⟨S1x128x1, .i32⟩
  | .hbm, ⟨6, _⟩ => ⟨S_, .i32⟩
  | .hbm, ⟨7, _⟩ => ⟨S2x128x96, .i32⟩
  | .hbm, ⟨8, _⟩ => ⟨S2x128x96, .i32⟩
  | .hbm, ⟨9, _⟩ => ⟨S_, .i32⟩
  | .hbm, ⟨10, _⟩ => ⟨S1x128x1, .i32⟩
  | .hbm, ⟨11, _⟩ => ⟨S1x128x1, .i32⟩
  | .hbm, ⟨12, _⟩ => ⟨S2x128x96, .i32⟩
  | .hbm, ⟨13, _⟩ => ⟨S2x128x96, .i32⟩
  | .hbm, ⟨14, _⟩ => ⟨S_, .i32⟩
  | .hbm, ⟨15, _⟩ => ⟨S2x128x96, .i32⟩
  | .hbm, ⟨16, _⟩ => ⟨S2x128x96, .i32⟩
  | .hbm, ⟨17, _⟩ => ⟨S_, .i32⟩
  | .hbm, ⟨18, _⟩ => ⟨S2x128x96, .i32⟩
  | .hbm, ⟨19, _⟩ => ⟨S2x128x96, .i1⟩
  | .hbm, ⟨20, _⟩ => ⟨S_, .i32⟩
  | .hbm, ⟨21, _⟩ => ⟨S2x128x96, .i32⟩
  | .hbm, ⟨22, _⟩ => ⟨S2x128x96, .i32⟩
  | .hbm, ⟨23, _⟩ => ⟨S2x128x96, .i32⟩
  | .hbm, ⟨24, _⟩ => ⟨S2x128x96, .i32⟩
  | .hbm, ⟨25, _⟩ => ⟨S2x128x96, .i32⟩
  | .hbm, ⟨26, _⟩ => ⟨S2x128x96, .i32⟩
  | .hbm, ⟨27, _⟩ => ⟨S2x128x96, .i32⟩
  | .hbm, ⟨28, _⟩ => ⟨S_, .i32⟩
  | .hbm, ⟨29, _⟩ => ⟨S2x128x96, .i32⟩
  | .hbm, ⟨30, _⟩ => ⟨S2x128x96, .i32⟩
  | .hbm, ⟨31, _⟩ => ⟨S_, .i32⟩
  | .hbm, ⟨32, _⟩ => ⟨S2x128x96, .i32⟩
  | .hbm, ⟨33, _⟩ => ⟨S2x128x96, .i32⟩
  | .hbm, ⟨34, _⟩ => ⟨S_, .i32⟩
  | .hbm, ⟨35, _⟩ => ⟨S2x128x96, .i32⟩
  | .hbm, ⟨36, _⟩ => ⟨S2x128x96, .i32⟩
  | .hbm, ⟨37, _⟩ => ⟨S2x128x96, .i32⟩
  | .hbm, ⟨38, _⟩ => ⟨S_, .i32⟩
  | .hbm, ⟨39, _⟩ => ⟨S2x128x96, .i32⟩
  | .hbm, ⟨40, _⟩ => ⟨S2x128x96, .i32⟩
  | .hbm, ⟨41, _⟩ => ⟨S_, .i32⟩
  | .hbm, ⟨42, _⟩ => ⟨S2x128x96, .i32⟩
  | .hbm, ⟨43, _⟩ => ⟨S2x128x96, .i32⟩
  | .hbm, ⟨44, _⟩ => ⟨S2x128x96, .i32⟩
  | .hbm, ⟨45, _⟩ => ⟨S_, .i32⟩
  | .hbm, ⟨46, _⟩ => ⟨S2x128x96, .i32⟩
  | .hbm, ⟨47, _⟩ => ⟨S2x128x96, .i32⟩
  | .hbm, ⟨48, _⟩ => ⟨S_, .i32⟩
  | .hbm, ⟨49, _⟩ => ⟨S2x128x96, .i32⟩
  | .hbm, ⟨50, _⟩ => ⟨S2x128x96, .i32⟩
  | .hbm, ⟨51, _⟩ => ⟨S2x128x96, .i32⟩
  | .hbm, ⟨52, _⟩ => ⟨S2x128x96, .i32⟩
  | .hbm, ⟨53, _⟩ => ⟨S2x128x96, .i32⟩
  | .hbm, ⟨54, _⟩ => ⟨S33x512x24, .f32⟩
  | .hbm, ⟨55, _⟩ => ⟨S16896x24, .f32⟩
  | .hbm, ⟨56, _⟩ => ⟨S24576, .i32⟩
  | .hbm, ⟨57, _⟩ => ⟨S_, .i32⟩
  | .hbm, ⟨58, _⟩ => ⟨S24576, .i32⟩
  | .hbm, ⟨59, _⟩ => ⟨S24576, .i1⟩
  | .hbm, ⟨60, _⟩ => ⟨S_, .i32⟩
  | .hbm, ⟨61, _⟩ => ⟨S24576, .i32⟩
  | .hbm, ⟨62, _⟩ => ⟨S24576, .i32⟩
  | .hbm, ⟨63, _⟩ => ⟨S24576, .i32⟩
  | .hbm, ⟨64, _⟩ => ⟨S24576x1, .i32⟩
  | .hbm, ⟨65, _⟩ => ⟨S24576x24, .f32⟩
  | .hbm, ⟨66, _⟩ => ⟨S2x128x96x24, .f32⟩
  | .hbm, ⟨67, _⟩ => ⟨S2x96x24x128, .f32⟩
  | .hbm, ⟨68, _⟩ => ⟨S2x2304x128, .f32⟩
  | _, _ => ⟨S2x128x96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_v0 : Ref sig .tc := ⟨.hbm, 24, rfl⟩
abbrev main_v17 : Ref sig .tc := ⟨.hbm, 25, rfl⟩
abbrev main_call2_v0 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_v41 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Lanes.lean ====
module

public import proofs.«01_k».proof.Proof.Gen.KernelIdeal.Value
public import Idealize.ShloMosaic.Lib.Pipeline.ValueKit
public import Idealize.ShloMosaic.Lib.Pointwise

/-! The word arithmetic by which a lane number is split into an atom number and a molecule number. -/

@[expose] public section

set_option maxRecDepth 16384

noncomputable section
namespace Cert.KernelIdeal.Value
open Idealize.ShloMosaic Idealize.ShloMosaic.TcCoe Idealize.SL.Sem
open Cert.KernelIdeal Cert.KernelIdeal.Gen

theorem l_mod (n : ℕ) (h : n < 128) : Scalar.select (IntOp.andi (IntOp.xori (IntOp.cmpi CmpIPredicate.slt (IntOp.remsi ArithUnit.vector (BitVec.ofNat 32 n) 2#32) 0#32) 0#1) (IntOp.cmpi CmpIPredicate.ne (IntOp.remsi ArithUnit.vector (BitVec.ofNat 32 n) 2#32) 0#32)) (IntOp.addi (IntOp.remsi ArithUnit.vector (BitVec.ofNat 32 n) 2#32) 2#32) (IntOp.remsi ArithUnit.vector (BitVec.ofNat 32 n) 2#32) = BitVec.ofNat 32 (n % 2) :=
  (by decide +kernel : ∀ k : Fin 128, Scalar.select (IntOp.andi (IntOp.xori (IntOp.cmpi CmpIPredicate.slt (IntOp.remsi ArithUnit.vector (BitVec.ofNat 32 k.val) 2#32) 0#32) 0#1) (IntOp.cmpi CmpIPredicate.ne (IntOp.remsi ArithUnit.vector (BitVec.ofNat 32 k.val) 2#32) 0#32)) (IntOp.addi (IntOp.remsi ArithUnit.vector (BitVec.ofNat 32 k.val) 2#32) 2#32) (IntOp.remsi ArithUnit.vector (BitVec.ofNat 32 k.val) 2#32) = BitVec.ofNat 32 (k.val % 2)) ⟨n, h⟩

theorem l_div (n : ℕ) (h : n < 128) : Scalar.select (IntOp.andi (IntOp.cmpi CmpIPredicate.ne (IntOp.subi (BitVec.setWidth 32 (IntOp.cmpi CmpIPredicate.sgt (BitVec.ofNat 32 n) 0#32)) (BitVec.setWidth 32 (IntOp.cmpi CmpIPredicate.slt (BitVec.ofNat 32 n) 0#32))) 1#32) (IntOp.cmpi CmpIPredicate.ne (IntOp.remsi ArithUnit.vector (BitVec.ofNat 32 n) 2#32) 0#32)) (IntOp.subi (IntOp.divsi ArithUnit.vector (BitVec.ofNat 32 n) 2#32) 1#32) (IntOp.divsi ArithUnit.vector (BitVec.ofNat 32 n) 2#32) = BitVec.ofNat 32 (n / 2) :=
  (by decide +kernel : ∀ k : Fin 128, Scalar.select (IntOp.andi (IntOp.cmpi CmpIPredicate.ne (IntOp.subi (BitVec.setWidth 32 (IntOp.cmpi CmpIPredicate.sgt (BitVec.ofNat 32 k.val) 0#32)) (BitVec.setWidth 32 (IntOp.cmpi CmpIPredicate.slt (BitVec.ofNat 32 k.val) 0#32))) 1#32) (IntOp.cmpi CmpIPredicate.ne (IntOp.remsi ArithUnit.vector (BitVec.ofNat 32 k.val) 2#32) 0#32)) (IntOp.subi (IntOp.divsi ArithUnit.vector (BitVec.ofNat 32 k.val) 2#32) 1#32) (IntOp.divsi ArithUnit.vector (BitVec.ofNat 32 k.val) 2#32) = BitVec.ofNat 32 (k.val / 2)) ⟨n, h⟩

theorem l_take0 (n : ℕ) (h : n < 128) : (Scalar.select (IntOp.cmpi CmpIPredicate.slt (IntOp.addi (IntOp.muli (2#32) (BitVec.ofNat 32 (n / 2))) 0#32) 0#32) (IntOp.addi (IntOp.addi (IntOp.muli (2#32) (BitVec.ofNat 32 (n / 2))) 0#32) 128#32) (IntOp.addi (IntOp.muli (2#32) (BitVec.ofNat 32 (n / 2))) 0#32)).toNat % 128 = 2 * (n / 2) :=
  (by decide +kernel : ∀ k : Fin 128, (Scalar.select (IntOp.cmpi CmpIPredicate.slt (IntOp.addi (IntOp.muli (2#32) (BitVec.ofNat 32 (k.val / 2))) 0#32) 0#32) (IntOp.addi (IntOp.addi (IntOp.muli (2#32) (BitVec.ofNat 32 (k.val / 2))) 0#32) 128#32) (IntOp.addi (IntOp.muli (2#32) (BitVec.ofNat 32 (k.val / 2))) 0#32)).toNat % 128 = 2 * (k.val / 2)) ⟨n, h⟩

theorem l_take1 (n : ℕ) (h : n < 128) : (Scalar.select (IntOp.cmpi CmpIPredicate.slt (IntOp.addi (IntOp.muli (2#32) (BitVec.ofNat 32 (n / 2))) 1#32) 0#32) (IntOp.addi (IntOp.addi (IntOp.muli (2#32) (BitVec.ofNat 32 (n / 2))) 1#32) 128#32) (IntOp.addi (IntOp.muli (2#32) (BitVec.ofNat 32 (n / 2))) 1#32)).toNat % 128 = 2 * (n / 2) + 1 :=
  (by decide +kernel : ∀ k : Fin 128, (Scalar.select (IntOp.cmpi CmpIPredicate.slt (IntOp.addi (IntOp.muli (2#32) (BitVec.ofNat 32 (k.val / 2))) 1#32) 0#32) (IntOp.addi (IntOp.addi (IntOp.muli (2#32) (BitVec.ofNat 32 (k.val / 2))) 1#32) 128#32) (IntOp.addi (IntOp.muli (2#32) (BitVec.ofNat 32 (k.val / 2))) 1#32)).toNat % 128 = 2 * (k.val / 2) + 1) ⟨n, h⟩

theorem l_sel {α : Type} (n : ℕ) (a b : α) :
    Scalar.select (IntOp.cmpi CmpIPredicate.eq (BitVec.ofNat 32 (n % 2)) 0#32) a b = if n % 2 = 0 then a else b := by
  rcases Nat.mod_two_eq_zero_or_one n with h | h <;> rw [h] <;> rfl

/-- The value an interleaved row holds at lane `n`: of molecule `n % 2`, atom `2 (n / 2) + e`. -/
def pk {α : Type} (f : Fin 2 → Fin 128 → α) (e : Fin 2) (n : Fin 128) : α :=
  f ⟨n.val % 2, Nat.mod_lt _ (by decide)⟩ ⟨2 * (n.val / 2) + e.val, by omega⟩

theorem pk0 {α : Type} (f : Fin 2 → Fin 128 → α) (n : Fin 128) :
    pk f 0 n = if n.val % 2 = 0 then f 0 ⟨2 * (n.val / 2), by omega⟩ else f 1 ⟨2 * (n.val / 2), by omega⟩ := by
  unfold pk
  split
  · rename_i h0
    exact congrArg₂ f (Fin.ext h0) rfl
  · rename_i h0
    exact congrArg₂ f (Fin.ext (show n.val % 2 = 1 by omega)) rfl

theorem pk1 {α : Type} (f : Fin 2 → Fin 128 → α) (n : Fin 128) :
    pk f 1 n = if n.val % 2 = 0 then f 0 ⟨2 * (n.val / 2) + 1, by omega⟩ else f 1 ⟨2 * (n.val / 2) + 1, by omega⟩ := by
  unfold pk
  split
  · rename_i h0
    exact congrArg₂ f (Fin.ext h0) rfl
  · rename_i h0
    exact congrArg₂ f (Fin.ext (show n.val % 2 = 1 by omega)) rfl

/-- The parity of the first and of the second atom of pair kind `p`. -/
def pa (p : Fin 4) : Fin 2 := ⟨p.val / 2, by omega⟩
def pb (p : Fin 4) : Fin 2 := ⟨p.val % 2, by omega⟩
theorem pa_0 : pa 0 = 0 := rfl
theorem pa_1 : pa 1 = 0 := rfl
theorem pa_2 : pa 2 = 1 := rfl
theorem pa_3 : pa 3 = 1 := rfl
theorem pb_0 : pb 0 = 0 := rfl
theorem pb_1 : pb 1 = 1 := rfl
theorem pb_2 : pb 2 = 0 := rfl
theorem pb_3 : pb 3 = 1 := rfl

/-- The squared distance of two points. -/
def sqd (u v : Fin 3 → EReal) : EReal := (u 0 - v 0) * (u 0 - v 0) + (u 1 - v 1) * (u 1 - v 1) + (u 2 - v 2) * (u 2 - v 2)

/-- The cosine cutoff of a squared distance. -/
def cutq (q : EReal) : EReal :=
  if Ideal.sqrt q < Ideal.ofBits FTy.f32 1084227584#32 then
    Ideal.ofBits FTy.f32 1056964608#32
      * (Ideal.cos (Ideal.div (Ideal.ofBits FTy.f32 1078530011#32 * Ideal.sqrt q) (Ideal.ofBits FTy.f32 1084227584#32)) + 1)
  else 0

end Cert.KernelIdeal.Value
end
-- ==== Proof.Spec.lean ====
module

public import proofs.«01_k».proof.Proof.Lanes

/-! What one listed neighbour contributes to one atom, as plain mathematics. -/

@[expose] public section

noncomputable section
namespace Cert.Spec
open Cert.KernelIdeal.Value

/-- Offset of atom q's pair from atom s's pair, around the molecule. -/
def off (q s : Fin 128) : Nat := (q.val / 2 + 64 - s.val / 2) % 64

theorem off_lt (q s : Fin 128) : off q s < 64 := Nat.mod_lt _ (by norm_num)

/-- Column of the hidden block holding the pair of atoms a and c of molecule b. -/
def col (b : Fin 2) (a c : Fin 128) : Fin 512 := ⟨256 * (a.val % 2) + 128 * (c.val % 2) + 2 * (a.val / 2) + b.val, by omega⟩

/-- The dequantised hidden features: one scale for every 32 rows. -/
def hid (Q : (⟨3, ![33, 768, 512]⟩ : Idealize.ShloMosaic.Shape).Idx → EReal) (S : (⟨3, ![33, 24, 512]⟩ : Idealize.ShloMosaic.Shape).Idx → EReal)
    (k : Fin 33) (r : Fin 768) (cl : Fin 512) : EReal :=
  Q (Idealize.ShloMosaic.ix3 k r cl) * S (Idealize.ShloMosaic.ix3 k ⟨r.val / 32, by omega⟩ cl)

/-- The last layer of the filter network at row k and one column of the hidden block. -/
def filt (H : Fin 33 → Fin 768 → Fin 512 → EReal) (W : Fin 768 → Fin 768 → EReal) (ws b2 : Fin 768 → EReal)
    (k : Fin 33) (cl : Fin 512) (cc : Fin 768) : EReal := (∑ r : Fin 768, H k r cl * W r cc) * ws cc + b2 cc

/-- The filter of the pair: a pair is stored once, at the atom it is ahead of. -/
def filtOf (H : Fin 33 → Fin 768 → Fin 512 → EReal) (W : Fin 768 → Fin 768 → EReal) (ws b2 : Fin 768 → EReal)
    (b : Fin 2) (q s : Fin 128) (cc : Fin 768) : EReal :=
  if h : off q s ≤ 32 then filt H W ws b2 ⟨off q s, by omega⟩ (col b s q) cc
  else filt H W ws b2 ⟨64 - off q s, by omega⟩ (col b q s) cc

/-- The contribution of neighbour q to atom s of molecule b. -/
def pairOf (H : Fin 33 → Fin 768 → Fin 512 → EReal) (W : Fin 768 → Fin 768 → EReal) (ws b2 : Fin 768 → EReal)
    (P : Fin 2 → Fin 128 → Fin 3 → EReal) (X : Fin 2 → Fin 128 → Fin 768 → EReal) (xs : Fin 2 → Fin 128 → EReal)
    (b : Fin 2) (q s : Fin 128) (cc : Fin 768) : EReal :=
  filtOf H W ws b2 b q s cc * (cutq (sqd (P b q) (P b s)) * (X b q cc * xs b q))

/-- The result at atom s of molecule b, channel cc: the listed neighbours' contributions, those past the count left out. -/
def result (H : Fin 33 → Fin 768 → Fin 512 → EReal) (W : Fin 768 → Fin 768 → EReal) (ws b2 : Fin 768 → EReal)
    (P : Fin 2 → Fin 128 → Fin 3 → EReal) (X : Fin 2 → Fin 128 → Fin 768 → EReal) (xs : Fin 2 → Fin 128 → EReal)
    (cnt : Fin 2 → Fin 128 → BitVec 32) (q : Fin 2 → Fin 128 → Fin 96 → Fin 128) (b : Fin 2) (s : Fin 128) (cc : Fin 768) : EReal :=
  ∑ n : Fin 96, if Idealize.ShloMosaic.IntOp.cmpi .slt (BitVec.ofNat 32 n.val) (cnt b s) = 1#1 then pairOf H W ws b2 P X xs b (q b s n) s cc else 0

open Idealize.ShloMosaic in
/-- The same, from the arrays. -/
def resultOf (x : (⟨3, ![2, 128, 768]⟩ : Shape).Idx → BitVec 8) (xs : (⟨2, ![2, 128]⟩ : Shape).Idx → EReal) (P : (⟨3, ![2, 128, 3]⟩ : Shape).Idx → EReal)
    (cnt : (⟨2, ![2, 128]⟩ : Shape).Idx → BitVec 32) (Q : (⟨3, ![33, 768, 512]⟩ : Shape).Idx → EReal) (S : (⟨3, ![33, 24, 512]⟩ : Shape).Idx → EReal)
    (W : (⟨2, ![768, 768]⟩ : Shape).Idx → EReal) (ws b2 : (⟨1, ![768]⟩ : Shape).Idx → EReal)
    (q : Fin 2 → Fin 128 → Fin 96 → Fin 128) (b : Fin 2) (s : Fin 128) (cc : Fin 768) : EReal :=
  result (hid Q S) (fun r a => W (ix2 r a)) (fun a => ws (ix1 a)) (fun a => b2 (ix1 a)) (fun b s k => P (ix3 b s k))
    (fun b s a => FloatOps.sitofp (F := Ideal) FTy.f32 (x (ix3 b s a))) (fun b s => xs (ix2 b s)) (fun b s => cnt (ix2 b s)) q b s cc

end Cert.Spec
end
-- ==== Proof.Regroup.lean ====
module

public import Idealize.ShloMosaic.Lib.Pointwise

/-! Counting matches trip by trip and weighting a term by the count is the same as one term per neighbour. -/

@[expose] public section

namespace Cert.KernelIdeal.Value

/-- A sum of nonnegative weights distributes over a product, whatever the other factor. -/
theorem sum_mul_of_nonneg {ι : Type} (s : Finset ι) (f : ι → EReal) (hf : ∀ i, 0 ≤ f i) (T : EReal) :
    (∑ i ∈ s, f i) * T = ∑ i ∈ s, f i * T := by
  classical
  induction s using Finset.induction_on with
  | empty => simp
  | insert a s ha ih =>
    rw [Finset.sum_insert ha, Finset.sum_insert ha, EReal.right_distrib_of_nonneg (hf a) (Finset.sum_nonneg fun i _ => hf i), ih]

/-- How many neighbours have parity `e` and offset `o`, as a number. -/
noncomputable def cnt (good : Fin 96 → Prop) [DecidablePred good] (ev : Fin 96 → Fin 2) (ov : Fin 96 → ℕ) (e : Fin 2) (o : ℕ) : EReal :=
  ∑ n : Fin 96, if good n ∧ ev n = e ∧ ov n = o then 1 else 0

theorem cnt_mul (good : Fin 96 → Prop) [DecidablePred good] (ev : Fin 96 → Fin 2) (ov : Fin 96 → ℕ) (e : Fin 2) (o : ℕ) (T : EReal) :
    cnt good ev ov e o * T = ∑ n : Fin 96, if good n ∧ ev n = e ∧ ov n = o then T else 0 := by
  unfold cnt
  rw [sum_mul_of_nonneg _ _ (fun i => by split <;> norm_num)]
  refine Finset.sum_congr rfl fun n _ => ?_
  split <;> simp

/-- The trips together give each valid neighbour its own term once: forward when its offset is at most 32, else backward. -/
theorem regroup (good : Fin 96 → Prop) [DecidablePred good] (ev : Fin 96 → Fin 2) (ov : Fin 96 → ℕ) (hov : ∀ n, ov n < 64)
    (TF TB : Fin 2 → ℕ → EReal) :
    (∑ k : Fin 33, ((cnt good ev ov 0 k.val * TF 0 k.val + cnt good ev ov 1 k.val * TF 1 k.val)
      + ((if k.val = 0 ∨ k.val = 32 then 0 else cnt good ev ov 0 (64 - k.val) * TB 0 k.val)
        + (if k.val = 0 ∨ k.val = 32 then 0 else cnt good ev ov 1 (64 - k.val) * TB 1 k.val))))
      = ∑ n : Fin 96, if good n then (if ov n ≤ 32 then TF (ev n) (ov n) else TB (ev n) (64 - ov n)) else 0 := by
  have hk : ∀ k : Fin 33, ((cnt good ev ov 0 k.val * TF 0 k.val + cnt good ev ov 1 k.val * TF 1 k.val)
      + ((if k.val = 0 ∨ k.val = 32 then 0 else cnt good ev ov 0 (64 - k.val) * TB 0 k.val)
        + (if k.val = 0 ∨ k.val = 32 then 0 else cnt good ev ov 1 (64 - k.val) * TB 1 k.val)))
      = ∑ n : Fin 96, if good n then ((if ov n = k.val then TF (ev n) (ov n) else 0)
          + (if k.val ≠ 0 ∧ k.val ≠ 32 ∧ ov n = 64 - k.val then TB (ev n) (64 - ov n) else 0)) else 0 := by
    intro k
    rw [cnt_mul, cnt_mul]
    have hB : ∀ e : Fin 2, (if k.val = 0 ∨ k.val = 32 then (0 : EReal) else cnt good ev ov e (64 - k.val) * TB e k.val)
        = ∑ n : Fin 96, if good n ∧ ev n = e ∧ (k.val ≠ 0 ∧ k.val ≠ 32 ∧ ov n = 64 - k.val) then TB e k.val else 0 := by
      intro e
      by_cases h : k.val = 0 ∨ k.val = 32
      · rw [if_pos h]
        refine (Finset.sum_eq_zero fun n _ => ?_).symm
        exact if_neg fun h' => by rcases h with h | h <;> simp [h] at h'
      · rw [if_neg h, cnt_mul]
        push Not at h
        refine Finset.sum_congr rfl fun n _ => ?_
        simp [h.1, h.2]
    rw [hB 0, hB 1, ← Finset.sum_add_distrib, ← Finset.sum_add_distrib, ← Finset.sum_add_distrib]
    refine Finset.sum_congr rfl fun n _ => ?_
    by_cases hg : good n
    · have hkk : k.val < 33 := k.isLt
      have e64 : ov n = 64 - k.val → 64 - ov n = k.val := by omega
      have h01 : ((0 : Fin 2) = 1) = False := eq_false (by decide)
      have h10 : ((1 : Fin 2) = 0) = False := eq_false (by decide)
      have hF : ∀ e : Fin 2, (if ov n = k.val then TF e k.val else 0) = (if ov n = k.val then TF e (ov n) else 0) := by
        intro e; split
        · next h => rw [h]
        · rfl
      have hT : ∀ e : Fin 2, (if (k.val ≠ 0 ∧ k.val ≠ 32 ∧ ov n = 64 - k.val) then TB e k.val else 0)
          = (if (k.val ≠ 0 ∧ k.val ≠ 32 ∧ ov n = 64 - k.val) then TB e (64 - ov n) else 0) := by
        intro e; split
        · next h => rw [e64 h.2.2]
        · rfl
      have hev : ev n = 0 ∨ ev n = 1 := by
        generalize ev n = e
        revert e; decide
      rcases hev with he | he
      · rw [he]
        simp only [hg, true_and, if_true, h01, false_and, if_false, add_zero]
        rw [hF, hT]
      · rw [he]
        simp only [hg, true_and, if_true, h10, false_and, if_false, zero_add]
        rw [hF, hT]
    · simp [hg]
  rw [Finset.sum_congr rfl fun k _ => hk k, Finset.sum_comm]
  refine Finset.sum_congr rfl fun n _ => ?_
  by_cases hg : good n
  · simp only [hg, if_true]
    have ho := hov n
    by_cases h : ov n ≤ 32
    · rw [if_pos h, Finset.sum_eq_single (⟨ov n, by omega⟩ : Fin 33)]
      · rw [if_pos rfl, if_neg, add_zero]
        rintro ⟨h1, h2, h3⟩
        simp only at h1 h2 h3
        omega
      · intro k _ hk
        have : k.val ≠ ov n := fun h' => hk (Fin.ext h')
        have hk33 := k.isLt
        rw [if_neg (fun h' => this h'.symm), if_neg, add_zero]
        rintro ⟨h1, h2, h3⟩; omega
      · intro h'; exact absurd (Finset.mem_univ _) h'
    · rw [if_neg h, Finset.sum_eq_single (⟨64 - ov n, by omega⟩ : Fin 33)]
      · rw [if_neg, if_pos, zero_add]
        · simp only; omega
        · simp only; omega
      · intro k _ hk
        have : k.val ≠ 64 - ov n := fun h' => hk (Fin.ext h')
        have hk33 := k.isLt
        rw [if_neg (by omega), if_neg, add_zero]
        rintro ⟨h1, h2, h3⟩; omega
      · intro h'; exact absurd (Finset.mem_univ _) h'
  · simp [hg]

end Cert.KernelIdeal.Value
-- ==== Proof.PrepC.lean ====
module

public import proofs.«01_k».proof.Proof.Gen.KernelIdeal.Value
public import proofs.«01_k».proof.Proof.Lanes
public import Idealize.ShloMosaic.Lib.Pipeline.ValueKit
public import Idealize.ShloMosaic.Lib.Pointwise
public import Idealize.ShloMosaic.Lib.Tactic.RunNames

/-! What the kernel's prepared buffers hold: the input codes times their scales, lane by lane. -/

@[expose] public section

set_option maxRecDepth 16384

noncomputable section
namespace Cert.KernelIdeal.Value
open Idealize.ShloMosaic Idealize.ShloMosaic.TcCoe Idealize.SL.Sem
open Cert.KernelIdeal Cert.KernelIdeal.Gen

theorem sel_eq {α : Type} (a b : Fin 256) (u v : α) :
    Scalar.select (IntOp.cmpi CmpIPredicate.eq (BitVec.ofNat 32 a.val) (BitVec.ofNat 32 b.val)) u v = if a = b then u else v := by
  by_cases h : a = b
  · subst h
    simp [Scalar.select, IntOp.cmpi]
  · have h' : BitVec.ofNat 32 a.val ≠ BitVec.ofNat 32 b.val := fun e => h (Fin.ext (by
      have := congrArg BitVec.toNat e
      simp only [BitVec.toNat_ofNat] at this
      omega))
    have hb : (BitVec.ofNat 32 a.val == BitVec.ofNat 32 b.val) = false := beq_eq_false_iff_ne.mpr h'
    simp [Scalar.select, IntOp.cmpi, h, hb]

/-- A row picked out by a one-hot product. -/
theorem sum_hot (f : Fin 256 → EReal) (b : Fin 256) :
    (∑ x, Scalar.select (IntOp.cmpi CmpIPredicate.eq (BitVec.ofNat 32 x.val) (BitVec.ofNat 32 b.val)) (f x) 0) = f b := by
  simp only [sel_eq]
  rw [Finset.sum_ite_eq' Finset.univ b f, if_pos (Finset.mem_univ b)]

theorem l_src0 (n : ℕ) (h : n < 128) :
    IntOp.addi (IntOp.addi (IntOp.muli (BitVec.ofNat 32 (n % 2)) 128#32) (IntOp.muli (2#32) (BitVec.ofNat 32 (n / 2)))) 0#32
      = BitVec.ofNat 32 (n % 2 * 128 + 2 * (n / 2)) :=
  (by decide +kernel : ∀ k : Fin 128,
    IntOp.addi (IntOp.addi (IntOp.muli (BitVec.ofNat 32 (k.val % 2)) 128#32) (IntOp.muli (2#32) (BitVec.ofNat 32 (k.val / 2)))) 0#32
      = BitVec.ofNat 32 (k.val % 2 * 128 + 2 * (k.val / 2))) ⟨n, h⟩

theorem l_src1 (n : ℕ) (h : n < 128) :
    IntOp.addi (IntOp.addi (IntOp.muli (BitVec.ofNat 32 (n % 2)) 128#32) (IntOp.muli (2#32) (BitVec.ofNat 32 (n / 2)))) 1#32
      = BitVec.ofNat 32 (n % 2 * 128 + 2 * (n / 2) + 1) :=
  (by decide +kernel : ∀ k : Fin 128,
    IntOp.addi (IntOp.addi (IntOp.muli (BitVec.ofNat 32 (k.val % 2)) 128#32) (IntOp.muli (2#32) (BitVec.ofNat 32 (k.val / 2)))) 1#32
      = BitVec.ofNat 32 (k.val % 2 * 128 + 2 * (k.val / 2) + 1)) ⟨n, h⟩

theorem s_two : Scalar.select (Scalar.cmpi CmpIPredicate.eq 2#32 0#32) 1#32 2#32 = 2#32 := by decide +kernel
theorem s_neg : Scalar.cmpi CmpIPredicate.slt 2#32 0#32 = 0#1 := by decide +kernel
theorem s_sgn : Scalar.subi (Scalar.extui (Scalar.cmpi CmpIPredicate.sgt 2#32 0#32) : BitVec 32)
    (Scalar.extui (Scalar.cmpi CmpIPredicate.slt 2#32 0#32)) = 1#32 := by decide +kernel

set_option maxHeartbeats 4000000 in
/-- The scaled features: parity `e`, channel `cc`, lane `l`. -/
theorem xt_val (c : Dev nD) (arg0 : Memref sig .tc .vmem S2x128x768 .i8) (harg0 : arg0.IsWhole) (arg1 : Memref sig .tc .vmem S2x128 .f32) (harg1 : arg1.IsWhole)
    (x0 : Vec Ideal S2x128x768 .i8) (x1 : Vec Ideal S2x128 .f32)
    (e : Fin 2) (cc : Fin 768) (l : Fin 128) : View.canon (kernelRun0_A.sl.HS3_2 (F := Ideal) c arg0 harg0 arg1 harg1 x0 x1) (ix3 e cc l)
      = (pk (fun b a => (FloatOps.sitofp (F := Ideal) FTy.f32 (x0 (ix3 b a cc)) : EReal)) e l * pk (fun b a => x1 (ix2 b a)) e l : EReal) := by
  sl_unfold_words
  canon_tiles x h
  case piece0 =>
    open_payloads
    pointwise [View.readAt_eq_ld, harg0.read_unread, harg1.read_unread]
    change e.val = _ at h0
    change cc.val = _ at h1
    change l.val = _ at h2
    have hp : e = 1 := Fin.ext (show e.val = 1 by omega)
    have hx : x 1 = cc := Fin.ext h1.symm
    subst hp
    simp only [← h1, ← h2, hx]
    have hl := l.isLt
    try simp only [s_two, s_sgn]
    try simp only [s_neg]
    simp only [l_mod _ hl, l_div _ hl, l_take0 _ hl, l_take1 _ hl, l_sel, l_src0 _ hl, l_src1 _ hl]
    rw [pk1 (fun b a => x1 (ix2 b a))]
    congr 1
    have e := sum_hot (fun x => (FloatOps.sitofp (F := Ideal) FTy.f32 (x0 (ix3 ⟨x.val / 128, by omega⟩ ⟨x.val % 128, by omega⟩ cc)) : EReal)) ⟨l.val % 2 * 128 + 2 * (l.val / 2) + 1, by omega⟩
    refine e.trans ?_
    unfold pk
    dsimp only
    congr 2
    exact congrArg₂ (fun u v => ix3 u v cc) (Fin.ext (by dsimp only; omega)) (Fin.ext (by show _ = 2 * (l.val / 2) + 1; dsimp only; omega))
  case piece1 =>
    open_payloads
    pointwise [View.readAt_eq_ld, harg0.read_unread, harg1.read_unread]
    change e.val = _ at h0
    change cc.val = _ at h1
    change l.val = _ at h2
    have hp : e = 0 := Fin.ext (show e.val = 0 by omega)
    have hx : x 1 = cc := Fin.ext h1.symm
    subst hp
    simp only [← h1, ← h2, hx]
    have hl := l.isLt
    try simp only [s_two, s_sgn]
    try simp only [s_neg]
    simp only [l_mod _ hl, l_div _ hl, l_take0 _ hl, l_take1 _ hl, l_sel, l_src0 _ hl, l_src1 _ hl]
    rw [pk0 (fun b a => x1 (ix2 b a))]
    congr 1
    have e := sum_hot (fun x => (FloatOps.sitofp (F := Ideal) FTy.f32 (x0 (ix3 ⟨x.val / 128, by omega⟩ ⟨x.val % 128, by omega⟩ cc)) : EReal)) ⟨l.val % 2 * 128 + 2 * (l.val / 2), by omega⟩
    refine e.trans ?_
    unfold pk
    dsimp only
    congr 2
    exact congrArg₂ (fun u v => ix3 u v cc) (Fin.ext (by dsimp only; omega)) (Fin.ext (by show _ = 2 * (l.val / 2) + 0; dsimp only; omega))

end Cert.KernelIdeal.Value
end
-- ==== Proof.PrepD.lean ====
module

public import proofs.«01_k».proof.Proof.Gen.KernelIdeal.Value
public import proofs.«01_k».proof.Proof.PrepC
public import Idealize.ShloMosaic.Lib.Pipeline.ValueKit
public import Idealize.ShloMosaic.Lib.Pointwise
public import Idealize.ShloMosaic.Lib.Tactic.RunNames

/-! What the kernel's prepared buffers hold: how often a pair of atoms is listed, lane by lane. -/

@[expose] public section

set_option maxRecDepth 16384

noncomputable section
namespace Cert.KernelIdeal.Value
open Idealize.ShloMosaic Idealize.ShloMosaic.TcCoe Idealize.SL.Sem
open Cert.KernelIdeal Cert.KernelIdeal.Gen

theorem sum96 (f : Fin 96 → EReal) : ∑ k, f k = ∑ k ∈ Finset.range 96, f (Fin.ofNat 96 k) := by
  rw [Finset.sum_range]
  exact Finset.sum_congr rfl fun k _ => congrArg f (Fin.ext (Nat.mod_eq_of_lt k.isLt).symm)

/-- A word modulo two and its half, as the kernel computes them. -/
def modw (b : BitVec 32) : BitVec 32 :=
  Scalar.select (IntOp.andi (IntOp.xori (IntOp.cmpi CmpIPredicate.slt (IntOp.remsi ArithUnit.vector b 2#32) 0#32) 0#1)
      (IntOp.cmpi CmpIPredicate.ne (IntOp.remsi ArithUnit.vector b 2#32) 0#32))
    (IntOp.addi (IntOp.remsi ArithUnit.vector b 2#32) 2#32) (IntOp.remsi ArithUnit.vector b 2#32)
def divw (b : BitVec 32) : BitVec 32 :=
  Scalar.select (IntOp.andi (IntOp.cmpi CmpIPredicate.ne (IntOp.subi (BitVec.setWidth 32 (IntOp.cmpi CmpIPredicate.sgt b 0#32))
      (BitVec.setWidth 32 (IntOp.cmpi CmpIPredicate.slt b 0#32))) 1#32) (IntOp.cmpi CmpIPredicate.ne (IntOp.remsi ArithUnit.vector b 2#32) 0#32))
    (IntOp.subi (IntOp.divsi ArithUnit.vector b 2#32) 1#32) (IntOp.divsi ArithUnit.vector b 2#32)

/-- The count row a neighbour entry adds to: the neighbour's parity and its distance from the atom, or no row. -/
def vw (k : BitVec 32) (cnt nb : BitVec 32) (a : ℕ) : BitVec 32 :=
  Scalar.select (IntOp.cmpi CmpIPredicate.slt k cnt)
    (IntOp.addi (IntOp.muli (modw nb) 64#32) (IntOp.andi (IntOp.subi (divw nb) (divw (BitVec.ofNat 32 a))) 63#32)) 4294967295#32

set_option maxHeartbeats 16000000 in
/-- The counts: atom parity `e`, row `r`, lane `l`. -/
theorem m_val (c : Dev nD) (arg3 : Memref sig .tc .vmem S2x96x128 .i32) (harg3 : arg3.IsWhole) (arg4 : Memref sig .tc .vmem S2x128 .i32) (harg4 : arg4.IsWhole)
    (x3 : Vec Ideal S2x96x128 .i32) (x4 : Vec Ideal S2x128 .i32)
    (e : Fin 2) (r : Fin 128) (l : Fin 128) : View.canon (kernelRun0_A.sl.HS6_2 (F := Ideal) c arg3 harg3 arg4 harg4 x3 x4) (ix3 e r l)
      = (∑ k : Fin 96, Scalar.select (IntOp.cmpi CmpIPredicate.eq (BitVec.ofNat 32 r.val)
          (pk (fun b a => vw (BitVec.ofNat 32 k.val) (x4 (ix2 b a)) (x3 (ix3 b k a)) a.val) e l)) 1 0 : EReal) := by
  sl_unfold_words
  canon_tiles x h
  case piece1 =>
    change e.val = _ at h0
    change r.val = _ at h1
    change l.val = _ at h2
    have hp : e = 0 := Fin.ext (show e.val = 0 by omega)
    have hx : x 2 = l := Fin.ext h2.symm
    subst hp
    unfold k0_pay558 k0_pay559
    generalize hV : k0_pay557 _ _ _ _ = V
    open_payloads
    pointwise
    have hv : ∀ k : Fin 96, V (ix2 k l) = pk (fun b a => vw (BitVec.ofNat 32 k.val) (x4 (ix2 b a)) (x3 (ix3 b k a)) a.val) 0 l := by
      intro k
      rw [← hV]
      open_payloads
      pointwise [View.readAt_eq_ld, harg3.read_unread, harg4.read_unread]
      have hl := l.isLt
      try simp only [s_two, s_sgn]
      try simp only [s_neg]
      simp only [l_mod _ hl, l_div _ hl, l_take0 _ hl, l_take1 _ hl, l_sel]
      simp only [pk0, pk1, vw, modw, divw]
    simp only [← hv, ← h1, hx, sum96, Finset.sum_range_succ, Finset.sum_range_zero, zero_add]
    rfl
  case piece0 =>
    change e.val = _ at h0
    change r.val = _ at h1
    change l.val = _ at h2
    have hp : e = 1 := Fin.ext (show e.val = 1 by omega)
    have hx : x 2 = l := Fin.ext h2.symm
    subst hp
    unfold k0_pay589
    generalize hV : k0_pay588 _ _ _ _ = V
    open_payloads
    pointwise
    have hv : ∀ k : Fin 96, V (ix2 k l) = pk (fun b a => vw (BitVec.ofNat 32 k.val) (x4 (ix2 b a)) (x3 (ix3 b k a)) a.val) 1 l := by
      intro k
      rw [← hV]
      open_payloads
      pointwise [View.readAt_eq_ld, harg3.read_unread, harg4.read_unread]
      have hl := l.isLt
      try simp only [s_two, s_sgn]
      try simp only [s_neg]
      simp only [l_mod _ hl, l_div _ hl, l_take0 _ hl, l_take1 _ hl, l_sel]
      simp only [pk0, pk1, vw, modw, divw]
    simp only [← hv, ← h1, hx, sum96, Finset.sum_range_succ, Finset.sum_range_zero, zero_add]
    rfl

end Cert.KernelIdeal.Value
end
-- ==== Proof.Words.lean ====
module

public import proofs.«01_k».proof.Proof.Gen.KernelIdeal.Loops
public import Idealize.ShloMosaic.Lib.Pipeline.ValueKit
public import Idealize.ShloMosaic.Lib.Pointwise

/-! What the loop's index words are as numbers, trip by trip, and the contribution of one trip to the accumulator. -/

@[expose] public section

set_option maxRecDepth 16384

noncomputable section

namespace Cert.KernelIdeal.Value

open Idealize.ShloMosaic Idealize.ShloMosaic.TcCoe Idealize.SL.Sem
open Cert.KernelIdeal Cert.KernelIdeal.Gen

theorem trips_eq : k0_t1_loop.trips = 33 := by decide

/-- The induction variable as a row number. -/
theorem w_iv : ∀ k : Fin 33, (Scalar.indexCast (Scf.iv 0#32 1#32 k.val)).toNat = k.val := by decide
/-- The row of the distance table. -/
theorem w_r : ∀ k : Fin 33, (Scalar.indexCast (Scalar.subi 32#32 (Scf.iv 0#32 1#32 k.val))).toNat = 32 - k.val := by decide
/-- The row of the reversed counts. -/
theorem w_back : ∀ k : Fin 33,
    (Scalar.indexCast (Scalar.andi (Scalar.subi 64#32 (Scf.iv 0#32 1#32 k.val)) 63#32)).toNat = (64 - k.val) % 64 := by decide
theorem w_m0 : ∀ k : Fin 33, (Scalar.indexCast (Scalar.addi 0#32 (Scf.iv 0#32 1#32 k.val))).toNat = k.val := by decide
theorem w_m1 : ∀ k : Fin 33, (Scalar.indexCast (Scalar.addi 64#32 (Scf.iv 0#32 1#32 k.val))).toNat = 64 + k.val := by decide
/-- The rotation of the neighbours' features. -/
theorem w_fs : ∀ k : Fin 33,
    (Scalar.andi (Scalar.subi 128#32 (Scalar.muli 2#32 (Scf.iv 0#32 1#32 k.val))) 127#32).toNat = (128 - 2 * k.val) % 128 := by
  decide
/-- The rotation of the backward sums. -/
theorem w_bs : ∀ k : Fin 33, (Scalar.muli 2#32 (Scf.iv 0#32 1#32 k.val)).toNat = 2 * k.val := by decide

/-- The two steps whose pairs are met once only. -/
def edge (k : ℕ) : Prop := k = 0 ∨ k = 32
instance (k : ℕ) : Decidable (edge k) := by unfold edge; infer_instance

theorem w_cond : ∀ k : Fin 33, (Scalar.ori (Scalar.cmpi CmpIPredicate.eq (Scf.iv 0#32 1#32 k.val) 0#32)
      (Scalar.cmpi CmpIPredicate.eq (Scf.iv 0#32 1#32 k.val) 32#32) = 1) ↔ edge k.val := by decide

theorem w_sel (k : Fin 33) (a b : EReal) : Scalar.select (Scalar.ori (Scalar.cmpi CmpIPredicate.eq (Scf.iv 0#32 1#32 k.val) 0#32)
      (Scalar.cmpi CmpIPredicate.eq (Scf.iv 0#32 1#32 k.val) 32#32)) a b = if edge k.val then a else b := by
  unfold Scalar.select
  by_cases h : edge k.val
  · rw [if_pos ((w_cond k).mpr h), if_pos h]
  · rw [if_neg (fun e => h ((w_cond k).mp e)), if_neg h]

section
variable (H : Fin 33 → Fin 768 → Fin 512 → EReal) (A10 : FVec Ideal S768x768 .bf16) (A11 A12 : FVec Ideal S768x128 .f32)
  (A13 : FVec Ideal S2x768x128 .f32) (A15 : FVec Ideal S4x40x128 .f32) (A16 : FVec Ideal S2x128x128 .f32)
  (A17 : FVec Ideal S2x2x64x128 .f32)

/-- The dequantised hidden features of step `k`: code times its group's scale. -/
def hdv (Q : FVec Ideal S33x768x512 .fp8e4m3) (S : FVec Ideal S33x24x512 .f32) (k : Fin 33) (r : Fin 768) (q : Fin 512) : EReal :=
  Q (ix3 k r q) * S (ix3 k ⟨r.val / 32, by omega⟩ q)

/-- The filter value of pair kind `p` at step `k`, channel `cc`, lane `l`: the second product, scaled, plus the bias. -/
def Wf (k : Fin 33) (p : Fin 4) (cc : Fin 768) (l : Fin 128) : EReal :=
  (∑ r : Fin 768, A10 (ix2 cc r) * H k r ⟨128 * p.val + l.val, by omega⟩) * A11 (ix2 cc l) + A12 (ix2 cc l)

/-- The forward term. -/
def Fw (k : Fin 33) (d e : Fin 2) (p : Fin 4) (cc : Fin 768) (l : Fin 128) : EReal :=
  Wf H A10 A11 A12 k p cc l * (A15 (ix3 p ⟨32 - k.val, by omega⟩ l) * A16 (ix3 d ⟨64 * e.val + k.val, by omega⟩ l)
    * A13 (ix3 e cc ⟨(l.val + 128 - (128 - 2 * k.val) % 128) % 128, Nat.mod_lt _ (by decide)⟩))

/-- The backward term, before its rotation. -/
def Bw (k : Fin 33) (d e : Fin 2) (p : Fin 4) (cc : Fin 768) (l : Fin 128) : EReal :=
  if edge k.val then 0 else
  Wf H A10 A11 A12 k p cc l * (A15 (ix3 p ⟨32 - k.val, by omega⟩ l) * A17 (ix4 d e ⟨(64 - k.val) % 64, Nat.mod_lt _ (by decide)⟩ l)
    * A13 (ix3 e cc l))

/-- The lane a backward sum comes from. -/
def src (k : Fin 33) (l : Fin 128) : Fin 128 := ⟨(l.val + 128 - 2 * k.val % 128) % 128, Nat.mod_lt _ (by decide)⟩

/-- What step `k` adds to the accumulator of atom parity `d`. -/
def inc (k : Fin 33) (d : Fin 2) (cc : Fin 768) (l : Fin 128) : EReal :=
  if d = 0 then
    (Fw H A10 A11 A12 A13 A15 A16 k 0 0 0 cc l + Fw H A10 A11 A12 A13 A15 A16 k 0 1 1 cc l)
      + (Bw H A10 A11 A12 A13 A15 A17 k 0 0 0 cc (src k l) + Bw H A10 A11 A12 A13 A15 A17 k 0 1 2 cc (src k l))
  else
    (Fw H A10 A11 A12 A13 A15 A16 k 1 0 2 cc l + Fw H A10 A11 A12 A13 A15 A16 k 1 1 3 cc l)
      + (Bw H A10 A11 A12 A13 A15 A17 k 1 0 1 cc (src k l) + Bw H A10 A11 A12 A13 A15 A17 k 1 1 3 cc (src k l))

theorem inc_zero (k : Fin 33) (cc : Fin 768) (l : Fin 128) : inc H A10 A11 A12 A13 A15 A16 A17 k 0 cc l =
    (Fw H A10 A11 A12 A13 A15 A16 k 0 0 0 cc l + Fw H A10 A11 A12 A13 A15 A16 k 0 1 1 cc l)
      + (Bw H A10 A11 A12 A13 A15 A17 k 0 0 0 cc (src k l) + Bw H A10 A11 A12 A13 A15 A17 k 0 1 2 cc (src k l)) :=
  if_pos rfl

theorem inc_one (k : Fin 33) (cc : Fin 768) (l : Fin 128) : inc H A10 A11 A12 A13 A15 A16 A17 k 1 cc l =
    (Fw H A10 A11 A12 A13 A15 A16 k 1 0 2 cc l + Fw H A10 A11 A12 A13 A15 A16 k 1 1 3 cc l)
      + (Bw H A10 A11 A12 A13 A15 A17 k 1 0 1 cc (src k l) + Bw H A10 A11 A12 A13 A15 A17 k 1 1 3 cc (src k l)) :=
  if_neg (by decide)
end

theorem f4_0 : ((0 : Fin 4) : ℕ) = 0 := rfl
theorem f4_1 : ((1 : Fin 4) : ℕ) = 1 := rfl
theorem f4_2 : ((2 : Fin 4) : ℕ) = 2 := rfl
theorem f4_3 : ((3 : Fin 4) : ℕ) = 3 := rfl
theorem f2_0 : ((0 : Fin 2) : ℕ) = 0 := rfl
theorem f2_1 : ((1 : Fin 2) : ℕ) = 1 := rfl

end Cert.KernelIdeal.Value

end
-- ==== Proof.Kern.lean ====
module

public import proofs.«01_k».proof.Proof.Spec
public import proofs.«01_k».proof.Proof.Regroup
public import proofs.«01_k».proof.Proof.PrepD
public import proofs.«01_k».proof.Proof.Words

/-! The sum over trips of the kernel, from the values of its prepared buffers, is the sum over listed neighbours. -/

@[expose] public section

set_option maxRecDepth 16384

noncomputable section
namespace Cert.KernelIdeal.Value
open Idealize.ShloMosaic Idealize.ShloMosaic.TcCoe Idealize.SL.Sem
open Cert.Spec Cert.KernelIdeal Cert.KernelIdeal.Gen

theorem sq_symm (x y : EReal) : (x - y) * (x - y) = (y - x) * (y - x) := by
  induction x <;> induction y <;> first | rfl | skip
  rename_i a b
  norm_cast
  ring

theorem sqd_symm (u v : Fin 3 → EReal) : sqd u v = sqd v u := by
  unfold sqd
  rw [sq_symm (u 0), sq_symm (u 1), sq_symm (u 2)]

theorem modw_of (j : Fin 128) : modw (BitVec.ofNat 32 j.val) = BitVec.ofNat 32 (j.val % 2) := l_mod _ j.isLt
theorem divw_of (j : Fin 128) : divw (BitVec.ofNat 32 j.val) = BitVec.ofNat 32 (j.val / 2) := l_div _ j.isLt

/-- The row word of an in-range neighbour. -/
theorem vw_of (k cnt : BitVec 32) (j s : Fin 128) :
    vw k cnt (BitVec.ofNat 32 j.val) s.val
      = Scalar.select (IntOp.cmpi CmpIPredicate.slt k cnt) (BitVec.ofNat 32 (64 * (j.val % 2) + off j s)) 4294967295#32 := by
  have h2 : ∀ a b : Fin 64, IntOp.andi (IntOp.subi (BitVec.ofNat 32 a.val) (BitVec.ofNat 32 b.val)) 63#32 = BitVec.ofNat 32 ((a.val + 64 - b.val) % 64) := by
    decide +kernel
  unfold vw
  rw [modw_of, divw_of, divw_of]
  have := h2 ⟨j.val / 2, by omega⟩ ⟨s.val / 2, by omega⟩
  simp only at this
  rw [this]
  unfold off
  rw [BitVec.ofNat_add, BitVec.ofNat_mul, BitVec.mul_comm]
  rfl

theorem row_iff (k cnt : BitVec 32) (j s : Fin 128) (r : ℕ) (hr : r < 128) :
    (Scalar.select (IntOp.cmpi CmpIPredicate.eq (BitVec.ofNat 32 r) (vw k cnt (BitVec.ofNat 32 j.val) s.val)) (1 : EReal) 0)
      = if IntOp.cmpi CmpIPredicate.slt k cnt = 1#1 ∧ 64 * (j.val % 2) + off j s = r then 1 else 0 := by
  have ho := off_lt j s
  rw [vw_of]
  have hw : ∀ w : BitVec 1, w = 0#1 ∨ w = 1#1 := by decide
  have heq : ∀ a b : BitVec 32, IntOp.cmpi CmpIPredicate.eq a b = if a = b then 1#1 else 0#1 := fun a b => by
    by_cases h : a = b
    · subst h; simp [IntOp.cmpi]
    · rw [if_neg h]
      show BitVec.ofBool (a == b) = 0#1
      rw [beq_eq_false_iff_ne.mpr h]
      rfl
  rcases hw (IntOp.cmpi CmpIPredicate.slt k cnt) with h | h
  · rw [h, if_neg (by intro h; exact absurd h.1 (by decide)), heq, if_neg]
    · rfl
    · show ¬ BitVec.ofNat 32 r = 4294967295#32
      intro e
      have := congrArg BitVec.toNat e
      simp at this
      omega
  · rw [h, heq]
    show Scalar.select (if BitVec.ofNat 32 r = BitVec.ofNat 32 (64 * (j.val % 2) + off j s) then 1#1 else 0#1) 1 0 = _
    by_cases e : 64 * (j.val % 2) + off j s = r
    · rw [if_pos (by rw [e]), if_pos ⟨rfl, e⟩]; rfl
    · rw [if_neg, if_neg (fun h => e h.2)]
      · rfl
      · intro e'
        have := congrArg BitVec.toNat e'
        simp at this
        omega

theorem row_lt (d : Fin 2) (r : Fin 64) : 64 * d.val + r.val < 128 := by omega
theorem two_lt (s : Fin 128) : s.val % 2 < 2 := by omega
theorem lane_lt (s : Fin 128) (b : Fin 2) : 2 * (s.val / 2) + b.val < 128 := by omega
theorem nbr_lt (s : Fin 128) (e : Fin 2) (o : ℕ) : 2 * ((s.val / 2 + o) % 64) + e.val < 128 := by omega

/-- The atom of parity e at pair offset o from atom s. -/
def nbr (s : Fin 128) (e : Fin 2) (o : ℕ) : Fin 128 := ⟨2 * ((s.val / 2 + o) % 64) + e.val, nbr_lt s e o⟩

/-- The parity of an atom. -/
def par (q : Fin 128) : Fin 2 := ⟨q.val % 2, two_lt q⟩

theorem nbr_off (s q : Fin 128) : nbr s (par q) (off q s) = q := by
  refine Fin.ext ?_
  show 2 * ((s.val / 2 + (q.val / 2 + 64 - s.val / 2) % 64) % 64) + q.val % 2 = q.val
  omega

theorem pk_at {α : Type} (f : Fin 2 → Fin 128 → α) (e : Fin 2) (l : Fin 128) (b : Fin 2) (s : Fin 128) (hb : l.val % 2 = b.val)
    (hs : 2 * (l.val / 2) + e.val = s.val) : pk f e l = f b s :=
  congrArg₂ f (Fin.ext hb) (Fin.ext hs)

section
variable (H : Fin 33 → Fin 768 → Fin 512 → EReal) (A10 : FVec Ideal S768x768 .bf16) (A11 A12 : FVec Ideal S768x128 .f32)
  (A13 : FVec Ideal S2x768x128 .f32) (A15 : FVec Ideal S4x40x128 .f32) (A16 : FVec Ideal S2x128x128 .f32) (A17 : FVec Ideal S2x2x64x128 .f32)
  (W : Fin 768 → Fin 768 → EReal) (ws b2 : Fin 768 → EReal)
  (P : Fin 2 → Fin 128 → Fin 3 → EReal) (X : Fin 2 → Fin 128 → Fin 768 → EReal) (xs : Fin 2 → Fin 128 → EReal)
  (cn : Fin 2 → Fin 128 → BitVec 32) (q : Fin 2 → Fin 128 → Fin 96 → Fin 128)
  (h10 : ∀ p r, A10 (ix2 p r) = W r p) (h11 : ∀ p l, A11 (ix2 p l) = ws p) (h12 : ∀ p l, A12 (ix2 p l) = b2 p)
  (h13 : ∀ e cc l, A13 (ix3 e cc l) = (pk (fun b a => X b a cc) e l * pk xs e l : EReal))
  (h15 : ∀ p r l, A15 (ix3 p r l) = cutq (sqd (fun k => pk (fun b a => P b a k) (pb p) ⟨(l.val + 128 - (64 + 2 * r.val) % 128) % 128, Nat.mod_lt _ (by decide)⟩)
          (fun k => pk (fun b a => P b a k) (pa p) l)))
  (h16 : ∀ e r l, A16 (ix3 e r l) = (∑ n : Fin 96, Scalar.select (IntOp.cmpi CmpIPredicate.eq (BitVec.ofNat 32 r.val)
          (pk (fun b a => vw (BitVec.ofNat 32 n.val) (cn b a) (BitVec.ofNat 32 (q b a n).val) a.val) e l)) 1 0 : EReal))
  (h17 : ∀ e d r l, A17 (ix4 e d r l) = A16 (ix3 e ⟨64 * d.val + r.val, row_lt d r⟩ ⟨(l.val + 128 - 2 * r.val % 128) % 128, Nat.mod_lt _ (by decide)⟩))
  (b : Fin 2) (s : Fin 128) (cc : Fin 768)

/-- What a neighbour carries besides its filter. -/
def carry (j : Fin 128) : EReal := cutq (sqd (P b j) (P b s)) * (X b j cc * xs b j)

def TF (e : Fin 2) (k : ℕ) : EReal :=
  if h : k < 33 then filt H W ws b2 ⟨k, h⟩ (col b s (nbr s e k)) cc * carry P X xs b s cc (nbr s e k) else 0

def TB (e : Fin 2) (k : ℕ) : EReal :=
  if h : k < 33 then filt H W ws b2 ⟨k, h⟩ (col b (nbr s e (64 - k)) s) cc * carry P X xs b s cc (nbr s e (64 - k)) else 0

def good (n : Fin 96) : Prop := IntOp.cmpi .slt (BitVec.ofNat 32 n.val) (cn b s) = 1#1
instance (n : Fin 96) : Decidable (good cn b s n) := by unfold good; infer_instance

include h16 in
theorem cnt_at (e : Fin 2) (o : ℕ) (ho : o < 64) (r : Fin 128) (hr : r.val = 64 * e.val + o) (d : Fin 2) (l : Fin 128)
    (hd : d.val = s.val % 2) (hl : l.val = 2 * (s.val / 2) + b.val) :
    A16 (ix3 d r l) = cnt (good cn b s) (fun n => par (q b s n)) (fun n => off (q b s n) s) e o := by
  rw [h16]
  unfold cnt
  refine Finset.sum_congr rfl fun n _ => ?_
  rw [pk_at _ d l b s (by omega) (by omega), row_iff _ _ _ _ _ r.isLt]
  have ho' := off_lt (q b s n) s
  refine if_congr ?_ rfl rfl
  refine and_congr Iff.rfl ?_
  rw [hr]
  constructor
  · intro h
    exact ⟨Fin.ext (show (q b s n).val % 2 = e.val by omega), by show off (q b s n) s = o; omega⟩
  · rintro ⟨h1, h2⟩
    have h1' : (q b s n).val % 2 = e.val := congrArg Fin.val h1
    have h2' : off (q b s n) s = o := h2
    omega

include h10 h11 h12 in
theorem W_at (k : Fin 33) (p : Fin 4) (l : Fin 128) (cl : Fin 512) (hc : cl.val = 128 * p.val + l.val) :
    Wf H A10 A11 A12 k p cc l = filt H W ws b2 k cl cc := by
  unfold Wf filt
  rw [h11, h12]
  refine congrArg (fun z => z * ws cc + b2 cc) (Finset.sum_congr rfl fun r _ => ?_)
  rw [h10, mul_comm]
  exact congrArg (fun z => H k r z * W r cc) (Fin.ext hc.symm)

include h10 h11 h12 h13 h15 h16 in
theorem Fw_at (k : Fin 33) (d e : Fin 2) (p : Fin 4) (hp : p.val = 2 * d.val + e.val) (l : Fin 128)
    (hd : d.val = s.val % 2) (hl : l.val = 2 * (s.val / 2) + b.val) :
    Fw H A10 A11 A12 A13 A15 A16 k d e p cc l
      = cnt (good cn b s) (fun n => par (q b s n)) (fun n => off (q b s n) s) e k.val * TF H W ws b2 P X xs b s cc e k.val := by
  unfold Fw TF carry
  rw [dif_pos k.isLt, cnt_at A16 cn q h16 b s e k.val (by omega) _ rfl d l hd hl,
    W_at H A10 A11 A12 W ws b2 h10 h11 h12 cc k p l (col b s (nbr s e k.val))
      (by show 256 * (s.val % 2) + 128 * ((2 * ((s.val / 2 + k.val) % 64) + e.val) % 2) + 2 * (s.val / 2) + b.val = _; omega), h13, h15,
    pk_at _ e _ b (nbr s e k.val) (by show (l.val + 128 - (128 - 2 * k.val) % 128) % 128 % 2 = _; omega)
      (by show 2 * ((l.val + 128 - (128 - 2 * k.val) % 128) % 128 / 2) + e.val = 2 * ((s.val / 2 + k.val) % 64) + e.val; omega),
    pk_at xs e _ b (nbr s e k.val) (by show (l.val + 128 - (128 - 2 * k.val) % 128) % 128 % 2 = _; omega)
      (by show 2 * ((l.val + 128 - (128 - 2 * k.val) % 128) % 128 / 2) + e.val = 2 * ((s.val / 2 + k.val) % 64) + e.val; omega)]
  have e1 : (fun q => pk (fun b a => P b a q) (pb p) ⟨(l.val + 128 - (64 + 2 * (32 - k.val)) % 128) % 128, Nat.mod_lt _ (by decide)⟩) = P b (nbr s e k.val) := by
    funext i
    exact pk_at _ _ _ b (nbr s e k.val) (by show (l.val + 128 - (64 + 2 * (32 - k.val)) % 128) % 128 % 2 = _; omega)
      (by show 2 * ((l.val + 128 - (64 + 2 * (32 - k.val)) % 128) % 128 / 2) + p.val % 2 = 2 * ((s.val / 2 + k.val) % 64) + e.val; omega)
  have e2 : (fun q => pk (fun b a => P b a q) (pa p) l) = P b s := by
    funext i
    exact pk_at _ _ _ b s (by omega) (by show 2 * (l.val / 2) + p.val / 2 = _; omega)
  rw [e1, e2]
  ac_rfl

include h10 h11 h12 h13 h15 h16 h17 in
theorem Bw_at (k : Fin 33) (d e : Fin 2) (p : Fin 4) (hp : p.val = 2 * e.val + d.val) (l : Fin 128)
    (hd : d.val = s.val % 2) (hl : l.val = 2 * (s.val / 2) + b.val) :
    Bw H A10 A11 A12 A13 A15 A17 k d e p cc (src k l)
      = if k.val = 0 ∨ k.val = 32 then 0 else cnt (good cn b s) (fun n => par (q b s n)) (fun n => off (q b s n) s) e (64 - k.val) * TB H W ws b2 P X xs b s cc e k.val := by
  unfold Bw
  by_cases hk : edge k.val
  · rw [if_pos hk]
    exact (if_pos hk).symm
  rw [if_neg hk]
  refine Eq.trans ?_ (if_neg hk).symm
  unfold edge at hk
  unfold TB carry
  rw [dif_pos k.isLt, h17, cnt_at A16 cn q h16 b s e (64 - k.val) (by omega) _ (by show 64 * e.val + (64 - k.val) % 64 = _; omega) d _ hd
      (by show ((l.val + 128 - 2 * k.val % 128) % 128 + 128 - 2 * ((64 - k.val) % 64) % 128) % 128 = _; omega),
    W_at H A10 A11 A12 W ws b2 h10 h11 h12 cc k p (src k l) (col b (nbr s e (64 - k.val)) s)
      (by show 256 * ((2 * ((s.val / 2 + (64 - k.val)) % 64) + e.val) % 2) + 128 * (s.val % 2) + 2 * ((2 * ((s.val / 2 + (64 - k.val)) % 64) + e.val) / 2) + b.val
            = 128 * p.val + (l.val + 128 - 2 * k.val % 128) % 128; omega), h13, h15,
    pk_at _ e _ b (nbr s e (64 - k.val)) (by show (l.val + 128 - 2 * k.val % 128) % 128 % 2 = _; omega)
      (by show 2 * ((l.val + 128 - 2 * k.val % 128) % 128 / 2) + e.val = 2 * ((s.val / 2 + (64 - k.val)) % 64) + e.val; omega),
    pk_at xs e _ b (nbr s e (64 - k.val)) (by show (l.val + 128 - 2 * k.val % 128) % 128 % 2 = _; omega)
      (by show 2 * ((l.val + 128 - 2 * k.val % 128) % 128 / 2) + e.val = 2 * ((s.val / 2 + (64 - k.val)) % 64) + e.val; omega)]
  have e1 : (fun q => pk (fun b a => P b a q) (pb p) ⟨((src k l).val + 128 - (64 + 2 * (32 - k.val)) % 128) % 128, Nat.mod_lt _ (by decide)⟩) = P b s := by
    funext i
    exact pk_at _ _ _ b s (by show ((l.val + 128 - 2 * k.val % 128) % 128 + 128 - (64 + 2 * (32 - k.val)) % 128) % 128 % 2 = _; omega)
      (by show 2 * (((l.val + 128 - 2 * k.val % 128) % 128 + 128 - (64 + 2 * (32 - k.val)) % 128) % 128 / 2) + p.val % 2 = s.val; omega)
  have e2 : (fun q => pk (fun b a => P b a q) (pa p) (src k l)) = P b (nbr s e (64 - k.val)) := by
    funext i
    exact pk_at _ _ _ b (nbr s e (64 - k.val)) (by show (l.val + 128 - 2 * k.val % 128) % 128 % 2 = _; omega)
      (by show 2 * ((l.val + 128 - 2 * k.val % 128) % 128 / 2) + p.val / 2 = 2 * ((s.val / 2 + (64 - k.val)) % 64) + e.val; omega)
  rw [e1, e2, sqd_symm (P b s)]
  ac_rfl

include h10 h11 h12 h13 h15 h16 h17 in
theorem inc_at (k : Fin 33) : inc H A10 A11 A12 A13 A15 A16 A17 k ⟨s.val % 2, two_lt s⟩ cc ⟨2 * (s.val / 2) + b.val, lane_lt s b⟩
    = (cnt (good cn b s) (fun n => par (q b s n)) (fun n => off (q b s n) s) 0 k.val * TF H W ws b2 P X xs b s cc 0 k.val
        + cnt (good cn b s) (fun n => par (q b s n)) (fun n => off (q b s n) s) 1 k.val * TF H W ws b2 P X xs b s cc 1 k.val)
      + ((if k.val = 0 ∨ k.val = 32 then 0 else cnt (good cn b s) (fun n => par (q b s n)) (fun n => off (q b s n) s) 0 (64 - k.val) * TB H W ws b2 P X xs b s cc 0 k.val)
        + (if k.val = 0 ∨ k.val = 32 then 0 else cnt (good cn b s) (fun n => par (q b s n)) (fun n => off (q b s n) s) 1 (64 - k.val) * TB H W ws b2 P X xs b s cc 1 k.val)) := by
  have F := fun (d e : Fin 2) (p : Fin 4) hp hd => Fw_at H A10 A11 A12 A13 A15 A16 W ws b2 P X xs cn q h10 h11 h12 h13 h15 h16 b s cc k d e p hp
    ⟨2 * (s.val / 2) + b.val, lane_lt s b⟩ hd rfl
  have B := fun (d e : Fin 2) (p : Fin 4) hp hd => Bw_at H A10 A11 A12 A13 A15 A16 A17 W ws b2 P X xs cn q h10 h11 h12 h13 h15 h16 h17 b s cc k d e p hp
    ⟨2 * (s.val / 2) + b.val, lane_lt s b⟩ hd rfl
  rcases Nat.mod_two_eq_zero_or_one s.val with h | h
  · have e : (⟨s.val % 2, two_lt s⟩ : Fin 2) = 0 := Fin.ext h
    rw [e, inc_zero, F 0 0 0 rfl h.symm, F 0 1 1 rfl h.symm, B 0 0 0 rfl h.symm, B 0 1 2 rfl h.symm]
  · have e : (⟨s.val % 2, two_lt s⟩ : Fin 2) = 1 := Fin.ext h
    rw [e, inc_one, F 1 0 2 rfl h.symm, F 1 1 3 rfl h.symm, B 1 0 1 rfl h.symm, B 1 1 3 rfl h.symm]

include h10 h11 h12 h13 h15 h16 h17 in
/-- The sum over trips is the sum over listed neighbours. -/
theorem trips_result : (∑ k : Fin 33, inc H A10 A11 A12 A13 A15 A16 A17 k ⟨s.val % 2, two_lt s⟩ cc ⟨2 * (s.val / 2) + b.val, lane_lt s b⟩)
    = result H W ws b2 P X xs cn q b s cc := by
  rw [Finset.sum_congr rfl fun k _ => inc_at H A10 A11 A12 A13 A15 A16 A17 W ws b2 P X xs cn q h10 h11 h12 h13 h15 h16 h17 b s cc k,
    regroup (good cn b s) (fun n => par (q b s n)) (fun n => off (q b s n) s) (fun n => off_lt _ _)]
  unfold result
  refine Finset.sum_congr rfl fun n _ => ?_
  refine if_congr Iff.rfl ?_ rfl
  have ho := off_lt (q b s n) s
  unfold pairOf filtOf
  by_cases h : off (q b s n) s ≤ 32
  · rw [if_pos h, dif_pos h]
    unfold TF carry
    rw [dif_pos (by omega), nbr_off]
  · rw [if_neg h, dif_neg h]
    unfold TB carry
    rw [dif_pos (by omega)]
    have e : 64 - (64 - off (q b s n) s) = off (q b s n) s := by omega
    rw [e, nbr_off]
end

end Cert.KernelIdeal.Value
-- ==== Proof.Tail.lean ====
module

public import proofs.«01_k».proof.Proof.Gen.KernelIdeal.Value
public import proofs.«01_k».proof.Proof.Words
public import Idealize.ShloMosaic.Lib.Pipeline.ValueKit
public import Idealize.ShloMosaic.Lib.Pointwise
public import Idealize.ShloMosaic.Lib.Tactic.RunNames

/-! From the accumulator to the result: tiles are transposed, rows of the two molecules separated, atoms interleaved. -/

@[expose] public section

set_option maxRecDepth 16384

noncomputable section
namespace Cert.KernelIdeal.Value
open Idealize.ShloMosaic Idealize.ShloMosaic.TcCoe Idealize.SL.Sem
open Cert.KernelIdeal Cert.KernelIdeal.Gen

/-- A strided store of one parity of atoms: where it lands it leaves the intended value, elsewhere what was there. -/
theorem par_cons (G : Vec Ideal S2x6x128x128 .f32) (B T D : Nat)
    (inb : ∀ a, S1x1x64x128.size a = 0 ∨ (![B, T, D, 0] : Fin 4 → Nat) a + (![1, 1, 2, 1] : Fin 4 → Nat) a * (S1x1x64x128.size a - 1) < S2x6x128x128.size a)
    (sp : ∀ a, 0 < (![1, 1, 2, 1] : Fin 4 → Nat) a)
    (w : S1x1x64x128.Idx → Elt Ideal .f32)
    (L : List (View.Piece (Elt Ideal) S2x6x128x128 .f32)) (b : Fin 2) (t : Fin 6) (s l : Fin 128) (hD : D < 2)
    (hw : ∀ b' : Fin 2, ∀ t' : Fin 6, ∀ s' : Fin 128, ∀ x, b'.val = B → t'.val = T → s'.val = D + 2 * (x 2).val → w x = G (ix4 b' t' s' (x 3)))
    (hL : ¬ (b.val = B ∧ t.val = T ∧ s.val % 2 = D) → View.canon L (ix4 b t s l) = G (ix4 b t s l)) :
    View.canon ((⟨(⟨⟨![B, T, D, 0], S1x1x64x128.size, ![1, 1, 2, 1], inb⟩, sp⟩ : Rect S2x6x128x128), w⟩ : View.Piece (Elt Ideal) S2x6x128x128 .f32) :: L) (ix4 b t s l) = G (ix4 b t s l) := by
  by_cases h : b.val = B ∧ t.val = T ∧ s.val % 2 = D
  · obtain ⟨h0, h1, h2⟩ := h
    have hx : ix4 b t s l = (⟨⟨![B, T, D, 0], S1x1x64x128.size, ![1, 1, 2, 1], inb⟩, sp⟩ : Rect S2x6x128x128).emb
        (ix4 (0 : Fin 1) (0 : Fin 1) (⟨s.val / 2, by omega⟩ : Fin 64) l) := by
      funext a
      match a with
      | 0 => exact Fin.ext h0
      | 1 => exact Fin.ext h1
      | 2 => exact Fin.ext (show s.val = D + 2 * (s.val / 2) by omega)
      | 3 => exact Fin.ext (show l.val = 0 + 1 * l.val by omega)
    refine (congrArg _ hx).trans ?_
    rw [View.canon_cons_emb]
    exact hw b t s _ h0 h1 (show s.val = D + 2 * (s.val / 2) by omega)
  · rw [View.canon_cons_of_not_mem _ _ ?_]
    · exact hL h
    · intro hm
      obtain ⟨x, hx⟩ := LoadRect.exists_idx_of_mem _ hm
      have e0 : B + 1 * (x 0).val = b.val := congrArg (fun y : S2x6x128x128.Idx => (y 0).val) hx
      have e1 : T + 1 * (x 1).val = t.val := congrArg (fun y : S2x6x128x128.Idx => (y 1).val) hx
      have e2 : D + 2 * (x 2).val = s.val := congrArg (fun y : S2x6x128x128.Idx => (y 2).val) hx
      have z0 : (x 0).val < 1 := (x 0).isLt
      have z1 : (x 1).val < 1 := (x 1).isLt
      exact h ⟨by omega, by omega, by omega⟩

/-- The interleaved array read off the accumulator. -/
def mixed (Y : Vec Ideal S2x768x128 .f32) : Vec Ideal S2x6x128x128 .f32 := fun y =>
  Y (ix3 ⟨(y 2).val % 2, by omega⟩ ⟨128 * (y 1).val + (y 3).val, by have h1 : (y 1).val < 6 := (y 1).isLt; have h3 : (y 3).val < 128 := (y 3).isLt; omega⟩
    ⟨2 * ((y 2).val / 2) + (y 0).val, by have h1 : (y 2).val < 128 := (y 2).isLt; have h3 : (y 0).val < 2 := (y 0).isLt; omega⟩)

theorem mixed_at (Y : Vec Ideal S2x768x128 .f32) (b : Fin 2) (t : Fin 6) (s l : Fin 128) (B T D i : Nat)
    (hb : b.val = B) (ht : t.val = T) (hs : s.val = D + 2 * i) (hD : D < 2) (p : Fin 2) (q : Fin 768) (r : Fin 128)
    (hp : p.val = D) (hq : q.val = 128 * T + l.val) (hr : r.val = B + 2 * i) :
    Y (ix3 p q r) = mixed Y (ix4 b t s l) := by
  have e1 : p = ⟨s.val % 2, by omega⟩ := Fin.ext (show p.val = s.val % 2 by omega)
  have e2 : q = ⟨128 * t.val + l.val, by omega⟩ := Fin.ext (show q.val = 128 * t.val + l.val by omega)
  have e3 : r = ⟨2 * (s.val / 2) + b.val, by omega⟩ := Fin.ext (show r.val = 2 * (s.val / 2) + b.val by omega)
  rw [e1, e2, e3]; rfl

set_option maxHeartbeats 4000000 in
theorem yf_val (c : Dev nD) (arg0 : Memref sig .tc .vmem S2x128x768 .i8) (harg0 : arg0.IsWhole) (arg1 : Memref sig .tc .vmem S2x128 .f32) (harg1 : arg1.IsWhole) (arg2 : Memref sig .tc .vmem S2x3x128 .f32) (harg2 : arg2.IsWhole) (arg3 : Memref sig .tc .vmem S2x96x128 .i32) (harg3 : arg3.IsWhole) (arg4 : Memref sig .tc .vmem S2x128 .i32) (harg4 : arg4.IsWhole) (arg5 : Memref sig .tc .vmem S33x768x512 .fp8e4m3) (harg5 : arg5.IsWhole) (arg6 : Memref sig .tc .vmem S33x24x512 .f32) (harg6 : arg6.IsWhole) (arg7 : Memref sig .tc .vmem S768x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .vmem S2x128x768 .bf16) (harg10 : arg10.IsWhole) (arg11 : Memref sig .tc .vmem S768x768 .bf16) (harg11 : arg11.IsWhole) (arg12 : Memref sig .tc .vmem S768x128 .f32) (harg12 : arg12.IsWhole) (arg13 : Memref sig .tc .vmem S768x128 .f32) (harg13 : arg13.IsWhole) (arg14 : Memref sig .tc .vmem S2x768x128 .f32) (harg14 : arg14.IsWhole) (arg15 : Memref sig .tc .vmem S2x768x128 .f32) (harg15 : arg15.IsWhole) (arg16 : Memref sig .tc .vmem S4x40x128 .f32) (harg16 : arg16.IsWhole) (arg17 : Memref sig .tc .vmem S2x128x128 .f32) (harg17 : arg17.IsWhole) (arg18 : Memref sig .tc .vmem S2x2x64x128 .f32) (harg18 : arg18.IsWhole) (arg19 : Memref sig .tc .vmem S768x512 .bf16) (harg19 : arg19.IsWhole) (arg20 : Memref sig .tc .vmem S128x128 .f32) (harg20 : arg20.IsWhole) (arg21 : Memref sig .tc .vmem S2x6x128x128 .f32) (harg21 : arg21.IsWhole) (x0 : Vec Ideal S2x128x768 .i8) (x1 : Vec Ideal S2x128 .f32) (x2 : Vec Ideal S2x3x128 .f32) (x3 : Vec Ideal S2x96x128 .i32) (x4 : Vec Ideal S2x128 .i32) (x5 : Vec Ideal S33x768x512 .fp8e4m3) (x6 : Vec Ideal S33x24x512 .f32) (x7 : Vec Ideal S768x768 .fp8e4m3) (x8 : Vec Ideal S1x768 .f32) (x9 : Vec Ideal S1x768 .f32)
    (b : Fin 2) (t : Fin 6) (s l : Fin 128) : View.canon (kernelRun0_A.sl.HS10_25 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9) (ix4 b t s l)
      = View.canon ((pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg5.unread x5) (harg6.unread x6) (arg11.view.writes (Elt Ideal) arg11.view.junk (kernelRun0_A.sl.HS0_36 c arg7 harg7 x7)) (arg12.view.writes (Elt Ideal) arg12.view.junk (kernelRun0_A.sl.HS1_6 c arg8 harg8 x8)) (arg13.view.writes (Elt Ideal) arg13.view.junk (kernelRun0_A.sl.HS2_6 c arg9 harg9 x9)) (arg14.view.writes (Elt Ideal) arg14.view.junk (kernelRun0_A.sl.HS3_2 c arg0 harg0 arg1 harg1 x0 x1)) (arg16.view.writes (Elt Ideal) arg16.view.junk (kernelRun0_A.sl.HS5_4 c arg2 harg2 x2)) (arg17.view.writes (Elt Ideal) arg17.view.junk (kernelRun0_A.sl.HS6_2 c arg3 harg3 arg4 harg4 x3 x4)) (arg18.view.writes (Elt Ideal) arg18.view.junk (kernelRun0_A.sl.HS7_4 c arg3 harg3 arg4 harg4 arg17 x3 x4)) (arg15.view.writes (Elt Ideal) arg15.view.junk (kernelRun0_A.sl.HS4_2 (F := Ideal))) (arg19.view.writes (Elt Ideal) arg19.view.junk (kernelRun0_A.sl.HS8_1 (F := Ideal))) (Scf.trips k0_t1_loop.lb k0_t1_loop.ub k0_t1_loop.st)).1 ++ kernelRun0_A.sl.HS4_2 (F := Ideal)) (ix3 ⟨s.val % 2, by omega⟩ ⟨128 * t.val + l.val, by omega⟩ ⟨2 * (s.val / 2) + b.val, by omega⟩) := by
  unfold kernelRun0_A.sl.HS10_25 kernelRun0_A.sl.HS10_4 kernelRun0_A.sl.HS10_3 kernelRun0_A.sl.HS10_2
  generalize hY : View.canon ((pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg5.unread x5) (harg6.unread x6) (arg11.view.writes (Elt Ideal) arg11.view.junk (kernelRun0_A.sl.HS0_36 c arg7 harg7 x7)) (arg12.view.writes (Elt Ideal) arg12.view.junk (kernelRun0_A.sl.HS1_6 c arg8 harg8 x8)) (arg13.view.writes (Elt Ideal) arg13.view.junk (kernelRun0_A.sl.HS2_6 c arg9 harg9 x9)) (arg14.view.writes (Elt Ideal) arg14.view.junk (kernelRun0_A.sl.HS3_2 c arg0 harg0 arg1 harg1 x0 x1)) (arg16.view.writes (Elt Ideal) arg16.view.junk (kernelRun0_A.sl.HS5_4 c arg2 harg2 x2)) (arg17.view.writes (Elt Ideal) arg17.view.junk (kernelRun0_A.sl.HS6_2 c arg3 harg3 arg4 harg4 x3 x4)) (arg18.view.writes (Elt Ideal) arg18.view.junk (kernelRun0_A.sl.HS7_4 c arg3 harg3 arg4 harg4 arg17 x3 x4)) (arg15.view.writes (Elt Ideal) arg15.view.junk (kernelRun0_A.sl.HS4_2 (F := Ideal))) (arg19.view.writes (Elt Ideal) arg19.view.junk (kernelRun0_A.sl.HS8_1 (F := Ideal))) (Scf.trips k0_t1_loop.lb k0_t1_loop.ub k0_t1_loop.st)).1 ++ kernelRun0_A.sl.HS4_2 (F := Ideal)) = Y
  have e : Y (ix3 ⟨s.val % 2, by omega⟩ ⟨128 * t.val + l.val, by omega⟩ ⟨2 * (s.val / 2) + b.val, by omega⟩) = mixed Y (ix4 b t s l) := rfl
  rw [e]
  have hz : (![0, 0] : Fin 2 → Nat) = fun _ => 0 := by funext a; match a with | 0 => rfl | 1 => rfl
  refine par_cons _ 1 5 1 _ _ _ _ b t s l (by decide) ?_ ?_
  · intro b' t' s' x hb ht hs
    sl_unfold_run_values
    unfold kernelRun0_A.sl.HS9_12
    sl_unfold_run_values
    open_payloads
    pointwise [View.readCov_eq_canon', hY]
    rw [View.canon_cons_unit_zero hz]
    pointwise
    exact mixed_at Y b' t' s' (x 3) 1 5 1 (x 2).val hb ht hs (by decide) _ _ _ rfl (by first | rfl | exact (Nat.zero_add _).symm) (by first | rfl | exact (Nat.zero_add _).symm)
  intro n1
  refine par_cons _ 0 5 1 _ _ _ _ b t s l (by decide) ?_ ?_
  · intro b' t' s' x hb ht hs
    sl_unfold_run_values
    unfold kernelRun0_A.sl.HS9_12
    sl_unfold_run_values
    open_payloads
    pointwise [View.readCov_eq_canon', hY]
    rw [View.canon_cons_unit_zero hz]
    pointwise
    exact mixed_at Y b' t' s' (x 3) 0 5 1 (x 2).val hb ht hs (by decide) _ _ _ rfl (by first | rfl | exact (Nat.zero_add _).symm) (by first | rfl | exact (Nat.zero_add _).symm)
  intro n2
  refine par_cons _ 1 4 1 _ _ _ _ b t s l (by decide) ?_ ?_
  · intro b' t' s' x hb ht hs
    sl_unfold_run_values
    unfold kernelRun0_A.sl.HS9_11
    sl_unfold_run_values
    open_payloads
    pointwise [View.readCov_eq_canon', hY]
    rw [View.canon_cons_unit_zero hz]
    pointwise
    exact mixed_at Y b' t' s' (x 3) 1 4 1 (x 2).val hb ht hs (by decide) _ _ _ rfl (by first | rfl | exact (Nat.zero_add _).symm) (by first | rfl | exact (Nat.zero_add _).symm)
  intro n3
  refine par_cons _ 0 4 1 _ _ _ _ b t s l (by decide) ?_ ?_
  · intro b' t' s' x hb ht hs
    sl_unfold_run_values
    unfold kernelRun0_A.sl.HS9_11
    sl_unfold_run_values
    open_payloads
    pointwise [View.readCov_eq_canon', hY]
    rw [View.canon_cons_unit_zero hz]
    pointwise
    exact mixed_at Y b' t' s' (x 3) 0 4 1 (x 2).val hb ht hs (by decide) _ _ _ rfl (by first | rfl | exact (Nat.zero_add _).symm) (by first | rfl | exact (Nat.zero_add _).symm)
  intro n4
  refine par_cons _ 1 3 1 _ _ _ _ b t s l (by decide) ?_ ?_
  · intro b' t' s' x hb ht hs
    sl_unfold_run_values
    unfold kernelRun0_A.sl.HS9_10
    sl_unfold_run_values
    open_payloads
    pointwise [View.readCov_eq_canon', hY]
    rw [View.canon_cons_unit_zero hz]
    pointwise
    exact mixed_at Y b' t' s' (x 3) 1 3 1 (x 2).val hb ht hs (by decide) _ _ _ rfl (by first | rfl | exact (Nat.zero_add _).symm) (by first | rfl | exact (Nat.zero_add _).symm)
  intro n5
  refine par_cons _ 0 3 1 _ _ _ _ b t s l (by decide) ?_ ?_
  · intro b' t' s' x hb ht hs
    sl_unfold_run_values
    unfold kernelRun0_A.sl.HS9_10
    sl_unfold_run_values
    open_payloads
    pointwise [View.readCov_eq_canon', hY]
    rw [View.canon_cons_unit_zero hz]
    pointwise
    exact mixed_at Y b' t' s' (x 3) 0 3 1 (x 2).val hb ht hs (by decide) _ _ _ rfl (by first | rfl | exact (Nat.zero_add _).symm) (by first | rfl | exact (Nat.zero_add _).symm)
  intro n6
  refine par_cons _ 1 2 1 _ _ _ _ b t s l (by decide) ?_ ?_
  · intro b' t' s' x hb ht hs
    sl_unfold_run_values
    unfold kernelRun0_A.sl.HS9_9
    sl_unfold_run_values
    open_payloads
    pointwise [View.readCov_eq_canon', hY]
    rw [View.canon_cons_unit_zero hz]
    pointwise
    exact mixed_at Y b' t' s' (x 3) 1 2 1 (x 2).val hb ht hs (by decide) _ _ _ rfl (by first | rfl | exact (Nat.zero_add _).symm) (by first | rfl | exact (Nat.zero_add _).symm)
  intro n7
  refine par_cons _ 0 2 1 _ _ _ _ b t s l (by decide) ?_ ?_
  · intro b' t' s' x hb ht hs
    sl_unfold_run_values
    unfold kernelRun0_A.sl.HS9_9
    sl_unfold_run_values
    open_payloads
    pointwise [View.readCov_eq_canon', hY]
    rw [View.canon_cons_unit_zero hz]
    pointwise
    exact mixed_at Y b' t' s' (x 3) 0 2 1 (x 2).val hb ht hs (by decide) _ _ _ rfl (by first | rfl | exact (Nat.zero_add _).symm) (by first | rfl | exact (Nat.zero_add _).symm)
  intro n8
  refine par_cons _ 1 1 1 _ _ _ _ b t s l (by decide) ?_ ?_
  · intro b' t' s' x hb ht hs
    sl_unfold_run_values
    unfold kernelRun0_A.sl.HS9_8
    sl_unfold_run_values
    open_payloads
    pointwise [View.readCov_eq_canon', hY]
    rw [View.canon_cons_unit_zero hz]
    pointwise
    exact mixed_at Y b' t' s' (x 3) 1 1 1 (x 2).val hb ht hs (by decide) _ _ _ rfl (by first | rfl | exact (Nat.zero_add _).symm) (by first | rfl | exact (Nat.zero_add _).symm)
  intro n9
  refine par_cons _ 0 1 1 _ _ _ _ b t s l (by decide) ?_ ?_
  · intro b' t' s' x hb ht hs
    sl_unfold_run_values
    unfold kernelRun0_A.sl.HS9_8
    sl_unfold_run_values
    open_payloads
    pointwise [View.readCov_eq_canon', hY]
    rw [View.canon_cons_unit_zero hz]
    pointwise
    exact mixed_at Y b' t' s' (x 3) 0 1 1 (x 2).val hb ht hs (by decide) _ _ _ rfl (by first | rfl | exact (Nat.zero_add _).symm) (by first | rfl | exact (Nat.zero_add _).symm)
  intro n10
  refine par_cons _ 1 0 1 _ _ _ _ b t s l (by decide) ?_ ?_
  · intro b' t' s' x hb ht hs
    sl_unfold_run_values
    unfold kernelRun0_A.sl.HS9_7
    sl_unfold_run_values
    open_payloads
    pointwise [View.readCov_eq_canon', hY]
    rw [View.canon_cons_unit_zero hz]
    pointwise
    exact mixed_at Y b' t' s' (x 3) 1 0 1 (x 2).val hb ht hs (by decide) _ _ _ rfl (by first | rfl | exact (Nat.zero_add _).symm) (by first | rfl | exact (Nat.zero_add _).symm)
  intro n11
  refine par_cons _ 0 0 1 _ _ _ _ b t s l (by decide) ?_ ?_
  · intro b' t' s' x hb ht hs
    sl_unfold_run_values
    unfold kernelRun0_A.sl.HS9_7
    sl_unfold_run_values
    open_payloads
    pointwise [View.readCov_eq_canon', hY]
    rw [View.canon_cons_unit_zero hz]
    pointwise
    exact mixed_at Y b' t' s' (x 3) 0 0 1 (x 2).val hb ht hs (by decide) _ _ _ rfl (by first | rfl | exact (Nat.zero_add _).symm) (by first | rfl | exact (Nat.zero_add _).symm)
  intro n12
  refine par_cons _ 1 5 0 _ _ _ _ b t s l (by decide) ?_ ?_
  · intro b' t' s' x hb ht hs
    sl_unfold_run_values
    unfold kernelRun0_A.sl.HS9_6
    sl_unfold_run_values
    open_payloads
    pointwise [View.readCov_eq_canon', hY]
    rw [View.canon_cons_unit_zero hz]
    pointwise
    exact mixed_at Y b' t' s' (x 3) 1 5 0 (x 2).val hb ht hs (by decide) _ _ _ rfl (by first | rfl | exact (Nat.zero_add _).symm) (by first | rfl | exact (Nat.zero_add _).symm)
  intro n13
  refine par_cons _ 0 5 0 _ _ _ _ b t s l (by decide) ?_ ?_
  · intro b' t' s' x hb ht hs
    sl_unfold_run_values
    unfold kernelRun0_A.sl.HS9_6
    sl_unfold_run_values
    open_payloads
    pointwise [View.readCov_eq_canon', hY]
    rw [View.canon_cons_unit_zero hz]
    pointwise
    exact mixed_at Y b' t' s' (x 3) 0 5 0 (x 2).val hb ht hs (by decide) _ _ _ rfl (by first | rfl | exact (Nat.zero_add _).symm) (by first | rfl | exact (Nat.zero_add _).symm)
  intro n14
  refine par_cons _ 1 4 0 _ _ _ _ b t s l (by decide) ?_ ?_
  · intro b' t' s' x hb ht hs
    sl_unfold_run_values
    unfold kernelRun0_A.sl.HS9_5
    sl_unfold_run_values
    open_payloads
    pointwise [View.readCov_eq_canon', hY]
    rw [View.canon_cons_unit_zero hz]
    pointwise
    exact mixed_at Y b' t' s' (x 3) 1 4 0 (x 2).val hb ht hs (by decide) _ _ _ rfl (by first | rfl | exact (Nat.zero_add _).symm) (by first | rfl | exact (Nat.zero_add _).symm)
  intro n15
  refine par_cons _ 0 4 0 _ _ _ _ b t s l (by decide) ?_ ?_
  · intro b' t' s' x hb ht hs
    sl_unfold_run_values
    unfold kernelRun0_A.sl.HS9_5
    sl_unfold_run_values
    open_payloads
    pointwise [View.readCov_eq_canon', hY]
    rw [View.canon_cons_unit_zero hz]
    pointwise
    exact mixed_at Y b' t' s' (x 3) 0 4 0 (x 2).val hb ht hs (by decide) _ _ _ rfl (by first | rfl | exact (Nat.zero_add _).symm) (by first | rfl | exact (Nat.zero_add _).symm)
  intro n16
  refine par_cons _ 1 3 0 _ _ _ _ b t s l (by decide) ?_ ?_
  · intro b' t' s' x hb ht hs
    sl_unfold_run_values
    unfold kernelRun0_A.sl.HS9_4
    sl_unfold_run_values
    open_payloads
    pointwise [View.readCov_eq_canon', hY]
    rw [View.canon_cons_unit_zero hz]
    pointwise
    exact mixed_at Y b' t' s' (x 3) 1 3 0 (x 2).val hb ht hs (by decide) _ _ _ rfl (by first | rfl | exact (Nat.zero_add _).symm) (by first | rfl | exact (Nat.zero_add _).symm)
  intro n17
  refine par_cons _ 0 3 0 _ _ _ _ b t s l (by decide) ?_ ?_
  · intro b' t' s' x hb ht hs
    sl_unfold_run_values
    unfold kernelRun0_A.sl.HS9_4
    sl_unfold_run_values
    open_payloads
    pointwise [View.readCov_eq_canon', hY]
    rw [View.canon_cons_unit_zero hz]
    pointwise
    exact mixed_at Y b' t' s' (x 3) 0 3 0 (x 2).val hb ht hs (by decide) _ _ _ rfl (by first | rfl | exact (Nat.zero_add _).symm) (by first | rfl | exact (Nat.zero_add _).symm)
  intro n18
  refine par_cons _ 1 2 0 _ _ _ _ b t s l (by decide) ?_ ?_
  · intro b' t' s' x hb ht hs
    sl_unfold_run_values
    unfold kernelRun0_A.sl.HS9_3
    sl_unfold_run_values
    open_payloads
    pointwise [View.readCov_eq_canon', hY]
    rw [View.canon_cons_unit_zero hz]
    pointwise
    exact mixed_at Y b' t' s' (x 3) 1 2 0 (x 2).val hb ht hs (by decide) _ _ _ rfl (by first | rfl | exact (Nat.zero_add _).symm) (by first | rfl | exact (Nat.zero_add _).symm)
  intro n19
  refine par_cons _ 0 2 0 _ _ _ _ b t s l (by decide) ?_ ?_
  · intro b' t' s' x hb ht hs
    sl_unfold_run_values
    unfold kernelRun0_A.sl.HS9_3
    sl_unfold_run_values
    open_payloads
    pointwise [View.readCov_eq_canon', hY]
    rw [View.canon_cons_unit_zero hz]
    pointwise
    exact mixed_at Y b' t' s' (x 3) 0 2 0 (x 2).val hb ht hs (by decide) _ _ _ rfl (by first | rfl | exact (Nat.zero_add _).symm) (by first | rfl | exact (Nat.zero_add _).symm)
  intro n20
  refine par_cons _ 1 1 0 _ _ _ _ b t s l (by decide) ?_ ?_
  · intro b' t' s' x hb ht hs
    sl_unfold_run_values
    unfold kernelRun0_A.sl.HS9_2
    sl_unfold_run_values
    open_payloads
    pointwise [View.readCov_eq_canon', hY]
    rw [View.canon_cons_unit_zero hz]
    pointwise
    exact mixed_at Y b' t' s' (x 3) 1 1 0 (x 2).val hb ht hs (by decide) _ _ _ rfl (by first | rfl | exact (Nat.zero_add _).symm) (by first | rfl | exact (Nat.zero_add _).symm)
  intro n21
  refine par_cons _ 0 1 0 _ _ _ _ b t s l (by decide) ?_ ?_
  · intro b' t' s' x hb ht hs
    sl_unfold_run_values
    unfold kernelRun0_A.sl.HS9_2
    sl_unfold_run_values
    open_payloads
    pointwise [View.readCov_eq_canon', hY]
    rw [View.canon_cons_unit_zero hz]
    pointwise
    exact mixed_at Y b' t' s' (x 3) 0 1 0 (x 2).val hb ht hs (by decide) _ _ _ rfl (by first | rfl | exact (Nat.zero_add _).symm) (by first | rfl | exact (Nat.zero_add _).symm)
  intro n22
  refine par_cons _ 1 0 0 _ _ _ _ b t s l (by decide) ?_ ?_
  · intro b' t' s' x hb ht hs
    sl_unfold_run_values
    unfold kernelRun0_A.sl.HS9_1
    sl_unfold_run_values
    open_payloads
    pointwise [View.readCov_eq_canon', hY]
    rw [View.canon_cons_unit_zero hz]
    pointwise
    exact mixed_at Y b' t' s' (x 3) 1 0 0 (x 2).val hb ht hs (by decide) _ _ _ rfl (by first | rfl | exact (Nat.zero_add _).symm) (by first | rfl | exact (Nat.zero_add _).symm)
  intro n23
  refine par_cons _ 0 0 0 _ _ _ _ b t s l (by decide) ?_ ?_
  · intro b' t' s' x hb ht hs
    sl_unfold_run_values
    unfold kernelRun0_A.sl.HS9_1
    sl_unfold_run_values
    open_payloads
    pointwise [View.readCov_eq_canon', hY]
    rw [View.canon_cons_unit_zero hz]
    pointwise
    exact mixed_at Y b' t' s' (x 3) 0 0 0 (x 2).val hb ht hs (by decide) _ _ _ rfl (by first | rfl | exact (Nat.zero_add _).symm) (by first | rfl | exact (Nat.zero_add _).symm)
  intro n24
  exfalso
  clear e hY Y hz
  have hb := b.isLt
  have ht := t.isLt
  have h2 : s.val % 2 < 2 := by omega
  generalize b.val = B at *
  generalize t.val = T at *
  generalize s.val % 2 = D at *
  interval_cases B <;> interval_cases T <;> interval_cases D <;> first | exact n1 ⟨rfl, rfl, rfl⟩ | exact n2 ⟨rfl, rfl, rfl⟩ | exact n3 ⟨rfl, rfl, rfl⟩ | exact n4 ⟨rfl, rfl, rfl⟩ | exact n5 ⟨rfl, rfl, rfl⟩ | exact n6 ⟨rfl, rfl, rfl⟩ | exact n7 ⟨rfl, rfl, rfl⟩ | exact n8 ⟨rfl, rfl, rfl⟩ | exact n9 ⟨rfl, rfl, rfl⟩ | exact n10 ⟨rfl, rfl, rfl⟩ | exact n11 ⟨rfl, rfl, rfl⟩ | exact n12 ⟨rfl, rfl, rfl⟩ | exact n13 ⟨rfl, rfl, rfl⟩ | exact n14 ⟨rfl, rfl, rfl⟩ | exact n15 ⟨rfl, rfl, rfl⟩ | exact n16 ⟨rfl, rfl, rfl⟩ | exact n17 ⟨rfl, rfl, rfl⟩ | exact n18 ⟨rfl, rfl, rfl⟩ | exact n19 ⟨rfl, rfl, rfl⟩ | exact n20 ⟨rfl, rfl, rfl⟩ | exact n21 ⟨rfl, rfl, rfl⟩ | exact n22 ⟨rfl, rfl, rfl⟩ | exact n23 ⟨rfl, rfl, rfl⟩ | exact n24 ⟨rfl, rfl, rfl⟩

end Cert.KernelIdeal.Value
end
-- ==== Proof.Hidden.lean ====
module

public import proofs.«01_k».proof.Proof.Words
public import Idealize.ShloMosaic.Lib.Pipeline.ValueKit
public import Idealize.ShloMosaic.Lib.Pointwise
public import Idealize.ShloMosaic.Lib.Tactic.RunNames

/-! The dequantised hidden features, stored in tiles and read back whole. -/

@[expose] public section

set_option maxRecDepth 16384

noncomputable section
namespace Cert.KernelIdeal.Value
open Idealize.ShloMosaic Idealize.ShloMosaic.TcCoe Idealize.SL.Sem
open Cert.KernelIdeal Cert.KernelIdeal.Gen

theorem z2 : (![0, 0] : Fin 2 → ℕ) = fun _ => 0 := funext fun a => by fin_cases a <;> rfl

variable (arg5 : Memref sig .tc .vmem S33x768x512 .fp8e4m3) (arg6 : Memref sig .tc .vmem S33x24x512 .f32)
  (X_arg5 : BufTy.Contents (Elt Ideal) arg5.view.ty) (X_arg6 : BufTy.Contents (Elt Ideal) arg6.view.ty)

set_option maxHeartbeats 4000000 in
/-- What a trip reads back of the dequantised features it has just stored. -/
theorem hd_read (arg19 : Memref sig .tc .vmem S768x512 .bf16) (k : Fin k0_t1_loop.trips) :
    arg19.view.readCov (trip_k0_t1.sl.HW_arg19_96 arg5 arg6 X_arg5 X_arg6 k)
        (Rect.unit ![0, 0] S768x512.size inb_S768x512_S768x512_0_0).toLoadRect
      = fun y => hdv (arg5.view.read (Elt Ideal) X_arg5) (arg6.view.read (Elt Ideal) X_arg6) (k.cast trips_eq) (y 0) (y 1) := by
  obtain ⟨kk, rfl⟩ : ∃ kk : Fin 33, k = kk.cast trips_eq.symm := ⟨k.cast trips_eq, rfl⟩
  sl_unfold_words
  rw [View.readCov_eq_canon_ld _ _ _ (View.cover_of_tiled_head _ _ _ (by rfl)), View.ld_unit_zero z2]
  funext y
  obtain ⟨r, q, rfl⟩ : ∃ (r : Fin 768) (q : Fin 512), y = ix2 r q := ⟨y 0, y 1, by funext a; fin_cases a <;> rfl⟩
  canon_tiles x h
  case piece0 =>
    open_payloads
    pointwise
    simp only [Fin.val_cast, w_iv kk]
    change r.val = _ at h0
    change q.val = _ at h1
    simp only [← h0, ← h1, Fin.eta, hdv]
    congr 3
    exact Fin.ext (show 23 = r.val / 32 by omega)
  case piece1 =>
    open_payloads
    pointwise
    simp only [Fin.val_cast, w_iv kk]
    change r.val = _ at h0
    change q.val = _ at h1
    simp only [← h0, ← h1, Fin.eta, hdv]
    congr 3
    exact Fin.ext (show 23 = r.val / 32 by omega)
  case piece2 =>
    open_payloads
    pointwise
    simp only [Fin.val_cast, w_iv kk]
    change r.val = _ at h0
    change q.val = _ at h1
    simp only [← h0, ← h1, Fin.eta, hdv]
    congr 3
    exact Fin.ext (show 23 = r.val / 32 by omega)
  case piece3 =>
    open_payloads
    pointwise
    simp only [Fin.val_cast, w_iv kk]
    change r.val = _ at h0
    change q.val = _ at h1
    simp only [← h0, ← h1, Fin.eta, hdv]
    congr 3
    exact Fin.ext (show 23 = r.val / 32 by omega)
  case piece4 =>
    open_payloads
    pointwise
    simp only [Fin.val_cast, w_iv kk]
    change r.val = _ at h0
    change q.val = _ at h1
    simp only [← h0, ← h1, Fin.eta, hdv]
    congr 3
    exact Fin.ext (show 22 = r.val / 32 by omega)
  case piece5 =>
    open_payloads
    pointwise
    simp only [Fin.val_cast, w_iv kk]
    change r.val = _ at h0
    change q.val = _ at h1
    simp only [← h0, ← h1, Fin.eta, hdv]
    congr 3
    exact Fin.ext (show 22 = r.val / 32 by omega)
  case piece6 =>
    open_payloads
    pointwise
    simp only [Fin.val_cast, w_iv kk]
    change r.val = _ at h0
    change q.val = _ at h1
    simp only [← h0, ← h1, Fin.eta, hdv]
    congr 3
    exact Fin.ext (show 22 = r.val / 32 by omega)
  case piece7 =>
    open_payloads
    pointwise
    simp only [Fin.val_cast, w_iv kk]
    change r.val = _ at h0
    change q.val = _ at h1
    simp only [← h0, ← h1, Fin.eta, hdv]
    congr 3
    exact Fin.ext (show 22 = r.val / 32 by omega)
  case piece8 =>
    open_payloads
    pointwise
    simp only [Fin.val_cast, w_iv kk]
    change r.val = _ at h0
    change q.val = _ at h1
    simp only [← h0, ← h1, Fin.eta, hdv]
    congr 3
    exact Fin.ext (show 21 = r.val / 32 by omega)
  case piece9 =>
    open_payloads
    pointwise
    simp only [Fin.val_cast, w_iv kk]
    change r.val = _ at h0
    change q.val = _ at h1
    simp only [← h0, ← h1, Fin.eta, hdv]
    congr 3
    exact Fin.ext (show 21 = r.val / 32 by omega)
  case piece10 =>
    open_payloads
    pointwise
    simp only [Fin.val_cast, w_iv kk]
    change r.val = _ at h0
    change q.val = _ at h1
    simp only [← h0, ← h1, Fin.eta, hdv]
    congr 3
    exact Fin.ext (show 21 = r.val / 32 by omega)
  case piece11 =>
    open_payloads
    pointwise
    simp only [Fin.val_cast, w_iv kk]
    change r.val = _ at h0
    change q.val = _ at h1
    simp only [← h0, ← h1, Fin.eta, hdv]
    congr 3
    exact Fin.ext (show 21 = r.val / 32 by omega)
  case piece12 =>
    open_payloads
    pointwise
    simp only [Fin.val_cast, w_iv kk]
    change r.val = _ at h0
    change q.val = _ at h1
    simp only [← h0, ← h1, Fin.eta, hdv]
    congr 3
    exact Fin.ext (show 20 = r.val / 32 by omega)
  case piece13 =>
    open_payloads
    pointwise
    simp only [Fin.val_cast, w_iv kk]
    change r.val = _ at h0
    change q.val = _ at h1
    simp only [← h0, ← h1, Fin.eta, hdv]
    congr 3
    exact Fin.ext (show 20 = r.val / 32 by omega)
  case piece14 =>
    open_payloads
    pointwise
    simp only [Fin.val_cast, w_iv kk]
    change r.val = _ at h0
    change q.val = _ at h1
    simp only [← h0, ← h1, Fin.eta, hdv]
    congr 3
    exact Fin.ext (show 20 = r.val / 32 by omega)
  case piece15 =>
    open_payloads
    pointwise
    simp only [Fin.val_cast, w_iv kk]
    change r.val = _ at h0
    change q.val = _ at h1
    simp only [← h0, ← h1, Fin.eta, hdv]
    congr 3
    exact Fin.ext (show 20 = r.val / 32 by omega)
  case piece16 =>
    open_payloads
    pointwise
    simp only [Fin.val_cast, w_iv kk]
    change r.val = _ at h0
    change q.val = _ at h1
    simp only [← h0, ← h1, Fin.eta, hdv]
    congr 3
    exact Fin.ext (show 19 = r.val / 32 by omega)
  case piece17 =>
    open_payloads
    pointwise
    simp only [Fin.val_cast, w_iv kk]
    change r.val = _ at h0
    change q.val = _ at h1
    simp only [← h0, ← h1, Fin.eta, hdv]
    congr 3
    exact Fin.ext (show 19 = r.val / 32 by omega)
  case piece18 =>
    open_payloads
    pointwise
    simp only [Fin.val_cast, w_iv kk]
    change r.val = _ at h0
    change q.val = _ at h1
    simp only [← h0, ← h1, Fin.eta, hdv]
    congr 3
    exact Fin.ext (show 19 = r.val / 32 by omega)
  case piece19 =>
    open_payloads
    pointwise
    simp only [Fin.val_cast, w_iv kk]
    change r.val = _ at h0
    change q.val = _ at h1
    simp only [← h0, ← h1, Fin.eta, hdv]
    congr 3
    exact Fin.ext (show 19 = r.val / 32 by omega)
  case piece20 =>
    open_payloads
    pointwise
    simp only [Fin.val_cast, w_iv kk]
    change r.val = _ at h0
    change q.val = _ at h1
    simp only [← h0, ← h1, Fin.eta, hdv]
    congr 3
    exact Fin.ext (show 18 = r.val / 32 by omega)
  case piece21 =>
    open_payloads
    pointwise
    simp only [Fin.val_cast, w_iv kk]
    change r.val = _ at h0
    change q.val = _ at h1
    simp only [← h0, ← h1, Fin.eta, hdv]
    congr 3
    exact Fin.ext (show 18 = r.val / 32 by omega)
  case piece22 =>
    open_payloads
    pointwise
    simp only [Fin.val_cast, w_iv kk]
    change r.val = _ at h0
    change q.val = _ at h1
    simp only [← h0, ← h1, Fin.eta, hdv]
    congr 3
    exact Fin.ext (show 18 = r.val / 32 by omega)
  case piece23 =>
    open_payloads
    pointwise
    simp only [Fin.val_cast, w_iv kk]
    change r.val = _ at h0
    change q.val = _ at h1
    simp only [← h0, ← h1, Fin.eta, hdv]
    congr 3
    exact Fin.ext (show 18 = r.val / 32 by omega)
  case piece24 =>
    open_payloads
    pointwise
    simp only [Fin.val_cast, w_iv kk]
    change r.val = _ at h0
    change q.val = _ at h1
    simp only [← h0, ← h1, Fin.eta, hdv]
    congr 3
    exact Fin.ext (show 17 = r.val / 32 by omega)
  case piece25 =>
    open_payloads
    pointwise
    simp only [Fin.val_cast, w_iv kk]
    change r.val = _ at h0
    change q.val = _ at h1
    simp only [← h0, ← h1, Fin.eta, hdv]
    congr 3
    exact Fin.ext (show 17 = r.val / 32 by omega)
  case piece26 =>
    open_payloads
    pointwise
    simp only [Fin.val_cast, w_iv kk]
    change r.val = _ at h0
    change q.val = _ at h1
    simp only [← h0, ← h1, Fin.eta, hdv]
    congr 3
    exact Fin.ext (show 17 = r.val / 32 by omega)
  case piece27 =>
    open_payloads
    pointwise
    simp only [Fin.val_cast, w_iv kk]
    change r.val = _ at h0
    change q.val = _ at h1
    simp only [← h0, ← h1, Fin.eta, hdv]
    congr 3
    exact Fin.ext (show 17 = r.val / 32 by omega)
  case piece28 =>
    open_payloads
    pointwise
    simp only [Fin.val_cast, w_iv kk]
    change r.val = _ at h0
    change q.val = _ at h1
    simp only [← h0, ← h1, Fin.eta, hdv]
    congr 3
    exact Fin.ext (show 16 = r.val / 32 by omega)
  case piece29 =>
    open_payloads
    pointwise
    simp only [Fin.val_cast, w_iv kk]
    change r.val = _ at h0
    change q.val = _ at h1
    simp only [← h0, ← h1, Fin.eta, hdv]
    congr 3
    exact Fin.ext (show 16 = r.val / 32 by omega)
  case piece30 =>
    open_payloads
    pointwise
    simp only [Fin.val_cast, w_iv kk]
    change r.val = _ at h0
    change q.val = _ at h1
    simp only [← h0, ← h1, Fin.eta, hdv]
    congr 3
    exact Fin.ext (show 16 = r.val / 32 by omega)
  case piece31 =>
    open_payloads
    pointwise
    simp only [Fin.val_cast, w_iv kk]
    change r.val = _ at h0
    change q.val = _ at h1
    simp only [← h0, ← h1, Fin.eta, hdv]
    congr 3
    exact Fin.ext (show 16 = r.val / 32 by omega)
  case piece32 =>
    open_payloads
    pointwise
    simp only [Fin.val_cast, w_iv kk]
    change r.val = _ at h0
    change q.val = _ at h1
    simp only [← h0, ← h1, Fin.eta, hdv]
    congr 3
    exact Fin.ext (show 15 = r.val / 32 by omega)
  case piece33 =>
    open_payloads
    pointwise
    simp only [Fin.val_cast, w_iv kk]
    change r.val = _ at h0
    change q.val = _ at h1
    simp only [← h0, ← h1, Fin.eta, hdv]
    congr 3
    exact Fin.ext (show 15 = r.val / 32 by omega)
  case piece34 =>
    open_payloads
    pointwise
    simp only [Fin.val_cast, w_iv kk]
    change r.val = _ at h0
    change q.val = _ at h1
    simp only [← h0, ← h1, Fin.eta, hdv]
    congr 3
    exact Fin.ext (show 15 = r.val / 32 by omega)
  case piece35 =>
    open_payloads
    pointwise
    simp only [Fin.val_cast, w_iv kk]
    change r.val = _ at h0
    change q.val = _ at h1
    simp only [← h0, ← h1, Fin.eta, hdv]
    congr 3
    exact Fin.ext (show 15 = r.val / 32 by omega)
  case piece36 =>
    open_payloads
    pointwise
    simp only [Fin.val_cast, w_iv kk]
    change r.val = _ at h0
    change q.val = _ at h1
    simp only [← h0, ← h1, Fin.eta, hdv]
    congr 3
    exact Fin.ext (show 14 = r.val / 32 by omega)
  case piece37 =>
    open_payloads
    pointwise
    simp only [Fin.val_cast, w_iv kk]
    change r.val = _ at h0
    change q.val = _ at h1
    simp only [← h0, ← h1, Fin.eta, hdv]
    congr 3
    exact Fin.ext (show 14 = r.val / 32 by omega)
  case piece38 =>
    open_payloads
    pointwise
    simp only [Fin.val_cast, w_iv kk]
    change r.val = _ at h0
    change q.val = _ at h1
    simp only [← h0, ← h1, Fin.eta, hdv]
    congr 3
    exact Fin.ext (show 14 = r.val / 32 by omega)
  case piece39 =>
    open_payloads
    pointwise
    simp only [Fin.val_cast, w_iv kk]
    change r.val = _ at h0
    change q.val = _ at h1
    simp only [← h0, ← h1, Fin.eta, hdv]
    congr 3
    exact Fin.ext (show 14 = r.val / 32 by omega)
  case piece40 =>
    open_payloads
    pointwise
    simp only [Fin.val_cast, w_iv kk]
    change r.val = _ at h0
    change q.val = _ at h1
    simp only [← h0, ← h1, Fin.eta, hdv]
    congr 3
    exact Fin.ext (show 13 = r.val / 32 by omega)
  case piece41 =>
    open_payloads
    pointwise
    simp only [Fin.val_cast, w_iv kk]
    change r.val = _ at h0
    change q.val = _ at h1
    simp only [← h0, ← h1, Fin.eta, hdv]
    congr 3
    exact Fin.ext (show 13 = r.val / 32 by omega)
  case piece42 =>
    open_payloads
    pointwise
    simp only [Fin.val_cast, w_iv kk]
    change r.val = _ at h0
    change q.val = _ at h1
    simp only [← h0, ← h1, Fin.eta, hdv]
    congr 3
    exact Fin.ext (show 13 = r.val / 32 by omega)
  case piece43 =>
    open_payloads
    pointwise
    simp only [Fin.val_cast, w_iv kk]
    change r.val = _ at h0
    change q.val = _ at h1
    simp only [← h0, ← h1, Fin.eta, hdv]
    congr 3
    exact Fin.ext (show 13 = r.val / 32 by omega)
  case piece44 =>
    open_payloads
    pointwise
    simp only [Fin.val_cast, w_iv kk]
    change r.val = _ at h0
    change q.val = _ at h1
    simp only [← h0, ← h1, Fin.eta, hdv]
    congr 3
    exact Fin.ext (show 12 = r.val / 32 by omega)
  case piece45 =>
    open_payloads
    pointwise
    simp only [Fin.val_cast, w_iv kk]
    change r.val = _ at h0
    change q.val = _ at h1
    simp only [← h0, ← h1, Fin.eta, hdv]
    congr 3
    exact Fin.ext (show 12 = r.val / 32 by omega)
  case piece46 =>
    open_payloads
    pointwise
    simp only [Fin.val_cast, w_iv kk]
    change r.val = _ at h0
    change q.val = _ at h1
    simp only [← h0, ← h1, Fin.eta, hdv]
    congr 3
    exact Fin.ext (show 12 = r.val / 32 by omega)
  case piece47 =>
    open_payloads
    pointwise
    simp only [Fin.val_cast, w_iv kk]
    change r.val = _ at h0
    change q.val = _ at h1
    simp only [← h0, ← h1, Fin.eta, hdv]
    congr 3
    exact Fin.ext (show 12 = r.val / 32 by omega)
  case piece48 =>
    open_payloads
    pointwise
    simp only [Fin.val_cast, w_iv kk]
    change r.val = _ at h0
    change q.val = _ at h1
    simp only [← h0, ← h1, Fin.eta, hdv]
    congr 3
    exact Fin.ext (show 11 = r.val / 32 by omega)
  case piece49 =>
    open_payloads
    pointwise
    simp only [Fin.val_cast, w_iv kk]
    change r.val = _ at h0
    change q.val = _ at h1
    simp only [← h0, ← h1, Fin.eta, hdv]
    congr 3
    exact Fin.ext (show 11 = r.val / 32 by omega)
  case piece50 =>
    open_payloads
    pointwise
    simp only [Fin.val_cast, w_iv kk]
    change r.val = _ at h0
    change q.val = _ at h1
    simp only [← h0, ← h1, Fin.eta, hdv]
    congr 3
    exact Fin.ext (show 11 = r.val / 32 by omega)
  case piece51 =>
    open_payloads
    pointwise
    simp only [Fin.val_cast, w_iv kk]
    change r.val = _ at h0
    change q.val = _ at h1
    simp only [← h0, ← h1, Fin.eta, hdv]
    congr 3
    exact Fin.ext (show 11 = r.val / 32 by omega)
  case piece52 =>
    open_payloads
    pointwise
    simp only [Fin.val_cast, w_iv kk]
    change r.val = _ at h0
    change q.val = _ at h1
    simp only [← h0, ← h1, Fin.eta, hdv]
    congr 3
    exact Fin.ext (show 10 = r.val / 32 by omega)
  case piece53 =>
    open_payloads
    pointwise
    simp only [Fin.val_cast, w_iv kk]
    change r.val = _ at h0
    change q.val = _ at h1
    simp only [← h0, ← h1, Fin.eta, hdv]
    congr 3
    exact Fin.ext (show 10 = r.val / 32 by omega)
  case piece54 =>
    open_payloads
    pointwise
    simp only [Fin.val_cast, w_iv kk]
    change r.val = _ at h0
    change q.val = _ at h1
    simp only [← h0, ← h1, Fin.eta, hdv]
    congr 3
    exact Fin.ext (show 10 = r.val / 32 by omega)
  case piece55 =>
    open_payloads
    pointwise
    simp only [Fin.val_cast, w_iv kk]
    change r.val = _ at h0
    change q.val = _ at h1
    simp only [← h0, ← h1, Fin.eta, hdv]
    congr 3
    exact Fin.ext (show 10 = r.val / 32 by omega)
  case piece56 =>
    open_payloads
    pointwise
    simp only [Fin.val_cast, w_iv kk]
    change r.val = _ at h0
    change q.val = _ at h1
    simp only [← h0, ← h1, Fin.eta, hdv]
    congr 3
    exact Fin.ext (show 9 = r.val / 32 by omega)
  case piece57 =>
    open_payloads
    pointwise
    simp only [Fin.val_cast, w_iv kk]
    change r.val = _ at h0
    change q.val = _ at h1
    simp only [← h0, ← h1, Fin.eta, hdv]
    congr 3
    exact Fin.ext (show 9 = r.val / 32 by omega)
  case piece58 =>
    open_payloads
    pointwise
    simp only [Fin.val_cast, w_iv kk]
    change r.val = _ at h0
    change q.val = _ at h1
    simp only [← h0, ← h1, Fin.eta, hdv]
    congr 3
    exact Fin.ext (show 9 = r.val / 32 by omega)
  case piece59 =>
    open_payloads
    pointwise
    simp only [Fin.val_cast, w_iv kk]
    change r.val = _ at h0
    change q.val = _ at h1
    simp only [← h0, ← h1, Fin.eta, hdv]
    congr 3
    exact Fin.ext (show 9 = r.val / 32 by omega)
  case piece60 =>
    open_payloads
    pointwise
    simp only [Fin.val_cast, w_iv kk]
    change r.val = _ at h0
    change q.val = _ at h1
    simp only [← h0, ← h1, Fin.eta, hdv]
    congr 3
    exact Fin.ext (show 8 = r.val / 32 by omega)
  case piece61 =>
    open_payloads
    pointwise
    simp only [Fin.val_cast, w_iv kk]
    change r.val = _ at h0
    change q.val = _ at h1
    simp only [← h0, ← h1, Fin.eta, hdv]
    congr 3
    exact Fin.ext (show 8 = r.val / 32 by omega)
  case piece62 =>
    open_payloads
    pointwise
    simp only [Fin.val_cast, w_iv kk]
    change r.val = _ at h0
    change q.val = _ at h1
    simp only [← h0, ← h1, Fin.eta, hdv]
    congr 3
    exact Fin.ext (show 8 = r.val / 32 by omega)
  case piece63 =>
    open_payloads
    pointwise
    simp only [Fin.val_cast, w_iv kk]
    change r.val = _ at h0
    change q.val = _ at h1
    simp only [← h0, ← h1, Fin.eta, hdv]
    congr 3
    exact Fin.ext (show 8 = r.val / 32 by omega)
  case piece64 =>
    open_payloads
    pointwise
    simp only [Fin.val_cast, w_iv kk]
    change r.val = _ at h0
    change q.val = _ at h1
    simp only [← h0, ← h1, Fin.eta, hdv]
    congr 3
    exact Fin.ext (show 7 = r.val / 32 by omega)
  case piece65 =>
    open_payloads
    pointwise
    simp only [Fin.val_cast, w_iv kk]
    change r.val = _ at h0
    change q.val = _ at h1
    simp only [← h0, ← h1, Fin.eta, hdv]
    congr 3
    exact Fin.ext (show 7 = r.val / 32 by omega)
  case piece66 =>
    open_payloads
    pointwise
    simp only [Fin.val_cast, w_iv kk]
    change r.val = _ at h0
    change q.val = _ at h1
    simp only [← h0, ← h1, Fin.eta, hdv]
    congr 3
    exact Fin.ext (show 7 = r.val / 32 by omega)
  case piece67 =>
    open_payloads
    pointwise
    simp only [Fin.val_cast, w_iv kk]
    change r.val = _ at h0
    change q.val = _ at h1
    simp only [← h0, ← h1, Fin.eta, hdv]
    congr 3
    exact Fin.ext (show 7 = r.val / 32 by omega)
  case piece68 =>
    open_payloads
    pointwise
    simp only [Fin.val_cast, w_iv kk]
    change r.val = _ at h0
    change q.val = _ at h1
    simp only [← h0, ← h1, Fin.eta, hdv]
    congr 3
    exact Fin.ext (show 6 = r.val / 32 by omega)
  case piece69 =>
    open_payloads
    pointwise
    simp only [Fin.val_cast, w_iv kk]
    change r.val = _ at h0
    change q.val = _ at h1
    simp only [← h0, ← h1, Fin.eta, hdv]
    congr 3
    exact Fin.ext (show 6 = r.val / 32 by omega)
  case piece70 =>
    open_payloads
    pointwise
    simp only [Fin.val_cast, w_iv kk]
    change r.val = _ at h0
    change q.val = _ at h1
    simp only [← h0, ← h1, Fin.eta, hdv]
    congr 3
    exact Fin.ext (show 6 = r.val / 32 by omega)
  case piece71 =>
    open_payloads
    pointwise
    simp only [Fin.val_cast, w_iv kk]
    change r.val = _ at h0
    change q.val = _ at h1
    simp only [← h0, ← h1, Fin.eta, hdv]
    congr 3
    exact Fin.ext (show 6 = r.val / 32 by omega)
  case piece72 =>
    open_payloads
    pointwise
    simp only [Fin.val_cast, w_iv kk]
    change r.val = _ at h0
    change q.val = _ at h1
    simp only [← h0, ← h1, Fin.eta, hdv]
    congr 3
    exact Fin.ext (show 5 = r.val / 32 by omega)
  case piece73 =>
    open_payloads
    pointwise
    simp only [Fin.val_cast, w_iv kk]
    change r.val = _ at h0
    change q.val = _ at h1
    simp only [← h0, ← h1, Fin.eta, hdv]
    congr 3
    exact Fin.ext (show 5 = r.val / 32 by omega)
  case piece74 =>
    open_payloads
    pointwise
    simp only [Fin.val_cast, w_iv kk]
    change r.val = _ at h0
    change q.val = _ at h1
    simp only [← h0, ← h1, Fin.eta, hdv]
    congr 3
    exact Fin.ext (show 5 = r.val / 32 by omega)
  case piece75 =>
    open_payloads
    pointwise
    simp only [Fin.val_cast, w_iv kk]
    change r.val = _ at h0
    change q.val = _ at h1
    simp only [← h0, ← h1, Fin.eta, hdv]
    congr 3
    exact Fin.ext (show 5 = r.val / 32 by omega)
  case piece76 =>
    open_payloads
    pointwise
    simp only [Fin.val_cast, w_iv kk]
    change r.val = _ at h0
    change q.val = _ at h1
    simp only [← h0, ← h1, Fin.eta, hdv]
    congr 3
    exact Fin.ext (show 4 = r.val / 32 by omega)
  case piece77 =>
    open_payloads
    pointwise
    simp only [Fin.val_cast, w_iv kk]
    change r.val = _ at h0
    change q.val = _ at h1
    simp only [← h0, ← h1, Fin.eta, hdv]
    congr 3
    exact Fin.ext (show 4 = r.val / 32 by omega)
  case piece78 =>
    open_payloads
    pointwise
    simp only [Fin.val_cast, w_iv kk]
    change r.val = _ at h0
    change q.val = _ at h1
    simp only [← h0, ← h1, Fin.eta, hdv]
    congr 3
    exact Fin.ext (show 4 = r.val / 32 by omega)
  case piece79 =>
    open_payloads
    pointwise
    simp only [Fin.val_cast, w_iv kk]
    change r.val = _ at h0
    change q.val = _ at h1
    simp only [← h0, ← h1, Fin.eta, hdv]
    congr 3
    exact Fin.ext (show 4 = r.val / 32 by omega)
  case piece80 =>
    open_payloads
    pointwise
    simp only [Fin.val_cast, w_iv kk]
    change r.val = _ at h0
    change q.val = _ at h1
    simp only [← h0, ← h1, Fin.eta, hdv]
    congr 3
    exact Fin.ext (show 3 = r.val / 32 by omega)
  case piece81 =>
    open_payloads
    pointwise
    simp only [Fin.val_cast, w_iv kk]
    change r.val = _ at h0
    change q.val = _ at h1
    simp only [← h0, ← h1, Fin.eta, hdv]
    congr 3
    exact Fin.ext (show 3 = r.val / 32 by omega)
  case piece82 =>
    open_payloads
    pointwise
    simp only [Fin.val_cast, w_iv kk]
    change r.val = _ at h0
    change q.val = _ at h1
    simp only [← h0, ← h1, Fin.eta, hdv]
    congr 3
    exact Fin.ext (show 3 = r.val / 32 by omega)
  case piece83 =>
    open_payloads
    pointwise
    simp only [Fin.val_cast, w_iv kk]
    change r.val = _ at h0
    change q.val = _ at h1
    simp only [← h0, ← h1, Fin.eta, hdv]
    congr 3
    exact Fin.ext (show 3 = r.val / 32 by omega)
  case piece84 =>
    open_payloads
    pointwise
    simp only [Fin.val_cast, w_iv kk]
    change r.val = _ at h0
    change q.val = _ at h1
    simp only [← h0, ← h1, Fin.eta, hdv]
    congr 3
    exact Fin.ext (show 2 = r.val / 32 by omega)
  case piece85 =>
    open_payloads
    pointwise
    simp only [Fin.val_cast, w_iv kk]
    change r.val = _ at h0
    change q.val = _ at h1
    simp only [← h0, ← h1, Fin.eta, hdv]
    congr 3
    exact Fin.ext (show 2 = r.val / 32 by omega)
  case piece86 =>
    open_payloads
    pointwise
    simp only [Fin.val_cast, w_iv kk]
    change r.val = _ at h0
    change q.val = _ at h1
    simp only [← h0, ← h1, Fin.eta, hdv]
    congr 3
    exact Fin.ext (show 2 = r.val / 32 by omega)
  case piece87 =>
    open_payloads
    pointwise
    simp only [Fin.val_cast, w_iv kk]
    change r.val = _ at h0
    change q.val = _ at h1
    simp only [← h0, ← h1, Fin.eta, hdv]
    congr 3
    exact Fin.ext (show 2 = r.val / 32 by omega)
  case piece88 =>
    open_payloads
    pointwise
    simp only [Fin.val_cast, w_iv kk]
    change r.val = _ at h0
    change q.val = _ at h1
    simp only [← h0, ← h1, Fin.eta, hdv]
    congr 3
    exact Fin.ext (show 1 = r.val / 32 by omega)
  case piece89 =>
    open_payloads
    pointwise
    simp only [Fin.val_cast, w_iv kk]
    change r.val = _ at h0
    change q.val = _ at h1
    simp only [← h0, ← h1, Fin.eta, hdv]
    congr 3
    exact Fin.ext (show 1 = r.val / 32 by omega)
  case piece90 =>
    open_payloads
    pointwise
    simp only [Fin.val_cast, w_iv kk]
    change r.val = _ at h0
    change q.val = _ at h1
    simp only [← h0, ← h1, Fin.eta, hdv]
    congr 3
    exact Fin.ext (show 1 = r.val / 32 by omega)
  case piece91 =>
    open_payloads
    pointwise
    simp only [Fin.val_cast, w_iv kk]
    change r.val = _ at h0
    change q.val = _ at h1
    simp only [← h0, ← h1, Fin.eta, hdv]
    congr 3
    exact Fin.ext (show 1 = r.val / 32 by omega)
  case piece92 =>
    open_payloads
    pointwise
    simp only [Fin.val_cast, w_iv kk]
    change r.val = _ at h0
    change q.val = _ at h1
    simp only [← h0, ← h1, Fin.eta, hdv]
    congr 3
    exact Fin.ext (show 0 = r.val / 32 by omega)
  case piece93 =>
    open_payloads
    pointwise
    simp only [Fin.val_cast, w_iv kk]
    change r.val = _ at h0
    change q.val = _ at h1
    simp only [← h0, ← h1, Fin.eta, hdv]
    congr 3
    exact Fin.ext (show 0 = r.val / 32 by omega)
  case piece94 =>
    open_payloads
    pointwise
    simp only [Fin.val_cast, w_iv kk]
    change r.val = _ at h0
    change q.val = _ at h1
    simp only [← h0, ← h1, Fin.eta, hdv]
    congr 3
    exact Fin.ext (show 0 = r.val / 32 by omega)
  case piece95 =>
    open_payloads
    pointwise
    simp only [Fin.val_cast, w_iv kk]
    change r.val = _ at h0
    change q.val = _ at h1
    simp only [← h0, ← h1, Fin.eta, hdv]
    congr 3
    exact Fin.ext (show 0 = r.val / 32 by omega)

end Cert.KernelIdeal.Value
end
-- ==== Proof.Trip.lean ====
module

public import proofs.«01_k».proof.Proof.Hidden
public import Idealize.ShloMosaic.Lib.Pipeline.ValueKit
public import Idealize.ShloMosaic.Lib.Pointwise
public import Idealize.ShloMosaic.Lib.Tactic.RunNames

/-! One trip of the loop adds the trip's contribution to every entry of the accumulator. -/

@[expose] public section

set_option maxRecDepth 16384

noncomputable section
namespace Cert.KernelIdeal.Value
open Idealize.ShloMosaic Idealize.ShloMosaic.TcCoe Idealize.SL.Sem
open Cert.KernelIdeal Cert.KernelIdeal.Gen

set_option maxHeartbeats 4000000 in
/-- After one trip the accumulator holds what it held plus the trip's contribution. -/
theorem trip_read (𝒱 : Variants) (c : Dev nD) (bd : Option 𝒱.V) (arg0 : Memref sig .tc .vmem S2x128x768 .i8) (harg0 : arg0.IsWhole) (arg1 : Memref sig .tc .vmem S2x128 .f32) (harg1 : arg1.IsWhole) (arg2 : Memref sig .tc .vmem S2x3x128 .f32) (harg2 : arg2.IsWhole) (arg3 : Memref sig .tc .vmem S2x96x128 .i32) (harg3 : arg3.IsWhole) (arg4 : Memref sig .tc .vmem S2x128 .i32) (harg4 : arg4.IsWhole) (arg5 : Memref sig .tc .vmem S33x768x512 .fp8e4m3) (harg5 : arg5.IsWhole) (arg6 : Memref sig .tc .vmem S33x24x512 .f32) (harg6 : arg6.IsWhole) (arg7 : Memref sig .tc .vmem S768x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .vmem S2x128x768 .bf16) (harg10 : arg10.IsWhole) (arg11 : Memref sig .tc .vmem S768x768 .bf16) (harg11 : arg11.IsWhole) (arg12 : Memref sig .tc .vmem S768x128 .f32) (harg12 : arg12.IsWhole) (arg13 : Memref sig .tc .vmem S768x128 .f32) (harg13 : arg13.IsWhole) (arg14 : Memref sig .tc .vmem S2x768x128 .f32) (harg14 : arg14.IsWhole) (arg15 : Memref sig .tc .vmem S2x768x128 .f32) (harg15 : arg15.IsWhole) (arg16 : Memref sig .tc .vmem S4x40x128 .f32) (harg16 : arg16.IsWhole) (arg17 : Memref sig .tc .vmem S2x128x128 .f32) (harg17 : arg17.IsWhole) (arg18 : Memref sig .tc .vmem S2x2x64x128 .f32) (harg18 : arg18.IsWhole) (arg19 : Memref sig .tc .vmem S768x512 .bf16) (harg19 : arg19.IsWhole) (arg20 : Memref sig .tc .vmem S128x128 .f32) (harg20 : arg20.IsWhole) (arg21 : Memref sig .tc .vmem S2x6x128x128 .f32) (harg21 : arg21.IsWhole) (X_arg5 : BufTy.Contents (Elt Ideal) arg5.view.ty) (X_arg6 : BufTy.Contents (Elt Ideal) arg6.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg16 : BufTy.Contents (Elt Ideal) arg16.view.ty) (X_arg17 : BufTy.Contents (Elt Ideal) arg17.view.ty) (X_arg18 : BufTy.Contents (Elt Ideal) arg18.view.ty) (k : Fin k0_t1_loop.trips) (f_arg15 : BufTy.Contents (Elt Ideal) arg15.view.ty) (f_arg19 : BufTy.Contents (Elt Ideal) arg19.view.ty) (d : Fin 2) (cc : Fin 768) (l : Fin 128) :
  arg15.view.read (Elt Ideal) (arg15.view.writes (Elt Ideal) f_arg15 (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg5 X_arg6 X_arg11 X_arg12 X_arg13 X_arg14 X_arg16 X_arg17 X_arg18 k f_arg15 f_arg19).1) (ix3 d cc l)
   = arg15.view.read (Elt Ideal) f_arg15 (ix3 d cc l)
     + inc (hdv (arg5.view.read (Elt Ideal) X_arg5) (arg6.view.read (Elt Ideal) X_arg6)) (arg11.view.read (Elt Ideal) X_arg11) (arg12.view.read (Elt Ideal) X_arg12) (arg13.view.read (Elt Ideal) X_arg13) (arg14.view.read (Elt Ideal) X_arg14) (arg16.view.read (Elt Ideal) X_arg16) (arg17.view.read (Elt Ideal) X_arg17) (arg18.view.read (Elt Ideal) X_arg18) (k.cast trips_eq) d cc l := by
  unfold tripL_k0_t1 trip_k0_t1
  dsimp only
  rw [View.read_writes_eq_canon _ _ _ (View.cover_of_tiled_head _ _ _ (by rfl))]
  obtain ⟨kk, rfl⟩ : ∃ kk : Fin 33, k = kk.cast trips_eq.symm := ⟨k.cast trips_eq, rfl⟩
  canon_tiles x h
  case piece0 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece1 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece2 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece3 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece4 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece5 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece6 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece7 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece8 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece9 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece10 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece11 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece12 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece13 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece14 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece15 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece16 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece17 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece18 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece19 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece20 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece21 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece22 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece23 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece24 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece25 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece26 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece27 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece28 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece29 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece30 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece31 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece32 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece33 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece34 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece35 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece36 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece37 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece38 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece39 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece40 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece41 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece42 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece43 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece44 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece45 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece46 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 1 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]
  case piece47 =>
    sl_unfold_run_values
    rw [hd_read]
    sl_unfold_words
    open_payloads
    pointwise
    simp only [Fin.val_cast, w_iv kk, w_r kk, w_back kk, w_m0 kk, w_m1 kk, w_fs kk, w_bs kk, w_sel kk]
    change d.val = _ at h0
    change cc.val = _ at h1
    change l.val = _ at h2
    have hd : d = 0 := Fin.ext (by omega)
    have hl : x 2 = l := Fin.ext h2.symm
    subst hd
    simp only [← Nat.add_assoc, Nat.reduceAdd, ← h1, ← h2, Fin.eta, hl, Nat.mod_mod]
    simp only [inc_one, inc_zero, Fw, Bw, Wf, src, f4_0, f4_1, f4_2, f4_3, f2_0, f2_1, Nat.reduceMul, Nat.mul_zero, Nat.zero_add, Fin.eta]

end Cert.KernelIdeal.Value
end
-- ==== Proof.Loop.lean ====
module

public import proofs.«01_k».proof.Proof.Trip

/-! After the loop the accumulator holds what it held plus the contributions of all trips. -/

@[expose] public section

set_option maxRecDepth 16384

noncomputable section
namespace Cert.KernelIdeal.Value
open Idealize.ShloMosaic Idealize.ShloMosaic.TcCoe Idealize.SL.Sem
open Cert.KernelIdeal Cert.KernelIdeal.Gen

/-- The accumulator after the first `n` trips, at an entry. -/
theorem loop_read (𝒱 : Variants) (c : Dev nD) (bd : Option 𝒱.V) (arg0 : Memref sig .tc .vmem S2x128x768 .i8) (harg0 : arg0.IsWhole) (arg1 : Memref sig .tc .vmem S2x128 .f32) (harg1 : arg1.IsWhole) (arg2 : Memref sig .tc .vmem S2x3x128 .f32) (harg2 : arg2.IsWhole) (arg3 : Memref sig .tc .vmem S2x96x128 .i32) (harg3 : arg3.IsWhole) (arg4 : Memref sig .tc .vmem S2x128 .i32) (harg4 : arg4.IsWhole) (arg5 : Memref sig .tc .vmem S33x768x512 .fp8e4m3) (harg5 : arg5.IsWhole) (arg6 : Memref sig .tc .vmem S33x24x512 .f32) (harg6 : arg6.IsWhole) (arg7 : Memref sig .tc .vmem S768x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .vmem S2x128x768 .bf16) (harg10 : arg10.IsWhole) (arg11 : Memref sig .tc .vmem S768x768 .bf16) (harg11 : arg11.IsWhole) (arg12 : Memref sig .tc .vmem S768x128 .f32) (harg12 : arg12.IsWhole) (arg13 : Memref sig .tc .vmem S768x128 .f32) (harg13 : arg13.IsWhole) (arg14 : Memref sig .tc .vmem S2x768x128 .f32) (harg14 : arg14.IsWhole) (arg15 : Memref sig .tc .vmem S2x768x128 .f32) (harg15 : arg15.IsWhole) (arg16 : Memref sig .tc .vmem S4x40x128 .f32) (harg16 : arg16.IsWhole) (arg17 : Memref sig .tc .vmem S2x128x128 .f32) (harg17 : arg17.IsWhole) (arg18 : Memref sig .tc .vmem S2x2x64x128 .f32) (harg18 : arg18.IsWhole) (arg19 : Memref sig .tc .vmem S768x512 .bf16) (harg19 : arg19.IsWhole) (arg20 : Memref sig .tc .vmem S128x128 .f32) (harg20 : arg20.IsWhole) (arg21 : Memref sig .tc .vmem S2x6x128x128 .f32) (harg21 : arg21.IsWhole) (X_arg5 : BufTy.Contents (Elt Ideal) arg5.view.ty) (X_arg6 : BufTy.Contents (Elt Ideal) arg6.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg16 : BufTy.Contents (Elt Ideal) arg16.view.ty) (X_arg17 : BufTy.Contents (Elt Ideal) arg17.view.ty) (X_arg18 : BufTy.Contents (Elt Ideal) arg18.view.ty) (G_arg15 : BufTy.Contents (Elt Ideal) arg15.view.ty) (G_arg19 : BufTy.Contents (Elt Ideal) arg19.view.ty) (d : Fin 2) (cc : Fin 768) (l : Fin 128) (n : ℕ) (hn : n ≤ 33) :
    arg15.view.read (Elt Ideal) (arg15.view.writes (Elt Ideal) G_arg15 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg5 X_arg6 X_arg11 X_arg12 X_arg13 X_arg14 X_arg16 X_arg17 X_arg18 G_arg15 G_arg19 n).1) (ix3 d cc l)
      = arg15.view.read (Elt Ideal) G_arg15 (ix3 d cc l)
        + ∑ k : Fin n, inc (hdv (arg5.view.read (Elt Ideal) X_arg5) (arg6.view.read (Elt Ideal) X_arg6)) (arg11.view.read (Elt Ideal) X_arg11) (arg12.view.read (Elt Ideal) X_arg12) (arg13.view.read (Elt Ideal) X_arg13) (arg14.view.read (Elt Ideal) X_arg14) (arg16.view.read (Elt Ideal) X_arg16) (arg17.view.read (Elt Ideal) X_arg17) (arg18.view.read (Elt Ideal) X_arg18) (k.castLE hn) d cc l := by
  induction n with
  | zero => rw [Fin.sum_univ_zero]; exact (add_zero (_ : EReal)).symm
  | succ n ih =>
    have ih' := ih (by omega)
    have h := pb_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg5 X_arg6 X_arg11 X_arg12 X_arg13 X_arg14 X_arg16 X_arg17 X_arg18 G_arg15 G_arg19 ⟨n, by rw [trips_eq]; omega⟩
    dsimp only at h
    rw [h]
    dsimp only
    rw [View.writes_append, trip_read, ih', Fin.sum_univ_castSucc]
    exact add_assoc (_ : EReal) _ _

end Cert.KernelIdeal.Value
end
-- ==== Proof.PrepA.lean ====
module

public import proofs.«01_k».proof.Proof.Gen.KernelIdeal.Value
public import proofs.«01_k».proof.Proof.Words
public import Idealize.ShloMosaic.Lib.Pipeline.ValueKit
public import Idealize.ShloMosaic.Lib.Pointwise
public import Idealize.ShloMosaic.Lib.Tactic.RunNames

/-! What the kernel's prepared buffers hold: the transposed second weights, the broadcast scale and bias. -/

@[expose] public section

set_option maxRecDepth 16384

noncomputable section
namespace Cert.KernelIdeal.Value
open Idealize.ShloMosaic Idealize.ShloMosaic.TcCoe Idealize.SL.Sem
open Cert.KernelIdeal Cert.KernelIdeal.Gen

set_option maxHeartbeats 4000000 in
theorem w2t_val (c : Dev nD) (arg7 : Memref sig .tc .vmem S768x768 .fp8e4m3) (harg7 : arg7.IsWhole) (x7 : Vec Ideal S768x768 .fp8e4m3)
    (p q : Fin 768) : View.canon (kernelRun0_A.sl.HS0_36 (F := Ideal) c arg7 harg7 x7) (ix2 p q) = x7 (ix2 q p) := by
  sl_unfold_words
  canon_tiles x h
  all_goals (
    open_payloads
    pointwise [View.readAt_eq_ld, harg7.read_unread]
    change p.val = _ at h0
    change q.val = _ at h1
    simp only [← h0, ← h1, Fin.eta])

set_option maxHeartbeats 4000000 in
theorem w2sb_val (c : Dev nD) (arg8 : Memref sig .tc .vmem S1x768 .f32) (harg8 : arg8.IsWhole) (x8 : Vec Ideal S1x768 .f32)
    (p : Fin 768) (l : Fin 128) : View.canon (kernelRun0_A.sl.HS1_6 (F := Ideal) c arg8 harg8 x8) (ix2 p l) = x8 (ix2 0 p) := by
  sl_unfold_words
  canon_tiles x h
  all_goals (
    open_payloads
    pointwise [View.readAt_eq_ld, harg8.read_unread]
    change p.val = _ at h0
    simp only [← h0, Fin.eta])

set_option maxHeartbeats 4000000 in
theorem b2b_val (c : Dev nD) (arg9 : Memref sig .tc .vmem S1x768 .f32) (harg9 : arg9.IsWhole) (x9 : Vec Ideal S1x768 .f32)
    (p : Fin 768) (l : Fin 128) : View.canon (kernelRun0_A.sl.HS2_6 (F := Ideal) c arg9 harg9 x9) (ix2 p l) = x9 (ix2 0 p) := by
  sl_unfold_words
  canon_tiles x h
  all_goals (
    open_payloads
    pointwise [View.readAt_eq_ld, harg9.read_unread]
    change p.val = _ at h0
    simp only [← h0, Fin.eta])

theorem yt0_val (d : Fin 2) (p : Fin 768) (l : Fin 128) :
    View.canon (kernelRun0_A.sl.HS4_2 (F := Ideal)) (ix3 d p l) = (0 : EReal) := by
  sl_unfold_words
  canon_tiles x h
  all_goals (
    open_payloads
    pointwise)

end Cert.KernelIdeal.Value
end
-- ==== Proof.Out.lean ====
module

public import proofs.«01_k».proof.Proof.Gen.KernelIdeal.Value
public import proofs.«01_k».proof.Proof.Words
public import proofs.«01_k».proof.Proof.Tail
public import proofs.«01_k».proof.Proof.Loop
public import proofs.«01_k».proof.Proof.PrepA
public import Idealize.ShloMosaic.Lib.Pipeline.ValueKit
public import Idealize.ShloMosaic.Lib.Pointwise
public import Idealize.ShloMosaic.Lib.Tactic.RunNames

/-! The result block: at molecule, atom and channel it is the sum of the contributions of all trips. -/

@[expose] public section

set_option maxRecDepth 16384

noncomputable section
namespace Cert.KernelIdeal.Value
open Idealize.ShloMosaic Idealize.ShloMosaic.TcCoe Idealize.SL.Sem
open Cert.KernelIdeal Cert.KernelIdeal.Gen

theorem mixed_eq (Y : Vec Ideal S2x768x128 .f32) (b : Fin 2) (t : Fin 6) (s l : Fin 128) (p : Fin 2) (q : Fin 768) (r : Fin 128)
    (hp : p.val = s.val % 2) (hq : q.val = 128 * t.val + l.val) (hr : r.val = 2 * (s.val / 2) + b.val) :
    mixed Y (ix4 b t s l) = Y (ix3 p q r) := by
  have e1 : p = ⟨s.val % 2, by omega⟩ := Fin.ext hp
  have e2 : q = ⟨128 * t.val + l.val, by omega⟩ := Fin.ext hq
  have e3 : r = ⟨2 * (s.val / 2) + b.val, by omega⟩ := Fin.ext hr
  rw [e1, e2, e3]; rfl

/-- The accumulator after the loop. -/
theorem acc_val (c : Dev nD) (arg0 : Memref sig .tc .vmem S2x128x768 .i8) (harg0 : arg0.IsWhole) (arg1 : Memref sig .tc .vmem S2x128 .f32) (harg1 : arg1.IsWhole) (arg2 : Memref sig .tc .vmem S2x3x128 .f32) (harg2 : arg2.IsWhole) (arg3 : Memref sig .tc .vmem S2x96x128 .i32) (harg3 : arg3.IsWhole) (arg4 : Memref sig .tc .vmem S2x128 .i32) (harg4 : arg4.IsWhole) (arg5 : Memref sig .tc .vmem S33x768x512 .fp8e4m3) (harg5 : arg5.IsWhole) (arg6 : Memref sig .tc .vmem S33x24x512 .f32) (harg6 : arg6.IsWhole) (arg7 : Memref sig .tc .vmem S768x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .vmem S2x128x768 .bf16) (harg10 : arg10.IsWhole) (arg11 : Memref sig .tc .vmem S768x768 .bf16) (harg11 : arg11.IsWhole) (arg12 : Memref sig .tc .vmem S768x128 .f32) (harg12 : arg12.IsWhole) (arg13 : Memref sig .tc .vmem S768x128 .f32) (harg13 : arg13.IsWhole) (arg14 : Memref sig .tc .vmem S2x768x128 .f32) (harg14 : arg14.IsWhole) (arg15 : Memref sig .tc .vmem S2x768x128 .f32) (harg15 : arg15.IsWhole) (arg16 : Memref sig .tc .vmem S4x40x128 .f32) (harg16 : arg16.IsWhole) (arg17 : Memref sig .tc .vmem S2x128x128 .f32) (harg17 : arg17.IsWhole) (arg18 : Memref sig .tc .vmem S2x2x64x128 .f32) (harg18 : arg18.IsWhole) (arg19 : Memref sig .tc .vmem S768x512 .bf16) (harg19 : arg19.IsWhole) (arg20 : Memref sig .tc .vmem S128x128 .f32) (harg20 : arg20.IsWhole) (arg21 : Memref sig .tc .vmem S2x6x128x128 .f32) (harg21 : arg21.IsWhole) (x0 : Vec Ideal S2x128x768 .i8) (x1 : Vec Ideal S2x128 .f32) (x2 : Vec Ideal S2x3x128 .f32) (x3 : Vec Ideal S2x96x128 .i32) (x4 : Vec Ideal S2x128 .i32) (x5 : Vec Ideal S33x768x512 .fp8e4m3) (x6 : Vec Ideal S33x24x512 .f32) (x7 : Vec Ideal S768x768 .fp8e4m3) (x8 : Vec Ideal S1x768 .f32) (x9 : Vec Ideal S1x768 .f32)
    (d : Fin 2) (cc : Fin 768) (l : Fin 128) : View.canon ((pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg5.unread x5) (harg6.unread x6) (arg11.view.writes (Elt Ideal) arg11.view.junk (kernelRun0_A.sl.HS0_36 c arg7 harg7 x7)) (arg12.view.writes (Elt Ideal) arg12.view.junk (kernelRun0_A.sl.HS1_6 c arg8 harg8 x8)) (arg13.view.writes (Elt Ideal) arg13.view.junk (kernelRun0_A.sl.HS2_6 c arg9 harg9 x9)) (arg14.view.writes (Elt Ideal) arg14.view.junk (kernelRun0_A.sl.HS3_2 c arg0 harg0 arg1 harg1 x0 x1)) (arg16.view.writes (Elt Ideal) arg16.view.junk (kernelRun0_A.sl.HS5_4 c arg2 harg2 x2)) (arg17.view.writes (Elt Ideal) arg17.view.junk (kernelRun0_A.sl.HS6_2 c arg3 harg3 arg4 harg4 x3 x4)) (arg18.view.writes (Elt Ideal) arg18.view.junk (kernelRun0_A.sl.HS7_4 c arg3 harg3 arg4 harg4 arg17 x3 x4)) (arg15.view.writes (Elt Ideal) arg15.view.junk (kernelRun0_A.sl.HS4_2 (F := Ideal))) (arg19.view.writes (Elt Ideal) arg19.view.junk (kernelRun0_A.sl.HS8_1 (F := Ideal))) (Scf.trips k0_t1_loop.lb k0_t1_loop.ub k0_t1_loop.st)).1 ++ kernelRun0_A.sl.HS4_2 (F := Ideal)) (ix3 d cc l)
      = ∑ k : Fin 33, inc (hdv x5 x6) (View.canon (kernelRun0_A.sl.HS0_36 (F := Ideal) c arg7 harg7 x7)) (View.canon (kernelRun0_A.sl.HS1_6 (F := Ideal) c arg8 harg8 x8)) (View.canon (kernelRun0_A.sl.HS2_6 (F := Ideal) c arg9 harg9 x9)) (View.canon (kernelRun0_A.sl.HS3_2 (F := Ideal) c arg0 harg0 arg1 harg1 x0 x1)) (View.canon (kernelRun0_A.sl.HS5_4 (F := Ideal) c arg2 harg2 x2)) (View.canon (kernelRun0_A.sl.HS6_2 (F := Ideal) c arg3 harg3 arg4 harg4 x3 x4)) (View.canon (kernelRun0_A.sl.HS7_4 (F := Ideal) c arg3 harg3 arg4 harg4 arg17 x3 x4)) k d cc l := by
  rw [← View.read_writes_junk_eq_canon arg15.view]
  rw [View.writes_append]
  have hl := loop_read Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg5.unread x5) (harg6.unread x6) (arg11.view.writes (Elt Ideal) arg11.view.junk (kernelRun0_A.sl.HS0_36 (F := Ideal) c arg7 harg7 x7)) (arg12.view.writes (Elt Ideal) arg12.view.junk (kernelRun0_A.sl.HS1_6 (F := Ideal) c arg8 harg8 x8)) (arg13.view.writes (Elt Ideal) arg13.view.junk (kernelRun0_A.sl.HS2_6 (F := Ideal) c arg9 harg9 x9)) (arg14.view.writes (Elt Ideal) arg14.view.junk (kernelRun0_A.sl.HS3_2 (F := Ideal) c arg0 harg0 arg1 harg1 x0 x1)) (arg16.view.writes (Elt Ideal) arg16.view.junk (kernelRun0_A.sl.HS5_4 (F := Ideal) c arg2 harg2 x2)) (arg17.view.writes (Elt Ideal) arg17.view.junk (kernelRun0_A.sl.HS6_2 (F := Ideal) c arg3 harg3 arg4 harg4 x3 x4)) (arg18.view.writes (Elt Ideal) arg18.view.junk (kernelRun0_A.sl.HS7_4 (F := Ideal) c arg3 harg3 arg4 harg4 arg17 x3 x4)) (arg15.view.writes (Elt Ideal) arg15.view.junk (kernelRun0_A.sl.HS4_2 (F := Ideal))) (arg19.view.writes (Elt Ideal) arg19.view.junk (kernelRun0_A.sl.HS8_1 (F := Ideal))) d cc l 33 le_rfl
  simp only [View.read_writes_junk_eq_canon, harg5.read_unread, harg6.read_unread, yt0_val] at hl
  have ht : Scf.trips k0_t1_loop.lb k0_t1_loop.ub k0_t1_loop.st = 33 := trips_eq
  rw [ht]
  refine hl.trans ((zero_add (_ : EReal)).trans ?_)
  rfl

set_option maxHeartbeats 4000000 in
/-- The stores of the result. -/
theorem y_val (c : Dev nD) (arg0 : Memref sig .tc .vmem S2x128x768 .i8) (harg0 : arg0.IsWhole) (arg1 : Memref sig .tc .vmem S2x128 .f32) (harg1 : arg1.IsWhole) (arg2 : Memref sig .tc .vmem S2x3x128 .f32) (harg2 : arg2.IsWhole) (arg3 : Memref sig .tc .vmem S2x96x128 .i32) (harg3 : arg3.IsWhole) (arg4 : Memref sig .tc .vmem S2x128 .i32) (harg4 : arg4.IsWhole) (arg5 : Memref sig .tc .vmem S33x768x512 .fp8e4m3) (harg5 : arg5.IsWhole) (arg6 : Memref sig .tc .vmem S33x24x512 .f32) (harg6 : arg6.IsWhole) (arg7 : Memref sig .tc .vmem S768x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .vmem S2x128x768 .bf16) (harg10 : arg10.IsWhole) (arg11 : Memref sig .tc .vmem S768x768 .bf16) (harg11 : arg11.IsWhole) (arg12 : Memref sig .tc .vmem S768x128 .f32) (harg12 : arg12.IsWhole) (arg13 : Memref sig .tc .vmem S768x128 .f32) (harg13 : arg13.IsWhole) (arg14 : Memref sig .tc .vmem S2x768x128 .f32) (harg14 : arg14.IsWhole) (arg15 : Memref sig .tc .vmem S2x768x128 .f32) (harg15 : arg15.IsWhole) (arg16 : Memref sig .tc .vmem S4x40x128 .f32) (harg16 : arg16.IsWhole) (arg17 : Memref sig .tc .vmem S2x128x128 .f32) (harg17 : arg17.IsWhole) (arg18 : Memref sig .tc .vmem S2x2x64x128 .f32) (harg18 : arg18.IsWhole) (arg19 : Memref sig .tc .vmem S768x512 .bf16) (harg19 : arg19.IsWhole) (arg20 : Memref sig .tc .vmem S128x128 .f32) (harg20 : arg20.IsWhole) (arg21 : Memref sig .tc .vmem S2x6x128x128 .f32) (harg21 : arg21.IsWhole) (x0 : Vec Ideal S2x128x768 .i8) (x1 : Vec Ideal S2x128 .f32) (x2 : Vec Ideal S2x3x128 .f32) (x3 : Vec Ideal S2x96x128 .i32) (x4 : Vec Ideal S2x128 .i32) (x5 : Vec Ideal S33x768x512 .fp8e4m3) (x6 : Vec Ideal S33x24x512 .f32) (x7 : Vec Ideal S768x768 .fp8e4m3) (x8 : Vec Ideal S1x768 .f32) (x9 : Vec Ideal S1x768 .f32)
    (b : Fin 2) (s : Fin 128) (cc : Fin 768) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9).1 (ix3 b s cc)
      = ∑ k : Fin 33, inc (hdv x5 x6) (View.canon (kernelRun0_A.sl.HS0_36 (F := Ideal) c arg7 harg7 x7)) (View.canon (kernelRun0_A.sl.HS1_6 (F := Ideal) c arg8 harg8 x8)) (View.canon (kernelRun0_A.sl.HS2_6 (F := Ideal) c arg9 harg9 x9)) (View.canon (kernelRun0_A.sl.HS3_2 (F := Ideal) c arg0 harg0 arg1 harg1 x0 x1)) (View.canon (kernelRun0_A.sl.HS5_4 (F := Ideal) c arg2 harg2 x2)) (View.canon (kernelRun0_A.sl.HS6_2 (F := Ideal) c arg3 harg3 arg4 harg4 x3 x4)) (View.canon (kernelRun0_A.sl.HS7_4 (F := Ideal) c arg3 harg3 arg4 harg4 arg17 x3 x4)) k ⟨s.val % 2, by omega⟩ cc ⟨2 * (s.val / 2) + b.val, by omega⟩ := by
  rw [← acc_val c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9]
  unfold kernelRun0_A
  dsimp only
  have hy : View.canon (kernelRun0_A.sl.HS10_25 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9) = mixed (View.canon ((pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg5.unread x5) (harg6.unread x6) (arg11.view.writes (Elt Ideal) arg11.view.junk (kernelRun0_A.sl.HS0_36 c arg7 harg7 x7)) (arg12.view.writes (Elt Ideal) arg12.view.junk (kernelRun0_A.sl.HS1_6 c arg8 harg8 x8)) (arg13.view.writes (Elt Ideal) arg13.view.junk (kernelRun0_A.sl.HS2_6 c arg9 harg9 x9)) (arg14.view.writes (Elt Ideal) arg14.view.junk (kernelRun0_A.sl.HS3_2 c arg0 harg0 arg1 harg1 x0 x1)) (arg16.view.writes (Elt Ideal) arg16.view.junk (kernelRun0_A.sl.HS5_4 c arg2 harg2 x2)) (arg17.view.writes (Elt Ideal) arg17.view.junk (kernelRun0_A.sl.HS6_2 c arg3 harg3 arg4 harg4 x3 x4)) (arg18.view.writes (Elt Ideal) arg18.view.junk (kernelRun0_A.sl.HS7_4 c arg3 harg3 arg4 harg4 arg17 x3 x4)) (arg15.view.writes (Elt Ideal) arg15.view.junk (kernelRun0_A.sl.HS4_2 (F := Ideal))) (arg19.view.writes (Elt Ideal) arg19.view.junk (kernelRun0_A.sl.HS8_1 (F := Ideal))) (Scf.trips k0_t1_loop.lb k0_t1_loop.ub k0_t1_loop.st)).1 ++ kernelRun0_A.sl.HS4_2 (F := Ideal))) := by
    funext y
    rw [eq_ix4 y]
    exact yf_val c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (y 0) (y 1) (y 2) (y 3)
  generalize View.canon ((pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg5.unread x5) (harg6.unread x6) (arg11.view.writes (Elt Ideal) arg11.view.junk (kernelRun0_A.sl.HS0_36 c arg7 harg7 x7)) (arg12.view.writes (Elt Ideal) arg12.view.junk (kernelRun0_A.sl.HS1_6 c arg8 harg8 x8)) (arg13.view.writes (Elt Ideal) arg13.view.junk (kernelRun0_A.sl.HS2_6 c arg9 harg9 x9)) (arg14.view.writes (Elt Ideal) arg14.view.junk (kernelRun0_A.sl.HS3_2 c arg0 harg0 arg1 harg1 x0 x1)) (arg16.view.writes (Elt Ideal) arg16.view.junk (kernelRun0_A.sl.HS5_4 c arg2 harg2 x2)) (arg17.view.writes (Elt Ideal) arg17.view.junk (kernelRun0_A.sl.HS6_2 c arg3 harg3 arg4 harg4 x3 x4)) (arg18.view.writes (Elt Ideal) arg18.view.junk (kernelRun0_A.sl.HS7_4 c arg3 harg3 arg4 harg4 arg17 x3 x4)) (arg15.view.writes (Elt Ideal) arg15.view.junk (kernelRun0_A.sl.HS4_2 (F := Ideal))) (arg19.view.writes (Elt Ideal) arg19.view.junk (kernelRun0_A.sl.HS8_1 (F := Ideal))) (Scf.trips k0_t1_loop.lb k0_t1_loop.ub k0_t1_loop.st)).1 ++ kernelRun0_A.sl.HS4_2 (F := Ideal)) = Y at hy ⊢
  sl_unfold_run_values
  simp only [View.readCov_eq_canon', hy]
  clear hy
  canon_tiles x h
  all_goals (
    open_payloads
    pointwise
    change b.val = _ at h0
    change s.val = _ at h1
    change cc.val = _ at h2
    refine mixed_eq Y _ _ _ _ _ _ _ ?_ ?_ ?_
    · show s.val % 2 = (x 1).val % 2; omega
    · show cc.val = 128 * _ + (x 2).val
      first | (show cc.val = 128 * 0 + (x 2).val; omega) | (show cc.val = 128 * 1 + (x 2).val; omega) | (show cc.val = 128 * 2 + (x 2).val; omega) | (show cc.val = 128 * 3 + (x 2).val; omega) | (show cc.val = 128 * 4 + (x 2).val; omega) | (show cc.val = 128 * 5 + (x 2).val; omega)
    · first | (show 2 * (s.val / 2) + b.val = 2 * ((x 1).val / 2) + 0; omega) | (show 2 * (s.val / 2) + b.val = 2 * ((x 1).val / 2) + 1; omega))

end Cert.KernelIdeal.Value
end
-- ==== Proof.PrepB.lean ====
module

public import proofs.«01_k».proof.Proof.Gen.KernelIdeal.Value
public import proofs.«01_k».proof.Proof.Lanes
public import Idealize.ShloMosaic.Lib.Pipeline.ValueKit
public import Idealize.ShloMosaic.Lib.Pointwise
public import Idealize.ShloMosaic.Lib.Tactic.RunNames

/-! What the kernel's prepared buffers hold: the scaled input codes and the cutoff weights. -/

@[expose] public section

set_option maxRecDepth 16384

noncomputable section
namespace Cert.KernelIdeal.Value
open Idealize.ShloMosaic Idealize.ShloMosaic.TcCoe Idealize.SL.Sem
open Cert.KernelIdeal Cert.KernelIdeal.Gen

set_option maxHeartbeats 4000000 in
/-- The cutoff table: pair kind `p`, row `r`, lane `l`. -/
theorem fc_val (c : Dev nD) (arg2 : Memref sig .tc .vmem S2x3x128 .f32) (harg2 : arg2.IsWhole) (x2 : Vec Ideal S2x3x128 .f32)
    (p : Fin 4) (r : Fin 40) (l : Fin 128) : View.canon (kernelRun0_A.sl.HS5_4 (F := Ideal) c arg2 harg2 x2) (ix3 p r l)
      = cutq (sqd (fun q => pk (fun b a => x2 (ix3 b q a)) (pb p) ⟨(l.val + 128 - (64 + 2 * r.val) % 128) % 128, Nat.mod_lt _ (by decide)⟩)
          (fun q => pk (fun b a => x2 (ix3 b q a)) (pa p) l)) := by
  sl_unfold_words
  canon_tiles x h
  case piece0 =>
    open_payloads
    pointwise [View.readAt_eq_ld, harg2.read_unread]
    change p.val = _ at h0
    change r.val = _ at h1
    change l.val = _ at h2
    have hp : p = 3 := Fin.ext (show p.val = 3 by omega)
    subst hp
    simp only [← h1, ← h2]
    have hn : (l.val + 128 - (64 + 2 * r.val) % 128) % 128 < 128 := Nat.mod_lt _ (by decide)
    have hl := l.isLt
    simp only [l_mod _ hn, l_div _ hn, l_mod _ hl, l_div _ hl, l_take0 _ hn, l_take0 _ hl, l_take1 _ hn, l_take1 _ hl, l_sel]
    simp only [cutq, sqd, pa_0, pa_1, pa_2, pa_3, pb_0, pb_1, pb_2, pb_3, pk0, pk1]
  case piece1 =>
    open_payloads
    pointwise [View.readAt_eq_ld, harg2.read_unread]
    change p.val = _ at h0
    change r.val = _ at h1
    change l.val = _ at h2
    have hp : p = 1 := Fin.ext (show p.val = 1 by omega)
    subst hp
    simp only [← h1, ← h2]
    have hn : (l.val + 128 - (64 + 2 * r.val) % 128) % 128 < 128 := Nat.mod_lt _ (by decide)
    have hl := l.isLt
    simp only [l_mod _ hn, l_div _ hn, l_mod _ hl, l_div _ hl, l_take0 _ hn, l_take0 _ hl, l_take1 _ hn, l_take1 _ hl, l_sel]
    simp only [cutq, sqd, pa_0, pa_1, pa_2, pa_3, pb_0, pb_1, pb_2, pb_3, pk0, pk1]
  case piece2 =>
    open_payloads
    pointwise [View.readAt_eq_ld, harg2.read_unread]
    change p.val = _ at h0
    change r.val = _ at h1
    change l.val = _ at h2
    have hp : p = 2 := Fin.ext (show p.val = 2 by omega)
    subst hp
    simp only [← h1, ← h2]
    have hn : (l.val + 128 - (64 + 2 * r.val) % 128) % 128 < 128 := Nat.mod_lt _ (by decide)
    have hl := l.isLt
    simp only [l_mod _ hn, l_div _ hn, l_mod _ hl, l_div _ hl, l_take0 _ hn, l_take0 _ hl, l_take1 _ hn, l_take1 _ hl, l_sel]
    simp only [cutq, sqd, pa_0, pa_1, pa_2, pa_3, pb_0, pb_1, pb_2, pb_3, pk0, pk1]
  case piece3 =>
    open_payloads
    pointwise [View.readAt_eq_ld, harg2.read_unread]
    change p.val = _ at h0
    change r.val = _ at h1
    change l.val = _ at h2
    have hp : p = 0 := Fin.ext (show p.val = 0 by omega)
    subst hp
    simp only [← h1, ← h2]
    have hn : (l.val + 128 - (64 + 2 * r.val) % 128) % 128 < 128 := Nat.mod_lt _ (by decide)
    have hl := l.isLt
    simp only [l_mod _ hn, l_div _ hn, l_mod _ hl, l_div _ hl, l_take0 _ hn, l_take0 _ hl, l_take1 _ hn, l_take1 _ hl, l_sel]
    simp only [cutq, sqd, pa_0, pa_1, pa_2, pa_3, pb_0, pb_1, pb_2, pb_3, pk0, pk1]

end Cert.KernelIdeal.Value
end
-- ==== Proof.PrepE.lean ====
module

public import proofs.«01_k».proof.Proof.Gen.KernelIdeal.Value
public import proofs.«01_k».proof.Proof.PrepD
public import Idealize.ShloMosaic.Lib.Pipeline.ValueKit
public import Idealize.ShloMosaic.Lib.Pointwise
public import Idealize.ShloMosaic.Lib.Tactic.RunNames

/-! What the kernel's prepared buffers hold: the counts of pairs seen from the other atom, rows rotated to its lane. -/

@[expose] public section

set_option maxRecDepth 16384

noncomputable section
namespace Cert.KernelIdeal.Value
open Idealize.ShloMosaic Idealize.ShloMosaic.TcCoe Idealize.SL.Sem
open Cert.KernelIdeal Cert.KernelIdeal.Gen

set_option maxHeartbeats 4000000 in
theorem mr_val (c : Dev nD) (arg3 : Memref sig .tc .vmem S2x96x128 .i32) (harg3 : arg3.IsWhole) (arg4 : Memref sig .tc .vmem S2x128 .i32) (harg4 : arg4.IsWhole)
    (arg17 : Memref sig .tc .vmem S2x128x128 .f32)
    (x3 : Vec Ideal S2x96x128 .i32) (x4 : Vec Ideal S2x128 .i32)
    (e d : Fin 2) (r : Fin 64) (l : Fin 128) : View.canon (kernelRun0_A.sl.HS7_4 (F := Ideal) c arg3 harg3 arg4 harg4 arg17 x3 x4) (ix4 e d r l)
      = View.canon (kernelRun0_A.sl.HS6_2 (F := Ideal) c arg3 harg3 arg4 harg4 x3 x4)
          (ix3 e ⟨64 * d.val + r.val, by omega⟩ ⟨(l.val + 128 - 2 * r.val % 128) % 128, Nat.mod_lt _ (by decide)⟩) := by
  unfold kernelRun0_A.sl.HS7_4
  canon_tiles x h
  case piece0 =>
    sl_unfold_run_values
    simp only [View.readCov_eq_canon']
    generalize hV : View.canon (kernelRun0_A.sl.HS6_2 (F := Ideal) c arg3 harg3 arg4 harg4 x3 x4) = V
    open_payloads
    pointwise
    change e.val = _ at h0
    change d.val = _ at h1
    change r.val = _ at h2
    change l.val = _ at h3
    have he : e = 1 := Fin.ext (show e.val = 1 by omega)
    have hd : d = 1 := Fin.ext (show d.val = 1 by omega)
    subst he hd
    refine congrArg₂ (fun (q : Fin 128) (w : Fin 128) => V (ix3 1 q w)) (Fin.ext ?_) (Fin.ext ?_)
    · show 64 + (x 2).val = 64 * 1 + r.val
      omega
    · show ((x 3).val + 128 - 2 * (x 2).val % 128) % 128 = (l.val + 128 - 2 * r.val % 128) % 128
      rw [h2, h3]
  case piece1 =>
    sl_unfold_run_values
    simp only [View.readCov_eq_canon']
    generalize hV : View.canon (kernelRun0_A.sl.HS6_2 (F := Ideal) c arg3 harg3 arg4 harg4 x3 x4) = V
    open_payloads
    pointwise
    change e.val = _ at h0
    change d.val = _ at h1
    change r.val = _ at h2
    change l.val = _ at h3
    have he : e = 1 := Fin.ext (show e.val = 1 by omega)
    have hd : d = 0 := Fin.ext (show d.val = 0 by omega)
    subst he hd
    refine congrArg₂ (fun (q : Fin 128) (w : Fin 128) => V (ix3 1 q w)) (Fin.ext ?_) (Fin.ext ?_)
    · show (x 2).val = 64 * 0 + r.val
      omega
    · show ((x 3).val + 128 - 2 * (x 2).val % 128) % 128 = (l.val + 128 - 2 * r.val % 128) % 128
      rw [h2, h3]
  case piece2 =>
    sl_unfold_run_values
    simp only [View.readCov_eq_canon']
    generalize hV : View.canon (kernelRun0_A.sl.HS6_2 (F := Ideal) c arg3 harg3 arg4 harg4 x3 x4) = V
    open_payloads
    pointwise
    change e.val = _ at h0
    change d.val = _ at h1
    change r.val = _ at h2
    change l.val = _ at h3
    have he : e = 0 := Fin.ext (show e.val = 0 by omega)
    have hd : d = 1 := Fin.ext (show d.val = 1 by omega)
    subst he hd
    refine congrArg₂ (fun (q : Fin 128) (w : Fin 128) => V (ix3 0 q w)) (Fin.ext ?_) (Fin.ext ?_)
    · show 64 + (x 2).val = 64 * 1 + r.val
      omega
    · show ((x 3).val + 128 - 2 * (x 2).val % 128) % 128 = (l.val + 128 - 2 * r.val % 128) % 128
      rw [h2, h3]
  case piece3 =>
    sl_unfold_run_values
    simp only [View.readCov_eq_canon']
    generalize hV : View.canon (kernelRun0_A.sl.HS6_2 (F := Ideal) c arg3 harg3 arg4 harg4 x3 x4) = V
    open_payloads
    pointwise
    change e.val = _ at h0
    change d.val = _ at h1
    change r.val = _ at h2
    change l.val = _ at h3
    have he : e = 0 := Fin.ext (show e.val = 0 by omega)
    have hd : d = 0 := Fin.ext (show d.val = 0 by omega)
    subst he hd
    refine congrArg₂ (fun (q : Fin 128) (w : Fin 128) => V (ix3 0 q w)) (Fin.ext ?_) (Fin.ext ?_)
    · show (x 2).val = 64 * 0 + r.val
      omega
    · show ((x 3).val + 128 - 2 * (x 2).val % 128) % 128 = (l.val + 128 - 2 * r.val % 128) % 128
      rw [h2, h3]

end Cert.KernelIdeal.Value
end
-- ==== Proof.KernB.lean ====
module

public import proofs.«01_k».proof.Proof.Kern
public import proofs.«01_k».proof.Proof.Out
public import proofs.«01_k».proof.Proof.PrepA
public import proofs.«01_k».proof.Proof.PrepB
public import proofs.«01_k».proof.Proof.PrepC
public import proofs.«01_k».proof.Proof.PrepD
public import proofs.«01_k».proof.Proof.PrepE

/-! What the kernel body stores into its output, as the sum over listed neighbours. -/

@[expose] public section

set_option maxRecDepth 16384

noncomputable section
namespace Cert.KernelIdeal.Value
open Idealize.ShloMosaic Idealize.ShloMosaic.TcCoe Idealize.SL.Sem
open Cert.Spec Cert.KernelIdeal Cert.KernelIdeal.Gen

theorem y_result (c : Dev nD) (arg0 : Memref sig .tc .vmem S2x128x768 .i8) (harg0 : arg0.IsWhole) (arg1 : Memref sig .tc .vmem S2x128 .f32) (harg1 : arg1.IsWhole) (arg2 : Memref sig .tc .vmem S2x3x128 .f32) (harg2 : arg2.IsWhole) (arg3 : Memref sig .tc .vmem S2x96x128 .i32) (harg3 : arg3.IsWhole) (arg4 : Memref sig .tc .vmem S2x128 .i32) (harg4 : arg4.IsWhole) (arg5 : Memref sig .tc .vmem S33x768x512 .fp8e4m3) (harg5 : arg5.IsWhole) (arg6 : Memref sig .tc .vmem S33x24x512 .f32) (harg6 : arg6.IsWhole) (arg7 : Memref sig .tc .vmem S768x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .vmem S2x128x768 .bf16) (harg10 : arg10.IsWhole) (arg11 : Memref sig .tc .vmem S768x768 .bf16) (harg11 : arg11.IsWhole) (arg12 : Memref sig .tc .vmem S768x128 .f32) (harg12 : arg12.IsWhole) (arg13 : Memref sig .tc .vmem S768x128 .f32) (harg13 : arg13.IsWhole) (arg14 : Memref sig .tc .vmem S2x768x128 .f32) (harg14 : arg14.IsWhole) (arg15 : Memref sig .tc .vmem S2x768x128 .f32) (harg15 : arg15.IsWhole) (arg16 : Memref sig .tc .vmem S4x40x128 .f32) (harg16 : arg16.IsWhole) (arg17 : Memref sig .tc .vmem S2x128x128 .f32) (harg17 : arg17.IsWhole) (arg18 : Memref sig .tc .vmem S2x2x64x128 .f32) (harg18 : arg18.IsWhole) (arg19 : Memref sig .tc .vmem S768x512 .bf16) (harg19 : arg19.IsWhole) (arg20 : Memref sig .tc .vmem S128x128 .f32) (harg20 : arg20.IsWhole) (arg21 : Memref sig .tc .vmem S2x6x128x128 .f32) (harg21 : arg21.IsWhole) (x0 : Vec Ideal S2x128x768 .i8) (x1 : Vec Ideal S2x128 .f32) (x2 : Vec Ideal S2x3x128 .f32) (x3 : Vec Ideal S2x96x128 .i32) (x4 : Vec Ideal S2x128 .i32) (x5 : Vec Ideal S33x768x512 .fp8e4m3) (x6 : Vec Ideal S33x24x512 .f32) (x7 : Vec Ideal S768x768 .fp8e4m3) (x8 : Vec Ideal S1x768 .f32) (x9 : Vec Ideal S1x768 .f32)
    (q : Fin 2 → Fin 128 → Fin 96 → Fin 128) (hq : ∀ b s n, x3 (ix3 b n s) = BitVec.ofNat 32 (q b s n).val)
    (b : Fin 2) (s : Fin 128) (cc : Fin 768) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9).1 (ix3 b s cc)
      = result (hid x5 x6) (fun r a => x7 (ix2 r a)) (fun a => x8 (ix2 0 a)) (fun a => x9 (ix2 0 a)) (fun b s k => x2 (ix3 b k s))
          (fun b s a => FloatOps.sitofp (F := Ideal) FTy.f32 (x0 (ix3 b s a))) (fun b s => x1 (ix2 b s)) (fun b s => x4 (ix2 b s)) q b s cc := by
  rw [y_val]
  refine trips_result (hid x5 x6) (View.canon (kernelRun0_A.sl.HS0_36 (F := Ideal) c arg7 harg7 x7)) (View.canon (kernelRun0_A.sl.HS1_6 (F := Ideal) c arg8 harg8 x8)) (View.canon (kernelRun0_A.sl.HS2_6 (F := Ideal) c arg9 harg9 x9)) (View.canon (kernelRun0_A.sl.HS3_2 (F := Ideal) c arg0 harg0 arg1 harg1 x0 x1)) (View.canon (kernelRun0_A.sl.HS5_4 (F := Ideal) c arg2 harg2 x2)) (View.canon (kernelRun0_A.sl.HS6_2 (F := Ideal) c arg3 harg3 arg4 harg4 x3 x4)) (View.canon (kernelRun0_A.sl.HS7_4 (F := Ideal) c arg3 harg3 arg4 harg4 arg17 x3 x4)) (fun r a => x7 (ix2 r a)) (fun a => x8 (ix2 0 a)) (fun a => x9 (ix2 0 a)) (fun b s k => x2 (ix3 b k s))
          (fun b s a => FloatOps.sitofp (F := Ideal) FTy.f32 (x0 (ix3 b s a))) (fun b s => x1 (ix2 b s)) (fun b s => x4 (ix2 b s)) q ?_ ?_ ?_ ?_ ?_ ?_ ?_ b s cc
  · exact fun p r => w2t_val c arg7 harg7 x7 p r
  · exact fun p l => w2sb_val c arg8 harg8 x8 p l
  · exact fun p l => b2b_val c arg9 harg9 x9 p l
  · exact fun e cc l => xt_val c arg0 harg0 arg1 harg1 x0 x1 e cc l
  · exact fun p r l => fc_val c arg2 harg2 x2 p r l
  · intro e r l
    rw [m_val]
    refine Finset.sum_congr rfl fun n _ => ?_
    have e1 : (fun (b : Fin 2) (a : Fin 128) => vw (BitVec.ofNat 32 n.val) (x4 (ix2 b a)) (x3 (ix3 b n a)) a.val)
        = fun b a => vw (BitVec.ofNat 32 n.val) (x4 (ix2 b a)) (BitVec.ofNat 32 (q b a n).val) a.val := by
      funext b a
      rw [hq]
    rw [e1]
  · exact fun e d r l => mr_val c arg3 harg3 arg4 harg4 arg17 x3 x4 e d r l

end Cert.KernelIdeal.Value
end
-- ==== Proof.KernOut.lean ====
module

public import proofs.«01_k».proof.Proof.KernB
public import proofs.«01_k».proof.Proof.Gen.KernelIdeal.Value
public import Idealize.ShloMosaic.Lib.Pipeline.ValueKit
public import Idealize.ShloMosaic.Lib.StableHlo.RunRead
public import Idealize.ShloMosaic.Lib.Pointwise
public import Idealize.ShloMosaic.Lib.Claim

/-! The kernel's output array at the end of its run. -/

@[expose] public section

set_option maxRecDepth 16384

noncomputable section
namespace Cert.KernelIdeal.Value
open Idealize.ShloMosaic Idealize.ShloMosaic.TcCoe Idealize.SL.Sem
open Cert.Spec Cert.KernelIdeal Cert.KernelIdeal.Gen

variable (m : (ℓ : Loc nD τ sig) → Buf (Elt Ideal) ℓ)

theorem blk0 (c : Dev nD) (j : S2x128x768.Idx) : iblk m c 0 t0_0 j = m ((c.tc : Thread nD τ).loc main_arg0) j := by
  have e : win0_0.index t0_0 = ![0, 0, 0] := by decide +kernel
  blk_simp [iblk]
  rw [V_main_arg0]
  refine congrArg (m ((c.tc : Thread nD τ).loc main_arg0)) (funext fun a => Fin.ext ?_)
  blk_simp [e]
  fin_cases a <;> simp

theorem blk1 (c : Dev nD) (j : S2x128.Idx) : iblk m c 1 t0_0 j = m ((c.tc : Thread nD τ).loc main_arg1) j := by
  have e : win0_1.index t0_0 = ![0, 0] := by decide +kernel
  blk_simp [iblk]
  rw [V_main_arg1]
  refine congrArg (m ((c.tc : Thread nD τ).loc main_arg1)) (funext fun a => Fin.ext ?_)
  blk_simp [e]
  fin_cases a <;> simp

theorem blk4 (c : Dev nD) (j : S2x128.Idx) : iblk m c 4 t0_0 j = m ((c.tc : Thread nD τ).loc main_arg4) j := by
  have e : win0_4.index t0_0 = ![0, 0] := by decide +kernel
  blk_simp [iblk]
  rw [V_main_arg4]
  refine congrArg (m ((c.tc : Thread nD τ).loc main_arg4)) (funext fun a => Fin.ext ?_)
  blk_simp [e]
  fin_cases a <;> simp

theorem blk5 (c : Dev nD) (j : S33x768x512.Idx) : iblk m c 5 t0_0 j = m ((c.tc : Thread nD τ).loc main_arg5) j := by
  have e : win0_5.index t0_0 = ![0, 0, 0] := by decide +kernel
  blk_simp [iblk]
  rw [V_main_arg5]
  refine congrArg (m ((c.tc : Thread nD τ).loc main_arg5)) (funext fun a => Fin.ext ?_)
  blk_simp [e]
  fin_cases a <;> simp

theorem blk6 (c : Dev nD) (j : S33x24x512.Idx) : iblk m c 6 t0_0 j = m ((c.tc : Thread nD τ).loc main_arg6) j := by
  have e : win0_6.index t0_0 = ![0, 0, 0] := by decide +kernel
  blk_simp [iblk]
  rw [V_main_arg6]
  refine congrArg (m ((c.tc : Thread nD τ).loc main_arg6)) (funext fun a => Fin.ext ?_)
  blk_simp [e]
  fin_cases a <;> simp

theorem blk7 (c : Dev nD) (j : S768x768.Idx) : iblk m c 7 t0_0 j = m ((c.tc : Thread nD τ).loc main_arg7) j := by
  have e : win0_7.index t0_0 = ![0, 0] := by decide +kernel
  blk_simp [iblk]
  rw [V_main_arg7]
  refine congrArg (m ((c.tc : Thread nD τ).loc main_arg7)) (funext fun a => Fin.ext ?_)
  blk_simp [e]
  fin_cases a <;> simp

theorem V_main_v0 (c : Dev nD) (b : Fin 2) (k : Fin 3) (s : Fin 128) : V m c main_v0 (ix3 b k s) = m ((c.tc : Thread nD τ).loc main_arg2) (ix3 b s k) := by
  entry_read
  pointwise

theorem blk2 (c : Dev nD) (b : Fin 2) (k : Fin 3) (s : Fin 128) : iblk m c 2 t0_0 (ix3 b k s) = m ((c.tc : Thread nD τ).loc main_arg2) (ix3 b s k) := by
  have e : win0_2.index t0_0 = ![0, 0, 0] := by decide +kernel
  refine Eq.trans ?_ (V_main_v0 m c b k s)
  blk_simp [iblk]
  refine congrArg (V m c main_v0) (funext fun a => Fin.ext ?_)
  blk_simp [e]
  fin_cases a <;> simp

theorem V_main_v1 (c : Dev nD) (b : Fin 2) (k : Fin 96) (s : Fin 128) : V m c main_v1 (ix3 b k s) = m ((c.tc : Thread nD τ).loc main_arg3) (ix3 b s k) := by
  entry_read
  pointwise

theorem blk3 (c : Dev nD) (b : Fin 2) (k : Fin 96) (s : Fin 128) : iblk m c 3 t0_0 (ix3 b k s) = m ((c.tc : Thread nD τ).loc main_arg3) (ix3 b s k) := by
  have e : win0_3.index t0_0 = ![0, 0, 0] := by decide +kernel
  refine Eq.trans ?_ (V_main_v1 m c b k s)
  blk_simp [iblk]
  refine congrArg (V m c main_v1) (funext fun a => Fin.ext ?_)
  blk_simp [e]
  fin_cases a <;> simp

theorem V_main_v2 (c : Dev nD) (a : Fin 768) : V m c main_v2 (ix2 0 a) = m ((c.tc : Thread nD τ).loc main_arg8) (ix1 a) := by
  entry_read
  pointwise

theorem blk8 (c : Dev nD) (a : Fin 768) : iblk m c 8 t0_0 (ix2 0 a) = m ((c.tc : Thread nD τ).loc main_arg8) (ix1 a) := by
  have e : win0_8.index t0_0 = ![0, 0] := by decide +kernel
  refine Eq.trans ?_ (V_main_v2 m c a)
  blk_simp [iblk]
  refine congrArg (V m c main_v2) (funext fun a => Fin.ext ?_)
  blk_simp [e]
  fin_cases a <;> simp

theorem V_main_v3 (c : Dev nD) (a : Fin 768) : V m c main_v3 (ix2 0 a) = m ((c.tc : Thread nD τ).loc main_arg9) (ix1 a) := by
  entry_read
  pointwise

theorem blk9 (c : Dev nD) (a : Fin 768) : iblk m c 9 t0_0 (ix2 0 a) = m ((c.tc : Thread nD τ).loc main_arg9) (ix1 a) := by
  have e : win0_9.index t0_0 = ![0, 0] := by decide +kernel
  refine Eq.trans ?_ (V_main_v3 m c a)
  blk_simp [iblk]
  refine congrArg (V m c main_v3) (funext fun a => Fin.ext ?_)
  blk_simp [e]
  fin_cases a <;> simp

theorem result_congr {H H' : Fin 33 → Fin 768 → Fin 512 → EReal} {W W' : Fin 768 → Fin 768 → EReal} {ws ws' b2 b2' : Fin 768 → EReal}
    {P P' : Fin 2 → Fin 128 → Fin 3 → EReal} {X X' : Fin 2 → Fin 128 → Fin 768 → EReal} {xs xs' : Fin 2 → Fin 128 → EReal} {cn cn' : Fin 2 → Fin 128 → BitVec 32}
    (h0 : ∀ k r cl, H k r cl = H' k r cl) (h1 : ∀ r a, W r a = W' r a) (h2 : ∀ a, ws a = ws' a) (h3 : ∀ a, b2 a = b2' a) (h4 : ∀ b s k, P b s k = P' b s k)
    (h5 : ∀ b s a, X b s a = X' b s a) (h6 : ∀ b s, xs b s = xs' b s) (h7 : ∀ b s, cn b s = cn' b s)
    (q : Fin 2 → Fin 128 → Fin 96 → Fin 128) (b : Fin 2) (s : Fin 128) (cc : Fin 768) :
    result H W ws b2 P X xs cn q b s cc = result H' W' ws' b2' P' X' xs' cn' q b s cc := by
  obtain rfl : H = H' := funext fun k => funext fun r => funext fun cl => h0 k r cl
  obtain rfl : W = W' := funext fun r => funext fun a => h1 r a
  obtain rfl : ws = ws' := funext h2
  obtain rfl : b2 = b2' := funext h3
  obtain rfl : P = P' := funext fun k => funext fun r => funext fun cl => h4 k r cl
  obtain rfl : X = X' := funext fun k => funext fun r => funext fun cl => h5 k r cl
  obtain rfl : xs = xs' := funext fun r => funext fun a => h6 r a
  obtain rfl : cn = cn' := funext fun r => funext fun a => h7 r a
  rfl

theorem out_value (c : Dev nD) (q : Fin 2 → Fin 128 → Fin 96 → Fin 128)
    (hq : ∀ b s n, (m ((c.tc : Thread nD τ).loc main_arg3) : IVec S2x128x96 32) (ix3 b s n) = BitVec.ofNat 32 (q b s n).val)
    (b : Fin 2) (s : Fin 128) (cc : Fin 768) : ((dats m 0 c).arrAt 10 cfg0.N : Vec Ideal S2x128x768 .bf16) (ix3 b s cc)
      = resultOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) q b s cc := by
  have hG : (dats m 0 c).arrAt 10 cfg0.N = (fun j : S2x128x768.Idx => resultOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) q (j 0) (j 1) (j 2)) := by
    refine (dats m 0 c).arrAt_eq_of_after_last 10 t0_0 (by decide +kernel) _ fun j => ?_
    blk_simp
    rw [after0_10]
    frame_out
    unfold outsAt0 out0_A_10
    rw [View.read_writes_junk_eq_canon]
    refine (congrArg (View.canon _) (eq_ix3 (j : S2x128x768.Idx))).trans ?_
    refine Eq.trans (y_result _ _ _ _ _ _ _ _ _ _ _ _ _ _ _ _ _ _ _ _ _ _ _ _ _ _ _ _ _ _ _ _ _ _ _ _ _ _ _ _ _ _ _ _ _ _ _ _ _ _ _ _ _ _ _ q (fun b s n => (blk3 m c b n s).trans (hq b s n)) _ _ _) ?_
    unfold resultOf
    refine result_congr ?_ ?_ ?_ ?_ ?_ ?_ ?_ ?_ q _ _ _
    · intro k r cl
      unfold hid
      rw [blk5, blk6]
    · exact fun r a => blk7 m c _
    · exact fun a => blk8 m c a
    · exact fun a => blk9 m c a
    · exact fun b s k => blk2 m c b k s
    · exact fun b s a => congrArg (FloatOps.sitofp (F := Ideal) FTy.f32) (blk0 m c _)
    · exact fun b s => blk1 m c _
    · exact fun b s => blk4 m c _
  exact congrFun hG (ix3 b s cc)

end Cert.KernelIdeal.Value
end
-- ==== Proof.RefA.lean ====
module

public import proofs.«01_k».proof.Proof.Gen.ReferenceIdeal.Frame
public import proofs.«01_k».proof.Proof.Spec
public import Idealize.ShloMosaic.Lib.StableHlo.RunRead
public import Idealize.ShloMosaic.Lib.Pointwise
public import Idealize.ShloMosaic.Lib.Claim
public import Idealize.ShloMosaic.Lib.Routing.OpsPair
public import Idealize.ShloMosaic.Lib.Routing.OpsSet

/-! The reference's host line, read buffer by buffer. -/

@[expose] public section

set_option maxRecDepth 16384

noncomputable section
namespace Cert.ReferenceIdeal.Value
open Idealize.ShloMosaic Idealize.ShloMosaic.TcCoe Idealize.SL.Sem
open Idealize.ShloMosaic.Routing
open Cert.Spec Cert.ReferenceIdeal Cert.ReferenceIdeal.Gen

/-- The place of pair (molecule, atom, list position) in the flat list of pairs. -/
def jx (b : Fin 2) (s : Fin 128) (n : Fin 96) : Fin 24576 := ⟨(b.val * 128 + s.val) * 96 + n.val, by omega⟩

theorem flat_at {α : Type} (x : S2x128x96.Idx → α) (h : S2x128x96.ShapeCasts S24576) (b : Fin 2) (s : Fin 128) (n : Fin 96) :
    shapeCast S24576 x h (ix1 (jx b s n)) = x (ix3 b s n) := by
  refine shapeCast_apply x h _ _ ?_
  rw [Shape.rowMajor_val_three, Shape.rowMajor_val_one]
  rfl

theorem rows_at {α : Type} {D : Nat} (x : (⟨3, ![2, 128, D]⟩ : Shape).Idx → α) (h : (⟨3, ![2, 128, D]⟩ : Shape).ShapeCasts ⟨2, ![256, D]⟩)
    (b : Fin 2) (q : Fin 128) (k : Fin D) (r : Fin 256) (hr : r.val = b.val * 128 + q.val) :
    shapeCast ⟨2, ![256, D]⟩ x h (ix2 r k) = x (ix3 b q k) := by
  refine shapeCast_apply x h _ _ ?_
  rw [Shape.rowMajor_val_three, Shape.rowMajor_val_two]
  show (b.val * 128 + q.val) * D + k.val = r.val * D + k.val
  rw [hr]

/-- A row number inside the table passes the negative-index wrap unchanged. -/
theorem wrapcol (N : BitVec 32) (v : S24576.Idx → BitVec 32) (j : Fin 24576) (k : Nat) (hk : k < 2 ^ 31) (hv : v (ix1 j) = BitVec.ofNat 32 k) :
    broadcastInDim S24576x1 ![0] bcast_S24576_S24576x1_0
      (select (cmpi CmpIPredicate.slt v (broadcastInDim S24576 ![] bcast_S_S24576 (constantI S_ 32 0#32)))
        (addi v (broadcastInDim S24576 ![] bcast_S_S24576 (constantI S_ 32 N))) v) (ix2 j 0) = BitVec.ofNat 32 k := by
  pointwise
  rw [hv]
  exact wrap_of_lt _ _ (by rw [BitVec.toNat_ofNat]; omega)

/-- Gathering rows by a wrapped column of in-range row numbers reads the row. -/
theorem rowg {α : Type} {R D : Nat} (d : GatherDims (⟨2, ![R, D]⟩ : Shape) S24576x1 ⟨2, ![24576, D]⟩) (hoff : d.offsetDims = [1])
    (hcoll : d.collapsedSliceDims = [0]) (hob : d.operandBatchingDims = []) (hsim : d.startIndexMap = [0]) (hivd : d.indexVectorDim = 1)
    (x : (⟨2, ![R, D]⟩ : Shape).Idx → α) (N : BitVec 32) (v : S24576.Idx → BitVec 32) (j : Fin 24576) (y : Fin D) (k : Fin R)
    (hR : R < 2 ^ 31) (hv : v (ix1 j) = BitVec.ofNat 32 k.val) :
    Host.gather d x (broadcastInDim S24576x1 ![0] bcast_S24576_S24576x1_0
      (select (cmpi CmpIPredicate.slt v (broadcastInDim S24576 ![] bcast_S_S24576 (constantI S_ 32 0#32)))
        (addi v (broadcastInDim S24576 ![] bcast_S_S24576 (constantI S_ 32 N))) v)) (ix2 j y) = x (ix2 k y) :=
  gather_row d hoff hcoll hob hsim hivd x _ j y k (wrapcol N v j k.val (by have := k.isLt; omega) hv) hR

theorem sub63 : ∀ (q s : Fin 128), IntOp.andi (IntOp.subi (IntOp.shrsi ArithUnit.host (BitVec.ofNat 32 q.val) 1#32)
    (IntOp.shrsi ArithUnit.host (BitVec.ofNat 32 s.val) 1#32)) 63#32 = BitVec.ofNat 32 ((q.val / 2 + 64 - s.val / 2) % 64) := by
  have h1 : ∀ q : Fin 128, IntOp.shrsi ArithUnit.host (BitVec.ofNat 32 q.val) 1#32 = BitVec.ofNat 32 (q.val / 2) := by decide +kernel
  have h2 : ∀ a b : Fin 64, IntOp.andi (IntOp.subi (BitVec.ofNat 32 a.val) (BitVec.ofNat 32 b.val)) 63#32 = BitVec.ofNat 32 ((a.val + 64 - b.val) % 64) := by
    decide +kernel
  intro q s
  rw [h1, h1]
  exact h2 ⟨q.val / 2, by omega⟩ ⟨s.val / 2, by omega⟩

section A
variable (V : Valuation τ sig (Elt Ideal)) (b : Fin 2) (s : Fin 128) (n : Fin 96) (q : Fin 128)

set_option maxHeartbeats 1600000 in
theorem v9_at (hq : V (Proc.devRef .tc main_arg3) (ix3 b s n) = BitVec.ofNat 32 q.val) :
    StableHlo.after (hostOps1 (F := Ideal)) V (Proc.devRef .tc main_v9) (ix1 (jx b s n)) = BitVec.ofNat 32 (b.val * 128 + q.val) := by
  after_reads_simp
  refine (flat_at _ _ b s n).trans ?_
  pointwise
  rw [hq, Nat.add_comm, BitVec.ofNat_add, BitVec.ofNat_mul]
  rfl

set_option maxHeartbeats 1600000 in
theorem v16_at :
    StableHlo.after (hostOps1 (F := Ideal)) V (Proc.devRef .tc main_v16) (ix1 (jx b s n)) = BitVec.ofNat 32 (b.val * 128 + s.val) := by
  after_reads_simp
  refine (flat_at _ _ b s n).trans ?_
  pointwise
  rw [Nat.add_comm, BitVec.ofNat_add, BitVec.ofNat_mul]
  rfl

set_option maxHeartbeats 1600000 in
theorem v35_at (P : FVec Ideal S2x128x3 .f32) (hP : V (Proc.devRef .tc main_arg2) = P)
    (hq : V (Proc.devRef .tc main_arg3) (ix3 b s n) = BitVec.ofNat 32 q.val) :
    StableHlo.after (hostOps1 (F := Ideal)) V (Proc.devRef .tc main_v35) (ix1 (jx b s n))
      = Ideal.sqrt (∑ k : Fin 3, (P (ix3 b q k) - P (ix3 b s k)) * (P (ix3 b q k) - P (ix3 b s k)) : EReal) := by
  have h9 := v9_at V b s n q hq
  have h16 := v16_at V b s n
  revert h9 h16
  after_reads_simp
  rw [hP]
  generalize shapeCast main_v9.ty.shape _ shapeCasts_S2x128x96_S24576 = v9
  generalize shapeCast main_v16.ty.shape _ shapeCasts_S2x128x96_S24576 = v16
  generalize hx : shapeCast main_v17.ty.shape P _ = x
  intro h9 h16
  pointwise
  refine congrArg Ideal.sqrt (Finset.sum_congr rfl fun k _ => ?_)
  have e1 : x (ix2 ⟨b.val * 128 + q.val, by omega⟩ k) = P (ix3 b q k) := by rw [← hx]; exact rows_at P _ b q k _ rfl
  have e2 : x (ix2 ⟨b.val * 128 + s.val, by omega⟩ k) = P (ix3 b s k) := by rw [← hx]; exact rows_at P _ b s k _ rfl
  rw [rowg gather_S256x3_S24576x1_S24576x3_1_0_n_n_0_1_13 rfl rfl rfl rfl rfl x 256#32 v9 (jx b s n) k ⟨b.val * 128 + q.val, by omega⟩ (by norm_num) h9,
    rowg gather_S256x3_S24576x1_S24576x3_1_0_n_n_0_1_13 rfl rfl rfl rfl rfl x 256#32 v16 (jx b s n) k ⟨b.val * 128 + s.val, by omega⟩ (by norm_num) h16, e1, e2]

set_option maxHeartbeats 1600000 in
theorem v43_at (hq : V (Proc.devRef .tc main_arg3) (ix3 b s n) = BitVec.ofNat 32 q.val) :
    StableHlo.after (hostOps1 (F := Ideal)) V (Proc.devRef .tc main_v43) (ix3 b s n) = BitVec.ofNat 32 (off q s) := by
  after_reads_simp
  pointwise
  rw [hq]
  exact sub63 q s

set_option maxHeartbeats 1600000 in
theorem v45_at (hq : V (Proc.devRef .tc main_arg3) (ix3 b s n) = BitVec.ofNat 32 q.val) :
    StableHlo.after (hostOps1 (F := Ideal)) V (Proc.devRef .tc main_v45) (ix3 b s n) = if off q s ≤ 32 then 1#1 else 0#1 := by
  have h2 : ∀ a : Fin 64, IntOp.cmpi .sle (BitVec.ofNat 32 a.val) 32#32 = if a.val ≤ 32 then 1#1 else 0#1 := by decide +kernel
  after_reads_simp
  pointwise
  rw [hq, sub63 q s]
  exact h2 ⟨off q s, Nat.mod_lt _ (by norm_num)⟩

set_option maxHeartbeats 1600000 in
theorem v47_at (hq : V (Proc.devRef .tc main_arg3) (ix3 b s n) = BitVec.ofNat 32 q.val) :
    StableHlo.after (hostOps1 (F := Ideal)) V (Proc.devRef .tc main_v47) (ix3 b s n) = BitVec.ofNat 32 (64 - off q s) := by
  have h2 : ∀ a : Fin 64, IntOp.subi 64#32 (BitVec.ofNat 32 a.val) = BitVec.ofNat 32 (64 - a.val) := by decide +kernel
  after_reads_simp
  pointwise
  rw [hq, sub63 q s]
  exact h2 ⟨off q s, Nat.mod_lt _ (by norm_num)⟩

set_option maxHeartbeats 1600000 in
theorem v2_at : StableHlo.after (hostOps1 (F := Ideal)) V (Proc.devRef .tc main_v2) (ix3 b 0 0) = BitVec.ofNat 32 b.val := by
  after_reads_simp
  pointwise

set_option maxHeartbeats 1600000 in
theorem v4_at : StableHlo.after (hostOps1 (F := Ideal)) V (Proc.devRef .tc main_v4) (ix3 0 s 0) = BitVec.ofNat 32 s.val := by
  after_reads_simp
  pointwise
end A

section B
variable (V : Valuation τ sig (Elt Ideal)) (b : Fin 2) (s : Fin 128) (n : Fin 96) (q : Fin 128)

set_option maxHeartbeats 1600000 in
theorem v48_at (X Y : IVec S2x128x96 32) (c : IVec S2x128x96 1) (hX : V (Proc.devRef .tc main_v43) = X) (hY : V (Proc.devRef .tc main_v47) = Y)
    (hc : V (Proc.devRef .tc main_v45) = c) :
    StableHlo.after (hostOps1_1 (F := Ideal)) V (Proc.devRef .tc main_v48) = select c X Y := by
  after_reads_simp
  rw [hX, hY, hc]
  rfl

set_option maxHeartbeats 1600000 in
theorem v49_at (X : IVec S1x128x1 32) (Y : IVec S2x128x96 32) (c : IVec S2x128x96 1) (hX : V (Proc.devRef .tc main_v4) = X) (hY : V (Proc.devRef .tc main_arg3) = Y)
    (hc : V (Proc.devRef .tc main_v45) = c) :
    StableHlo.after (hostOps1_2 (F := Ideal)) V (Proc.devRef .tc main_v49)
      = select c (broadcastInDim S2x128x96 ![0, 1, 2] bcast_S1x128x1_S2x128x96_0_1_2 X) Y := by
  after_reads_simp
  rw [hX, hY, hc]
  rfl

set_option maxHeartbeats 1600000 in
theorem v50_at (X : IVec S1x128x1 32) (Y : IVec S2x128x96 32) (c : IVec S2x128x96 1) (hX : V (Proc.devRef .tc main_v4) = X) (hY : V (Proc.devRef .tc main_arg3) = Y)
    (hc : V (Proc.devRef .tc main_v45) = c) :
    StableHlo.after (hostOps1_3 (F := Ideal)) V (Proc.devRef .tc main_v50)
      = select c Y (broadcastInDim S2x128x96 ![0, 1, 2] bcast_S1x128x1_S2x128x96_0_1_2 X) := by
  after_reads_simp
  rw [hX, hY, hc]
  rfl

set_option maxHeartbeats 1600000 in
theorem v112_at (D : FVec Ideal S24576 .f32) (C : IVec S24576 1) (z : FVec Ideal S_ .f32) (hC : V (Proc.devRef .tc main_v102) = C)
    (hD : V (Proc.devRef .tc main_v111) = D) (hz : V (Proc.devRef .tc main_cst_26) = z) :
    StableHlo.after (hostOps1_5 (F := Ideal)) V (Proc.devRef .tc main_v112)
      = select C D (broadcastInDim S24576 ![] bcast_S_S24576 z) := by
  after_reads_simp
  rw [hC, hD, hz]
  rfl
end B

section C
variable (V : Valuation τ sig (Elt Ideal)) (b : Fin 2) (s : Fin 128) (n : Fin 96) (q : Fin 128)

theorem slots_at {α : Type} {D : Nat} (x : (⟨3, ![33, 512, D]⟩ : Shape).Idx → α) (h : (⟨3, ![33, 512, D]⟩ : Shape).ShapeCasts ⟨2, ![16896, D]⟩)
    (k : Fin 33) (c : Fin 512) (d : Fin D) (r : Fin 16896) (hr : r.val = k.val * 512 + c.val) :
    shapeCast ⟨2, ![16896, D]⟩ x h (ix2 r d) = x (ix3 k c d) := by
  refine shapeCast_apply x h _ _ ?_
  rw [Shape.rowMajor_val_three, Shape.rowMajor_val_two]
  show (k.val * 512 + c.val) * D + d.val = r.val * D + d.val
  rw [hr]

theorem slotw (k : Fin 33) (b : Fin 2) (a c : Fin 128) :
    IntOp.addi (IntOp.addi (IntOp.addi (IntOp.addi (IntOp.muli (BitVec.ofNat 32 k.val) 512#32) (IntOp.muli 256#32 (IntOp.andi (BitVec.ofNat 32 a.val) 1#32)))
      (IntOp.muli 128#32 (IntOp.andi (BitVec.ofNat 32 c.val) 1#32))) (IntOp.muli 2#32 (IntOp.shrsi ArithUnit.host (BitVec.ofNat 32 a.val) 1#32)))
      (BitVec.ofNat 32 b.val) = BitVec.ofNat 32 (k.val * 512 + (col b a c).val) := by
  have h1 : ∀ q : Fin 128, IntOp.shrsi ArithUnit.host (BitVec.ofNat 32 q.val) 1#32 = BitVec.ofNat 32 (q.val / 2) := by decide +kernel
  have h2 : ∀ q : Fin 128, IntOp.andi (BitVec.ofNat 32 q.val) 1#32 = BitVec.ofNat 32 (q.val % 2) := by decide +kernel
  rw [h1, h2, h2]
  have e : k.val * 512 + (col b a c).val = (((k.val * 512 + 256 * (a.val % 2)) + 128 * (c.val % 2)) + 2 * (a.val / 2)) + b.val := by
    show k.val * 512 + (256 * (a.val % 2) + 128 * (c.val % 2) + 2 * (a.val / 2) + b.val) = _
    omega
  rw [e]
  simp only [BitVec.ofNat_add, BitVec.ofNat_mul]
  rfl

set_option maxHeartbeats 1600000 in
theorem v70_at (k : Fin 33) (a c : Fin 128) (h48 : V (Proc.devRef .tc main_v48) (ix3 b s n) = BitVec.ofNat 32 k.val)
    (h49 : V (Proc.devRef .tc main_v49) (ix3 b s n) = BitVec.ofNat 32 a.val) (h50 : V (Proc.devRef .tc main_v50) (ix3 b s n) = BitVec.ofNat 32 c.val)
    (h2 : V (Proc.devRef .tc main_v2) (ix3 b 0 0) = BitVec.ofNat 32 b.val) :
    StableHlo.after (hostOps1_4 (F := Ideal)) V (Proc.devRef .tc main_v70) (ix1 (jx b s n)) = BitVec.ofNat 32 (k.val * 512 + (col b a c).val) := by
  after_reads_simp
  refine (flat_at _ _ b s n).trans ?_
  pointwise
  rw [h48, h49, h50, h2]
  exact slotw k b a c

set_option maxHeartbeats 1600000 in
theorem v100_at (Q : FVec Ideal S33x768x512 .bf16) (S : FVec Ideal S33x24x512 .f32) (W : FVec Ideal S768x768 .bf16) (ws b2 : FVec Ideal S768 .f32)
    (hQ : V (Proc.devRef .tc main_v0_1) = Q) (hS : V (Proc.devRef .tc main_arg6) = S) (hW : V (Proc.devRef .tc main_v0_2) = W)
    (hws : V (Proc.devRef .tc main_arg8) = ws) (hb2 : V (Proc.devRef .tc main_arg9) = b2) (cc : Fin 768)
    (k : Fin 33) (a c : Fin 128) (h48 : V (Proc.devRef .tc main_v48) (ix3 b s n) = BitVec.ofNat 32 k.val)
    (h49 : V (Proc.devRef .tc main_v49) (ix3 b s n) = BitVec.ofNat 32 a.val) (h50 : V (Proc.devRef .tc main_v50) (ix3 b s n) = BitVec.ofNat 32 c.val)
    (h2 : V (Proc.devRef .tc main_v2) (ix3 b 0 0) = BitVec.ofNat 32 b.val) :
    StableHlo.after (hostOps1_4 (F := Ideal)) V (Proc.devRef .tc main_v100) (ix2 (jx b s n) cc)
      = ((∑ r : Fin 768, (Q (ix3 k r (col b a c)) * S (ix3 k ⟨r.val / 32, by omega⟩ (col b a c))) * W (ix2 r cc)) * ws (ix1 cc) + b2 (ix1 cc) : EReal) := by
  have h70 := v70_at V b s n k a c h48 h49 h50 h2
  revert h70
  after_reads_simp
  rw [hQ, hS, hW, hws, hb2]
  generalize shapeCast main_v70.ty.shape _ shapeCasts_S2x128x96_S24576 = v70
  generalize hx : shapeCast main_v72.ty.shape _ _ = x
  generalize hy : shapeCast main_v81.ty.shape _ _ = y
  intro h70
  pointwise
  have ex : ∀ r : Fin 768, x (ix2 ⟨k.val * 512 + (col b a c).val, by omega⟩ r) = Q (ix3 k r (col b a c)) := fun r => by
    rw [← hx]
    refine (slots_at _ _ k (col b a c) r _ rfl).trans ?_
    pointwise
  have ey : ∀ r : Fin 24, y (ix2 ⟨k.val * 512 + (col b a c).val, by omega⟩ r) = S (ix3 k r (col b a c)) := fun r => by
    rw [← hy]
    refine (slots_at _ _ k (col b a c) r _ rfl).trans ?_
    pointwise
  refine congrArg₂ (· + ·) (congrArg₂ (· * ·) (Finset.sum_congr rfl fun r _ => congrArg₂ (· * ·) (congrArg₂ (· * ·) ?_ ?_) rfl) rfl) rfl
  · exact (rowg gather_S16896x768_S24576x1_S24576x768_1_0_n_n_0_1_1768 rfl rfl rfl rfl rfl x 16896#32 v70 (jx b s n) r
      ⟨k.val * 512 + (col b a c).val, by omega⟩ (by norm_num) h70).trans (ex r)
  · exact (rowg gather_S16896x24_S24576x1_S24576x24_1_0_n_n_0_1_124 rfl rfl rfl rfl rfl y 16896#32 v70 (jx b s n) ⟨r.val / 32, by omega⟩
      ⟨k.val * 512 + (col b a c).val, by omega⟩ (by norm_num) h70).trans (ey _)
end C

section D
variable (V : Valuation τ sig (Elt Ideal)) (b : Fin 2) (s : Fin 128)

set_option maxHeartbeats 1600000 in
theorem v145_at (q : Fin 96 → Fin 128) (X : FVec Ideal S2x128x768 .f32) (xs : FVec Ideal S2x128 .f32) (cnt : IVec S2x128 32)
    (Y : FVec Ideal S24576x768 .f32) (E : FVec Ideal S24576 .f32)
    (hX : V (Proc.devRef .tc main_v0_0) = X) (hxs : V (Proc.devRef .tc main_arg1) = xs) (hcnt : V (Proc.devRef .tc main_arg4) = cnt)
    (hY : V (Proc.devRef .tc main_v100) = Y) (hE : V (Proc.devRef .tc main_v112) = E)
    (h9 : ∀ n, V (Proc.devRef .tc main_v9) (ix1 (jx b s n)) = BitVec.ofNat 32 (b.val * 128 + (q n).val)) (cc : Fin 768) :
    StableHlo.after (hostOps1_6 (F := Ideal)) V (Proc.devRef .tc main_v145) (ix3 b s cc)
      = ∑ n : Fin 96, ((Y (ix2 (jx b s n) cc) * ((E (ix1 (jx b s n)) * FloatOps.uitofp (F := Ideal) .f32 (IntOp.cmpi .slt (BitVec.ofNat 32 n.val) (cnt (ix2 b s)))) * xs (ix2 b (q n))))
          * X (ix3 b (q n) cc) : EReal) := by
  after_reads_simp
  rw [hX, hxs, hcnt, hY, hE]
  generalize V (Proc.devRef .tc main_v9) = v9 at *
  generalize hx : shapeCast main_v113.ty.shape _ _ = x
  generalize hy : shapeCast main_v121.ty.shape _ _ = y
  generalize hz : shapeCast main_v136.ty.shape _ _ = z
  pointwise
  have ex : ∀ r : Fin 128, x (ix2 ⟨b.val * 128 + r.val, by omega⟩ cc) = X (ix3 b r cc) := fun r => by
    rw [← hx]
    exact rows_at X _ b r cc _ rfl
  have ey : ∀ r : Fin 128, y (ix1 ⟨b.val * 128 + r.val, by omega⟩) = xs (ix2 b r) := fun r => by
    rw [← hy]
    have e : (S2x128.rowMajor (ix2 b r)).val = (S256.rowMajor (ix1 (⟨b.val * 128 + r.val, by omega⟩ : Fin 256))).val := by
      rw [Shape.rowMajor_val_two, Shape.rowMajor_val_one]
      rfl
    exact shapeCast_apply xs _ _ _ e
  have ez : ∀ n : Fin 96, z (ix1 (jx b s n)) = FloatOps.uitofp (F := Ideal) .f32 (IntOp.cmpi .slt (BitVec.ofNat 32 n.val) (cnt (ix2 b s))) := fun n => by
    rw [← hz]
    refine (flat_at _ _ b s n).trans ?_
    pointwise
  refine Finset.sum_congr (M := EReal) rfl fun n _ => ?_
  have hj : (⟨b.val * 12288 + s.val * 96 + n.val, by omega⟩ : Fin 24576) = jx b s n :=
    Fin.ext (by show b.val * 12288 + s.val * 96 + n.val = (b.val * 128 + s.val) * 96 + n.val; omega)
  rw [hj]
  refine congrArg₂ (· * ·) (congrArg₂ (· * ·) rfl (congrArg₂ (· * ·) (congrArg₂ (· * ·) rfl (ez n)) ?_)) ?_
  · exact (gather_take1 gather_S256_S24576x1_S24576_n_0_n_n_0_1_1 rfl rfl rfl rfl y _ (jx b s n) ⟨b.val * 128 + (q n).val, by omega⟩
      (wrapcol 256#32 v9 (jx b s n) (b.val * 128 + (q n).val) (by omega) (h9 n)) (by norm_num)).trans (ey _)
  · exact (rowg gather_S256x768_S24576x1_S24576x768_1_0_n_n_0_1_1768 rfl rfl rfl rfl rfl x 256#32 v9 (jx b s n) cc
      ⟨b.val * 128 + (q n).val, by omega⟩ (by norm_num) (h9 n)).trans (ex _)
end D

end Cert.ReferenceIdeal.Value
-- ==== Proof.RefB.lean ====
module

public import proofs.«01_k».proof.Proof.Gen.ReferenceIdeal.Frame
public import proofs.«01_k».proof.Proof.RefA
public import Idealize.ShloMosaic.Lib.Pipeline.ValueKit
public import Idealize.ShloMosaic.Lib.StableHlo.RunRead
public import Idealize.ShloMosaic.Lib.Pointwise
public import Idealize.ShloMosaic.Lib.Claim
public import Idealize.ShloMosaic.Lib.Routing.OpsPair
public import Idealize.ShloMosaic.Lib.Routing.OpsSet

/-! The reference's host line, read buffer by buffer. -/

@[expose] public section

set_option maxRecDepth 16384

noncomputable section
namespace Cert.ReferenceIdeal.Value
open Idealize.ShloMosaic Idealize.ShloMosaic.TcCoe Idealize.SL.Sem
open Idealize.ShloMosaic.Routing
open Cert.Spec Cert.ReferenceIdeal Cert.ReferenceIdeal.Gen

variable (m : (ℓ : Loc nD τ sig) → Buf (Elt Ideal) ℓ)

theorem z3 : (![0, 0, 0] : Fin 3 → Nat) = fun _ => 0 := funext fun a => by fin_cases a <;> rfl
theorem z2 : (![0, 0] : Fin 2 → Nat) = fun _ => 0 := funext fun a => by fin_cases a <;> rfl

theorem blk0 (c : Dev nD) (j : S2x128x768.Idx) : iblk m c 0 t0_0 j = m ((c.tc : Thread nD τ).loc main_arg0) j := by
  have e : win0_0.index t0_0 = ![0, 0, 0] := by decide +kernel
  blk_simp [iblk]
  rw [V_main_arg0]
  refine congrArg (m ((c.tc : Thread nD τ).loc main_arg0)) (funext fun a => Fin.ext ?_)
  blk_simp [e]
  fin_cases a <;> simp

theorem blk1 (c : Dev nD) (j : S33x768x512.Idx) : iblk m c 1 t0_0 j = m ((c.tc : Thread nD τ).loc main_arg5) j := by
  have e : win0_1.index t0_0 = ![0, 0, 0] := by decide +kernel
  blk_simp [iblk]
  rw [V_main_arg5]
  refine congrArg (m ((c.tc : Thread nD τ).loc main_arg5)) (funext fun a => Fin.ext ?_)
  blk_simp [e]
  fin_cases a <;> simp

theorem blk2 (c : Dev nD) (j : S768x768.Idx) : iblk m c 2 t0_0 j = m ((c.tc : Thread nD τ).loc main_arg7) j := by
  have e : win0_2.index t0_0 = ![0, 0] := by decide +kernel
  blk_simp [iblk]
  rw [V_main_arg7]
  refine congrArg (m ((c.tc : Thread nD τ).loc main_arg7)) (funext fun a => Fin.ext ?_)
  blk_simp [e]
  fin_cases a <;> simp

theorem cast3 (c : Dev nD) : (dats m 0 c).arrAt 3 cfg0.N
    = (fun j => FloatOps.sitofp (F := Ideal) FTy.f32 (m ((c.tc : Thread nD τ).loc main_arg0) j) : Vec Ideal S2x128x768 .f32) := by
  refine (dats m 0 c).arrAt_eq_of_after_last 3 t0_0 (by decide +kernel) _ fun j => ?_
  blk_simp
  rw [after0_3]
  unfold out0_3 k0_pay1
  rw [View.canon_cons_unit_zero z3, View.ld_unit_zero z3]
  show FloatOps.sitofp (F := Ideal) FTy.f32 (iblk m c 0 t0_0 j) = _
  rw [blk0]

theorem cast4 (c : Dev nD) : (dats m 0 c).arrAt 4 cfg0.N = (m ((c.tc : Thread nD τ).loc main_arg5) : Vec Ideal S33x768x512 .fp8e4m3) := by
  refine (dats m 0 c).arrAt_eq_of_after_last 4 t0_0 (by decide +kernel) _ fun j => ?_
  blk_simp
  rw [after0_4]
  unfold out0_4 k0_pay2
  rw [View.canon_cons_unit_zero z3, View.ld_unit_zero z3]
  exact blk1 m c j

theorem cast5 (c : Dev nD) : (dats m 0 c).arrAt 5 cfg0.N = (m ((c.tc : Thread nD τ).loc main_arg7) : Vec Ideal S768x768 .fp8e4m3) := by
  refine (dats m 0 c).arrAt_eq_of_after_last 5 t0_0 (by decide +kernel) _ fun j => ?_
  blk_simp
  rw [after0_5]
  unfold out0_5 k0_pay3
  rw [View.canon_cons_unit_zero z2, View.ld_unit_zero z2]
  exact blk2 m c j

section
variable (V : Valuation τ sig (Elt Ideal)) (j : Fin 24576)

set_option maxHeartbeats 1600000 in
theorem v102_at (D : FVec Ideal S24576 .f32) (hD : V (Proc.devRef .tc main_v35) = D) :
    StableHlo.after (hostOps1_4 (F := Ideal)) V (Proc.devRef .tc main_v102) (ix1 j)
      = FloatOps.cmpf .olt (D (ix1 j)) (FloatOps.ofBits (F := Ideal) .f32 1084227584#32) := by
  after_reads_simp
  rw [hD]
  pointwise

set_option maxHeartbeats 1600000 in
theorem v111_at (D : FVec Ideal S24576 .f32) (hD : V (Proc.devRef .tc main_v35) = D) :
    StableHlo.after (hostOps1_4 (F := Ideal)) V (Proc.devRef .tc main_v111) (ix1 j)
      = (Ideal.ofBits FTy.f32 1056964608#32
      * (Ideal.cos (Ideal.div (Ideal.ofBits FTy.f32 1078530011#32 * D (ix1 j)) (Ideal.ofBits FTy.f32 1084227584#32)) + 1) : EReal) := by
  after_reads_simp
  rw [hD]
  pointwise

set_option maxHeartbeats 1600000 in
theorem cst26_at :
    StableHlo.after (hostOps1_4 (F := Ideal)) V (Proc.devRef .tc main_cst_26) = fun _ => (0 : EReal) := by
  after_reads_simp
  funext i
  pointwise
end

theorem cut_eq (d z : EReal) (hz : z = 0) : Scalar.select (FloatOps.cmpf (F := Ideal) (φ := .f32) .olt (Ideal.sqrt d) (FloatOps.ofBits (F := Ideal) .f32 1084227584#32))
    (Ideal.ofBits FTy.f32 1056964608#32
      * (Ideal.cos (Ideal.div (Ideal.ofBits FTy.f32 1078530011#32 * Ideal.sqrt d) (Ideal.ofBits FTy.f32 1084227584#32)) + 1)) z = KernelIdeal.Value.cutq d := by
  subst hz
  pointwise [KernelIdeal.Value.cutq]

theorem keep_v0_0 (V : Valuation τ sig (Elt Ideal)) : StableHlo.after (hostOps1 (F := Ideal)) V (Proc.devRef .tc main_v0_0) = V (Proc.devRef .tc main_v0_0) :=
  StableHlo.after_of_writes_sub (r := main_v0_0) hostOps1 V hostOps1_writes (by decide +kernel)
theorem keep_v0_1 (V : Valuation τ sig (Elt Ideal)) : StableHlo.after (hostOps1 (F := Ideal)) V (Proc.devRef .tc main_v0_1) = V (Proc.devRef .tc main_v0_1) :=
  StableHlo.after_of_writes_sub (r := main_v0_1) hostOps1 V hostOps1_writes (by decide +kernel)
theorem keep_v0_2 (V : Valuation τ sig (Elt Ideal)) : StableHlo.after (hostOps1 (F := Ideal)) V (Proc.devRef .tc main_v0_2) = V (Proc.devRef .tc main_v0_2) :=
  StableHlo.after_of_writes_sub (r := main_v0_2) hostOps1 V hostOps1_writes (by decide +kernel)
theorem keep_arg1 (V : Valuation τ sig (Elt Ideal)) : StableHlo.after (hostOps1 (F := Ideal)) V (Proc.devRef .tc main_arg1) = V (Proc.devRef .tc main_arg1) :=
  StableHlo.after_of_writes_sub (r := main_arg1) hostOps1 V hostOps1_writes (by decide +kernel)
theorem keep_arg3 (V : Valuation τ sig (Elt Ideal)) : StableHlo.after (hostOps1 (F := Ideal)) V (Proc.devRef .tc main_arg3) = V (Proc.devRef .tc main_arg3) :=
  StableHlo.after_of_writes_sub (r := main_arg3) hostOps1 V hostOps1_writes (by decide +kernel)
theorem keep_arg4 (V : Valuation τ sig (Elt Ideal)) : StableHlo.after (hostOps1 (F := Ideal)) V (Proc.devRef .tc main_arg4) = V (Proc.devRef .tc main_arg4) :=
  StableHlo.after_of_writes_sub (r := main_arg4) hostOps1 V hostOps1_writes (by decide +kernel)
theorem keep_arg6 (V : Valuation τ sig (Elt Ideal)) : StableHlo.after (hostOps1 (F := Ideal)) V (Proc.devRef .tc main_arg6) = V (Proc.devRef .tc main_arg6) :=
  StableHlo.after_of_writes_sub (r := main_arg6) hostOps1 V hostOps1_writes (by decide +kernel)
theorem keep_arg8 (V : Valuation τ sig (Elt Ideal)) : StableHlo.after (hostOps1 (F := Ideal)) V (Proc.devRef .tc main_arg8) = V (Proc.devRef .tc main_arg8) :=
  StableHlo.after_of_writes_sub (r := main_arg8) hostOps1 V hostOps1_writes (by decide +kernel)
theorem keep_arg9 (V : Valuation τ sig (Elt Ideal)) : StableHlo.after (hostOps1 (F := Ideal)) V (Proc.devRef .tc main_arg9) = V (Proc.devRef .tc main_arg9) :=
  StableHlo.after_of_writes_sub (r := main_arg9) hostOps1 V hostOps1_writes (by decide +kernel)
theorem keep_1_v0_0 (V : Valuation τ sig (Elt Ideal)) : StableHlo.after (hostOps1_1 (F := Ideal)) V (Proc.devRef .tc main_v0_0) = V (Proc.devRef .tc main_v0_0) :=
  StableHlo.after_of_writes_sub (r := main_v0_0) hostOps1_1 V hostOps1_1_writes (by decide +kernel)
theorem keep_1_v0_1 (V : Valuation τ sig (Elt Ideal)) : StableHlo.after (hostOps1_1 (F := Ideal)) V (Proc.devRef .tc main_v0_1) = V (Proc.devRef .tc main_v0_1) :=
  StableHlo.after_of_writes_sub (r := main_v0_1) hostOps1_1 V hostOps1_1_writes (by decide +kernel)
theorem keep_1_v0_2 (V : Valuation τ sig (Elt Ideal)) : StableHlo.after (hostOps1_1 (F := Ideal)) V (Proc.devRef .tc main_v0_2) = V (Proc.devRef .tc main_v0_2) :=
  StableHlo.after_of_writes_sub (r := main_v0_2) hostOps1_1 V hostOps1_1_writes (by decide +kernel)
theorem keep_1_arg1 (V : Valuation τ sig (Elt Ideal)) : StableHlo.after (hostOps1_1 (F := Ideal)) V (Proc.devRef .tc main_arg1) = V (Proc.devRef .tc main_arg1) :=
  StableHlo.after_of_writes_sub (r := main_arg1) hostOps1_1 V hostOps1_1_writes (by decide +kernel)
theorem keep_1_arg3 (V : Valuation τ sig (Elt Ideal)) : StableHlo.after (hostOps1_1 (F := Ideal)) V (Proc.devRef .tc main_arg3) = V (Proc.devRef .tc main_arg3) :=
  StableHlo.after_of_writes_sub (r := main_arg3) hostOps1_1 V hostOps1_1_writes (by decide +kernel)
theorem keep_1_arg4 (V : Valuation τ sig (Elt Ideal)) : StableHlo.after (hostOps1_1 (F := Ideal)) V (Proc.devRef .tc main_arg4) = V (Proc.devRef .tc main_arg4) :=
  StableHlo.after_of_writes_sub (r := main_arg4) hostOps1_1 V hostOps1_1_writes (by decide +kernel)
theorem keep_1_arg6 (V : Valuation τ sig (Elt Ideal)) : StableHlo.after (hostOps1_1 (F := Ideal)) V (Proc.devRef .tc main_arg6) = V (Proc.devRef .tc main_arg6) :=
  StableHlo.after_of_writes_sub (r := main_arg6) hostOps1_1 V hostOps1_1_writes (by decide +kernel)
theorem keep_1_arg8 (V : Valuation τ sig (Elt Ideal)) : StableHlo.after (hostOps1_1 (F := Ideal)) V (Proc.devRef .tc main_arg8) = V (Proc.devRef .tc main_arg8) :=
  StableHlo.after_of_writes_sub (r := main_arg8) hostOps1_1 V hostOps1_1_writes (by decide +kernel)
theorem keep_1_arg9 (V : Valuation τ sig (Elt Ideal)) : StableHlo.after (hostOps1_1 (F := Ideal)) V (Proc.devRef .tc main_arg9) = V (Proc.devRef .tc main_arg9) :=
  StableHlo.after_of_writes_sub (r := main_arg9) hostOps1_1 V hostOps1_1_writes (by decide +kernel)
theorem keep_1_v45 (V : Valuation τ sig (Elt Ideal)) : StableHlo.after (hostOps1_1 (F := Ideal)) V (Proc.devRef .tc main_v45) = V (Proc.devRef .tc main_v45) :=
  StableHlo.after_of_writes_sub (r := main_v45) hostOps1_1 V hostOps1_1_writes (by decide +kernel)
theorem keep_1_v4 (V : Valuation τ sig (Elt Ideal)) : StableHlo.after (hostOps1_1 (F := Ideal)) V (Proc.devRef .tc main_v4) = V (Proc.devRef .tc main_v4) :=
  StableHlo.after_of_writes_sub (r := main_v4) hostOps1_1 V hostOps1_1_writes (by decide +kernel)
theorem keep_1_v2 (V : Valuation τ sig (Elt Ideal)) : StableHlo.after (hostOps1_1 (F := Ideal)) V (Proc.devRef .tc main_v2) = V (Proc.devRef .tc main_v2) :=
  StableHlo.after_of_writes_sub (r := main_v2) hostOps1_1 V hostOps1_1_writes (by decide +kernel)
theorem keep_1_v9 (V : Valuation τ sig (Elt Ideal)) : StableHlo.after (hostOps1_1 (F := Ideal)) V (Proc.devRef .tc main_v9) = V (Proc.devRef .tc main_v9) :=
  StableHlo.after_of_writes_sub (r := main_v9) hostOps1_1 V hostOps1_1_writes (by decide +kernel)
theorem keep_1_v35 (V : Valuation τ sig (Elt Ideal)) : StableHlo.after (hostOps1_1 (F := Ideal)) V (Proc.devRef .tc main_v35) = V (Proc.devRef .tc main_v35) :=
  StableHlo.after_of_writes_sub (r := main_v35) hostOps1_1 V hostOps1_1_writes (by decide +kernel)
theorem keep_2_v0_0 (V : Valuation τ sig (Elt Ideal)) : StableHlo.after (hostOps1_2 (F := Ideal)) V (Proc.devRef .tc main_v0_0) = V (Proc.devRef .tc main_v0_0) :=
  StableHlo.after_of_writes_sub (r := main_v0_0) hostOps1_2 V hostOps1_2_writes (by decide +kernel)
theorem keep_2_v0_1 (V : Valuation τ sig (Elt Ideal)) : StableHlo.after (hostOps1_2 (F := Ideal)) V (Proc.devRef .tc main_v0_1) = V (Proc.devRef .tc main_v0_1) :=
  StableHlo.after_of_writes_sub (r := main_v0_1) hostOps1_2 V hostOps1_2_writes (by decide +kernel)
theorem keep_2_v0_2 (V : Valuation τ sig (Elt Ideal)) : StableHlo.after (hostOps1_2 (F := Ideal)) V (Proc.devRef .tc main_v0_2) = V (Proc.devRef .tc main_v0_2) :=
  StableHlo.after_of_writes_sub (r := main_v0_2) hostOps1_2 V hostOps1_2_writes (by decide +kernel)
theorem keep_2_arg1 (V : Valuation τ sig (Elt Ideal)) : StableHlo.after (hostOps1_2 (F := Ideal)) V (Proc.devRef .tc main_arg1) = V (Proc.devRef .tc main_arg1) :=
  StableHlo.after_of_writes_sub (r := main_arg1) hostOps1_2 V hostOps1_2_writes (by decide +kernel)
theorem keep_2_arg3 (V : Valuation τ sig (Elt Ideal)) : StableHlo.after (hostOps1_2 (F := Ideal)) V (Proc.devRef .tc main_arg3) = V (Proc.devRef .tc main_arg3) :=
  StableHlo.after_of_writes_sub (r := main_arg3) hostOps1_2 V hostOps1_2_writes (by decide +kernel)
theorem keep_2_arg4 (V : Valuation τ sig (Elt Ideal)) : StableHlo.after (hostOps1_2 (F := Ideal)) V (Proc.devRef .tc main_arg4) = V (Proc.devRef .tc main_arg4) :=
  StableHlo.after_of_writes_sub (r := main_arg4) hostOps1_2 V hostOps1_2_writes (by decide +kernel)
theorem keep_2_arg6 (V : Valuation τ sig (Elt Ideal)) : StableHlo.after (hostOps1_2 (F := Ideal)) V (Proc.devRef .tc main_arg6) = V (Proc.devRef .tc main_arg6) :=
  StableHlo.after_of_writes_sub (r := main_arg6) hostOps1_2 V hostOps1_2_writes (by decide +kernel)
theorem keep_2_arg8 (V : Valuation τ sig (Elt Ideal)) : StableHlo.after (hostOps1_2 (F := Ideal)) V (Proc.devRef .tc main_arg8) = V (Proc.devRef .tc main_arg8) :=
  StableHlo.after_of_writes_sub (r := main_arg8) hostOps1_2 V hostOps1_2_writes (by decide +kernel)
theorem keep_2_arg9 (V : Valuation τ sig (Elt Ideal)) : StableHlo.after (hostOps1_2 (F := Ideal)) V (Proc.devRef .tc main_arg9) = V (Proc.devRef .tc main_arg9) :=
  StableHlo.after_of_writes_sub (r := main_arg9) hostOps1_2 V hostOps1_2_writes (by decide +kernel)
theorem keep_2_v45 (V : Valuation τ sig (Elt Ideal)) : StableHlo.after (hostOps1_2 (F := Ideal)) V (Proc.devRef .tc main_v45) = V (Proc.devRef .tc main_v45) :=
  StableHlo.after_of_writes_sub (r := main_v45) hostOps1_2 V hostOps1_2_writes (by decide +kernel)
theorem keep_2_v4 (V : Valuation τ sig (Elt Ideal)) : StableHlo.after (hostOps1_2 (F := Ideal)) V (Proc.devRef .tc main_v4) = V (Proc.devRef .tc main_v4) :=
  StableHlo.after_of_writes_sub (r := main_v4) hostOps1_2 V hostOps1_2_writes (by decide +kernel)
theorem keep_2_v2 (V : Valuation τ sig (Elt Ideal)) : StableHlo.after (hostOps1_2 (F := Ideal)) V (Proc.devRef .tc main_v2) = V (Proc.devRef .tc main_v2) :=
  StableHlo.after_of_writes_sub (r := main_v2) hostOps1_2 V hostOps1_2_writes (by decide +kernel)
theorem keep_2_v9 (V : Valuation τ sig (Elt Ideal)) : StableHlo.after (hostOps1_2 (F := Ideal)) V (Proc.devRef .tc main_v9) = V (Proc.devRef .tc main_v9) :=
  StableHlo.after_of_writes_sub (r := main_v9) hostOps1_2 V hostOps1_2_writes (by decide +kernel)
theorem keep_2_v35 (V : Valuation τ sig (Elt Ideal)) : StableHlo.after (hostOps1_2 (F := Ideal)) V (Proc.devRef .tc main_v35) = V (Proc.devRef .tc main_v35) :=
  StableHlo.after_of_writes_sub (r := main_v35) hostOps1_2 V hostOps1_2_writes (by decide +kernel)
theorem keep_2_v48 (V : Valuation τ sig (Elt Ideal)) : StableHlo.after (hostOps1_2 (F := Ideal)) V (Proc.devRef .tc main_v48) = V (Proc.devRef .tc main_v48) :=
  StableHlo.after_of_writes_sub (r := main_v48) hostOps1_2 V hostOps1_2_writes (by decide +kernel)
theorem keep_3_v0_0 (V : Valuation τ sig (Elt Ideal)) : StableHlo.after (hostOps1_3 (F := Ideal)) V (Proc.devRef .tc main_v0_0) = V (Proc.devRef .tc main_v0_0) :=
  StableHlo.after_of_writes_sub (r := main_v0_0) hostOps1_3 V hostOps1_3_writes (by decide +kernel)
theorem keep_3_v0_1 (V : Valuation τ sig (Elt Ideal)) : StableHlo.after (hostOps1_3 (F := Ideal)) V (Proc.devRef .tc main_v0_1) = V (Proc.devRef .tc main_v0_1) :=
  StableHlo.after_of_writes_sub (r := main_v0_1) hostOps1_3 V hostOps1_3_writes (by decide +kernel)
theorem keep_3_v0_2 (V : Valuation τ sig (Elt Ideal)) : StableHlo.after (hostOps1_3 (F := Ideal)) V (Proc.devRef .tc main_v0_2) = V (Proc.devRef .tc main_v0_2) :=
  StableHlo.after_of_writes_sub (r := main_v0_2) hostOps1_3 V hostOps1_3_writes (by decide +kernel)
theorem keep_3_arg1 (V : Valuation τ sig (Elt Ideal)) : StableHlo.after (hostOps1_3 (F := Ideal)) V (Proc.devRef .tc main_arg1) = V (Proc.devRef .tc main_arg1) :=
  StableHlo.after_of_writes_sub (r := main_arg1) hostOps1_3 V hostOps1_3_writes (by decide +kernel)
theorem keep_3_arg3 (V : Valuation τ sig (Elt Ideal)) : StableHlo.after (hostOps1_3 (F := Ideal)) V (Proc.devRef .tc main_arg3) = V (Proc.devRef .tc main_arg3) :=
  StableHlo.after_of_writes_sub (r := main_arg3) hostOps1_3 V hostOps1_3_writes (by decide +kernel)
theorem keep_3_arg4 (V : Valuation τ sig (Elt Ideal)) : StableHlo.after (hostOps1_3 (F := Ideal)) V (Proc.devRef .tc main_arg4) = V (Proc.devRef .tc main_arg4) :=
  StableHlo.after_of_writes_sub (r := main_arg4) hostOps1_3 V hostOps1_3_writes (by decide +kernel)
theorem keep_3_arg6 (V : Valuation τ sig (Elt Ideal)) : StableHlo.after (hostOps1_3 (F := Ideal)) V (Proc.devRef .tc main_arg6) = V (Proc.devRef .tc main_arg6) :=
  StableHlo.after_of_writes_sub (r := main_arg6) hostOps1_3 V hostOps1_3_writes (by decide +kernel)
theorem keep_3_arg8 (V : Valuation τ sig (Elt Ideal)) : StableHlo.after (hostOps1_3 (F := Ideal)) V (Proc.devRef .tc main_arg8) = V (Proc.devRef .tc main_arg8) :=
  StableHlo.after_of_writes_sub (r := main_arg8) hostOps1_3 V hostOps1_3_writes (by decide +kernel)
theorem keep_3_arg9 (V : Valuation τ sig (Elt Ideal)) : StableHlo.after (hostOps1_3 (F := Ideal)) V (Proc.devRef .tc main_arg9) = V (Proc.devRef .tc main_arg9) :=
  StableHlo.after_of_writes_sub (r := main_arg9) hostOps1_3 V hostOps1_3_writes (by decide +kernel)
theorem keep_3_v2 (V : Valuation τ sig (Elt Ideal)) : StableHlo.after (hostOps1_3 (F := Ideal)) V (Proc.devRef .tc main_v2) = V (Proc.devRef .tc main_v2) :=
  StableHlo.after_of_writes_sub (r := main_v2) hostOps1_3 V hostOps1_3_writes (by decide +kernel)
theorem keep_3_v9 (V : Valuation τ sig (Elt Ideal)) : StableHlo.after (hostOps1_3 (F := Ideal)) V (Proc.devRef .tc main_v9) = V (Proc.devRef .tc main_v9) :=
  StableHlo.after_of_writes_sub (r := main_v9) hostOps1_3 V hostOps1_3_writes (by decide +kernel)
theorem keep_3_v35 (V : Valuation τ sig (Elt Ideal)) : StableHlo.after (hostOps1_3 (F := Ideal)) V (Proc.devRef .tc main_v35) = V (Proc.devRef .tc main_v35) :=
  StableHlo.after_of_writes_sub (r := main_v35) hostOps1_3 V hostOps1_3_writes (by decide +kernel)
theorem keep_3_v48 (V : Valuation τ sig (Elt Ideal)) : StableHlo.after (hostOps1_3 (F := Ideal)) V (Proc.devRef .tc main_v48) = V (Proc.devRef .tc main_v48) :=
  StableHlo.after_of_writes_sub (r := main_v48) hostOps1_3 V hostOps1_3_writes (by decide +kernel)
theorem keep_3_v49 (V : Valuation τ sig (Elt Ideal)) : StableHlo.after (hostOps1_3 (F := Ideal)) V (Proc.devRef .tc main_v49) = V (Proc.devRef .tc main_v49) :=
  StableHlo.after_of_writes_sub (r := main_v49) hostOps1_3 V hostOps1_3_writes (by decide +kernel)
theorem keep_4_v0_0 (V : Valuation τ sig (Elt Ideal)) : StableHlo.after (hostOps1_4 (F := Ideal)) V (Proc.devRef .tc main_v0_0) = V (Proc.devRef .tc main_v0_0) :=
  StableHlo.after_of_writes_sub (r := main_v0_0) hostOps1_4 V hostOps1_4_writes (by decide +kernel)
theorem keep_4_arg1 (V : Valuation τ sig (Elt Ideal)) : StableHlo.after (hostOps1_4 (F := Ideal)) V (Proc.devRef .tc main_arg1) = V (Proc.devRef .tc main_arg1) :=
  StableHlo.after_of_writes_sub (r := main_arg1) hostOps1_4 V hostOps1_4_writes (by decide +kernel)
theorem keep_4_arg4 (V : Valuation τ sig (Elt Ideal)) : StableHlo.after (hostOps1_4 (F := Ideal)) V (Proc.devRef .tc main_arg4) = V (Proc.devRef .tc main_arg4) :=
  StableHlo.after_of_writes_sub (r := main_arg4) hostOps1_4 V hostOps1_4_writes (by decide +kernel)
theorem keep_4_v9 (V : Valuation τ sig (Elt Ideal)) : StableHlo.after (hostOps1_4 (F := Ideal)) V (Proc.devRef .tc main_v9) = V (Proc.devRef .tc main_v9) :=
  StableHlo.after_of_writes_sub (r := main_v9) hostOps1_4 V hostOps1_4_writes (by decide +kernel)
theorem keep_5_v0_0 (V : Valuation τ sig (Elt Ideal)) : StableHlo.after (hostOps1_5 (F := Ideal)) V (Proc.devRef .tc main_v0_0) = V (Proc.devRef .tc main_v0_0) :=
  StableHlo.after_of_writes_sub (r := main_v0_0) hostOps1_5 V hostOps1_5_writes (by decide +kernel)
theorem keep_5_arg1 (V : Valuation τ sig (Elt Ideal)) : StableHlo.after (hostOps1_5 (F := Ideal)) V (Proc.devRef .tc main_arg1) = V (Proc.devRef .tc main_arg1) :=
  StableHlo.after_of_writes_sub (r := main_arg1) hostOps1_5 V hostOps1_5_writes (by decide +kernel)
theorem keep_5_arg4 (V : Valuation τ sig (Elt Ideal)) : StableHlo.after (hostOps1_5 (F := Ideal)) V (Proc.devRef .tc main_arg4) = V (Proc.devRef .tc main_arg4) :=
  StableHlo.after_of_writes_sub (r := main_arg4) hostOps1_5 V hostOps1_5_writes (by decide +kernel)
theorem keep_5_v9 (V : Valuation τ sig (Elt Ideal)) : StableHlo.after (hostOps1_5 (F := Ideal)) V (Proc.devRef .tc main_v9) = V (Proc.devRef .tc main_v9) :=
  StableHlo.after_of_writes_sub (r := main_v9) hostOps1_5 V hostOps1_5_writes (by decide +kernel)
theorem keep_5_v100 (V : Valuation τ sig (Elt Ideal)) : StableHlo.after (hostOps1_5 (F := Ideal)) V (Proc.devRef .tc main_v100) = V (Proc.devRef .tc main_v100) :=
  StableHlo.after_of_writes_sub (r := main_v100) hostOps1_5 V hostOps1_5_writes (by decide +kernel)

/-- The reference's host line: atom s of molecule b collects its listed neighbours. -/
theorem line_at (V : Valuation τ sig (Elt Ideal)) (b : Fin 2) (s : Fin 128) (cc : Fin 768) (q : Fin 96 → Fin 128)
    (X : FVec Ideal S2x128x768 .f32) (xs : FVec Ideal S2x128 .f32) (P : FVec Ideal S2x128x3 .f32) (nb : IVec S2x128x96 32) (cnt : IVec S2x128 32)
    (Q : FVec Ideal S33x768x512 .bf16) (S : FVec Ideal S33x24x512 .f32) (W : FVec Ideal S768x768 .bf16) (ws b2 : FVec Ideal S768 .f32)
    (hX : V (Proc.devRef .tc main_v0_0) = X) (hQ : V (Proc.devRef .tc main_v0_1) = Q) (hW : V (Proc.devRef .tc main_v0_2) = W)
    (hxs : V (Proc.devRef .tc main_arg1) = xs) (hP : V (Proc.devRef .tc main_arg2) = P) (hnb : V (Proc.devRef .tc main_arg3) = nb)
    (hcnt : V (Proc.devRef .tc main_arg4) = cnt) (hS : V (Proc.devRef .tc main_arg6) = S) (hws : V (Proc.devRef .tc main_arg8) = ws)
    (hb2 : V (Proc.devRef .tc main_arg9) = b2) (hq : ∀ n, nb (ix3 b s n) = BitVec.ofNat 32 (q n).val) :
    StableHlo.after (List.flatten [hostOps1, hostOps1_1, hostOps1_2, hostOps1_3, hostOps1_4, hostOps1_5, hostOps1_6]) V (Proc.devRef .tc main_v145) (ix3 b s cc)
      = ∑ n : Fin 96, (filtOf (fun k r c => Q (ix3 k r c) * S (ix3 k ⟨r.val / 32, by omega⟩ c)) (fun r c => W (ix2 r c)) (fun c => ws (ix1 c)) (fun c => b2 (ix1 c)) b (q n) s cc
          * ((KernelIdeal.Value.cutq (KernelIdeal.Value.sqd (fun k => P (ix3 b (q n) k)) (fun k => P (ix3 b s k)))
              * FloatOps.uitofp (F := Ideal) .f32 (IntOp.cmpi .slt (BitVec.ofNat 32 n.val) (cnt (ix2 b s)))) * xs (ix2 b (q n)))
          * X (ix3 b (q n) cc) : EReal) := by
  have hq' : ∀ n, V (Proc.devRef .tc main_arg3) (ix3 b s n) = BitVec.ofNat 32 (q n).val := fun n => by rw [hnb]; exact hq n
  simp only [List.flatten_cons, List.flatten_nil, List.append_nil, StableHlo.after_append]
  have a9 := fun n => v9_at V b s n (q n) (hq' n)
  have a35 := fun n => v35_at V b s n (q n) P hP (hq' n)
  have a43 := fun n => v43_at V b s n (q n) (hq' n)
  have a45 := fun n => v45_at V b s n (q n) (hq' n)
  have a47 := fun n => v47_at V b s n (q n) (hq' n)
  have a2 := v2_at V b
  have a4 := v4_at V s
  rw [← keep_v0_0 V] at hX
  rw [← keep_v0_1 V] at hQ
  rw [← keep_v0_2 V] at hW
  rw [← keep_arg1 V] at hxs
  rw [← keep_arg3 V] at hnb
  rw [← keep_arg4 V] at hcnt
  rw [← keep_arg6 V] at hS
  rw [← keep_arg8 V] at hws
  rw [← keep_arg9 V] at hb2
  clear hq' hP
  generalize StableHlo.after hostOps1 V = V1 at *
  clear V
  have a48 : ∀ n, StableHlo.after (hostOps1_1 (F := Ideal)) V1 (Proc.devRef .tc main_v48) (ix3 b s n)
      = BitVec.ofNat 32 (if off (q n) s ≤ 32 then off (q n) s else 64 - off (q n) s) := fun n => by
    rw [v48_at V1 _ _ _ rfl rfl rfl]
    show Scalar.select (V1 (Proc.devRef .tc main_v45) (ix3 b s n)) (V1 (Proc.devRef .tc main_v43) (ix3 b s n)) (V1 (Proc.devRef .tc main_v47) (ix3 b s n)) = _
    rw [a45, a43, a47]
    by_cases h : off (q n) s ≤ 32
    · rw [if_pos h, if_pos h]; rfl
    · rw [if_neg h, if_neg h]; rfl
  rw [← keep_1_v0_0 V1] at hX
  rw [← keep_1_v0_1 V1] at hQ
  rw [← keep_1_v0_2 V1] at hW
  rw [← keep_1_arg1 V1] at hxs
  rw [← keep_1_arg3 V1] at hnb
  rw [← keep_1_arg4 V1] at hcnt
  rw [← keep_1_arg6 V1] at hS
  rw [← keep_1_arg8 V1] at hws
  rw [← keep_1_arg9 V1] at hb2
  simp only [← keep_1_v45 V1] at a45
  rw [← keep_1_v4 V1] at a4
  rw [← keep_1_v2 V1] at a2
  simp only [← keep_1_v9 V1] at a9
  simp only [← keep_1_v35 V1] at a35
  clear a43 a47
  generalize StableHlo.after hostOps1_1 V1 = V2 at *
  clear V1
  have a49 : ∀ n, StableHlo.after (hostOps1_2 (F := Ideal)) V2 (Proc.devRef .tc main_v49) (ix3 b s n)
      = BitVec.ofNat 32 (if off (q n) s ≤ 32 then s else q n).val := fun n => by
    rw [v49_at V2 _ _ _ rfl hnb rfl]
    show Scalar.select (V2 (Proc.devRef .tc main_v45) (ix3 b s n)) _ (nb (ix3 b s n)) = _
    rw [a45, hq]
    by_cases h : off (q n) s ≤ 32
    · rw [if_pos h, if_pos h, ← a4]; pointwise
    · rw [if_neg h, if_neg h]; rfl
  rw [← keep_2_v0_0 V2] at hX
  rw [← keep_2_v0_1 V2] at hQ
  rw [← keep_2_v0_2 V2] at hW
  rw [← keep_2_arg1 V2] at hxs
  rw [← keep_2_arg3 V2] at hnb
  rw [← keep_2_arg4 V2] at hcnt
  rw [← keep_2_arg6 V2] at hS
  rw [← keep_2_arg8 V2] at hws
  rw [← keep_2_arg9 V2] at hb2
  simp only [← keep_2_v45 V2] at a45
  rw [← keep_2_v4 V2] at a4
  rw [← keep_2_v2 V2] at a2
  simp only [← keep_2_v9 V2] at a9
  simp only [← keep_2_v35 V2] at a35
  simp only [← keep_2_v48 V2] at a48
  generalize StableHlo.after hostOps1_2 V2 = V3 at *
  clear V2
  have a50 : ∀ n, StableHlo.after (hostOps1_3 (F := Ideal)) V3 (Proc.devRef .tc main_v50) (ix3 b s n)
      = BitVec.ofNat 32 (if off (q n) s ≤ 32 then q n else s).val := fun n => by
    rw [v50_at V3 _ _ _ rfl hnb rfl]
    show Scalar.select (V3 (Proc.devRef .tc main_v45) (ix3 b s n)) (nb (ix3 b s n)) _ = _
    rw [a45, hq]
    by_cases h : off (q n) s ≤ 32
    · rw [if_pos h, if_pos h]; rfl
    · rw [if_neg h, if_neg h, ← a4]; pointwise
  rw [← keep_3_v0_0 V3] at hX
  rw [← keep_3_v0_1 V3] at hQ
  rw [← keep_3_v0_2 V3] at hW
  rw [← keep_3_arg1 V3] at hxs
  rw [← keep_3_arg3 V3] at hnb
  rw [← keep_3_arg4 V3] at hcnt
  rw [← keep_3_arg6 V3] at hS
  rw [← keep_3_arg8 V3] at hws
  rw [← keep_3_arg9 V3] at hb2
  rw [← keep_3_v2 V3] at a2
  simp only [← keep_3_v9 V3] at a9
  simp only [← keep_3_v35 V3] at a35
  simp only [← keep_3_v48 V3] at a48
  simp only [← keep_3_v49 V3] at a49
  clear a45 a4
  generalize StableHlo.after hostOps1_3 V3 = V4 at *
  clear V3
  have a100 : ∀ n, StableHlo.after (hostOps1_4 (F := Ideal)) V4 (Proc.devRef .tc main_v100) (ix2 (jx b s n) cc)
      = filtOf (fun k r c => Q (ix3 k r c) * S (ix3 k ⟨r.val / 32, by omega⟩ c)) (fun r c => W (ix2 r c)) (fun c => ws (ix1 c)) (fun c => b2 (ix1 c)) b (q n) s cc := fun n => by
    have ho := off_lt (q n) s
    rw [v100_at V4 b s n Q S W ws b2 hQ hS hW hws hb2 cc ⟨if off (q n) s ≤ 32 then off (q n) s else 64 - off (q n) s, by split <;> omega⟩
      _ _ (a48 n) (a49 n) (a50 n) a2]
    unfold filtOf filt
    by_cases h : off (q n) s ≤ 32
    · simp only [if_pos h, dif_pos h]
    · simp only [if_neg h, dif_neg h]
  have a102 := fun n => v102_at V4 (jx b s n) _ rfl
  have a111 := fun n => v111_at V4 (jx b s n) _ rfl
  have a26 := cst26_at V4
  simp only [a35] at a102 a111
  rw [← keep_4_v0_0 V4] at hX
  rw [← keep_4_arg1 V4] at hxs
  rw [← keep_4_arg4 V4] at hcnt
  simp only [← keep_4_v9 V4] at a9
  clear a35 a48 a49 a50 a2 hQ hS hW hws hb2 hnb
  generalize StableHlo.after hostOps1_4 V4 = V5 at *
  clear V4
  have a112 : ∀ n, StableHlo.after (hostOps1_5 (F := Ideal)) V5 (Proc.devRef .tc main_v112) (ix1 (jx b s n))
      = KernelIdeal.Value.cutq (KernelIdeal.Value.sqd (fun k => P (ix3 b (q n) k)) (fun k => P (ix3 b s k))) := fun n => by
    rw [v112_at V5 _ _ _ rfl rfl a26]
    show Scalar.select (V5 (Proc.devRef .tc main_v102) (ix1 (jx b s n))) (V5 (Proc.devRef .tc main_v111) (ix1 (jx b s n))) _ = _
    rw [a102, a111, Fin.sum_univ_three]
    exact cut_eq _ _ (by pointwise)
  rw [← keep_5_v0_0 V5] at hX
  rw [← keep_5_arg1 V5] at hxs
  rw [← keep_5_arg4 V5] at hcnt
  simp only [← keep_5_v9 V5] at a9
  simp only [← keep_5_v100 V5] at a100
  clear a102 a111 a26
  generalize StableHlo.after hostOps1_5 V5 = V6 at *
  clear V5
  rw [v145_at V6 b s q X xs cnt _ _ hX hxs hcnt rfl rfl a9 cc]
  refine Finset.sum_congr (M := EReal) rfl fun n _ => ?_
  rw [a100, a112]

end Cert.ReferenceIdeal.Value
-- ==== Proof.RefC.lean ====
module

public import proofs.«01_k».proof.Proof.Gen.ReferenceIdeal.Frame
public import proofs.«01_k».proof.Proof.RefB
public import Idealize.ShloMosaic.Lib.Pipeline.ValueKit
public import Idealize.ShloMosaic.Lib.StableHlo.RunRead
public import Idealize.ShloMosaic.Lib.Pointwise
public import Idealize.ShloMosaic.Lib.Claim
public import Idealize.ShloMosaic.Lib.Routing.OpsPair
public import Idealize.ShloMosaic.Lib.Routing.OpsSet

/-! The reference's host line, read buffer by buffer. -/

@[expose] public section

set_option maxRecDepth 16384

noncomputable section
namespace Cert.ReferenceIdeal.Value
open Idealize.ShloMosaic Idealize.ShloMosaic.TcCoe Idealize.SL.Sem
open Idealize.ShloMosaic.Routing
open Cert.Spec Cert.ReferenceIdeal Cert.ReferenceIdeal.Gen

variable (m : (ℓ : Loc nD τ sig) → Buf (Elt Ideal) ℓ)

theorem term_eq (F C X xs : EReal) (w : BitVec 1) :
    F * ((C * FloatOps.uitofp (F := Ideal) .f32 w) * xs) * X = if w = 1#1 then F * (C * (X * xs)) else 0 := by
  have h : w = 0#1 ∨ w = 1#1 := by revert w; decide
  rcases h with rfl | rfl
  · have e : FloatOps.uitofp (F := Ideal) .f32 (0#1) = (0 : EReal) := by
      show (((0#1 : BitVec 1).toNat : ℝ) : EReal) = 0
      simp
    rw [e, mul_zero, zero_mul, mul_zero, zero_mul, if_neg (by decide)]
  · have e : FloatOps.uitofp (F := Ideal) .f32 (1#1) = (1 : EReal) := by
      show (((1#1 : BitVec 1).toNat : ℝ) : EReal) = 1
      simp
    rw [e, mul_one, if_pos rfl, mul_assoc, mul_assoc, mul_comm xs X]

/-- What the reference leaves in its result. -/
theorem ref_out (c : Dev nD) (q : Fin 2 → Fin 128 → Fin 96 → Fin 128)
    (hq : ∀ b s n, (m ((c.tc : Thread nD τ).loc main_arg3) : IVec S2x128x96 32) (ix3 b s n) = BitVec.ofNat 32 (q b s n).val) (b : Fin 2) (s : Fin 128) (cc : Fin 768) :
    Pipeline.afterTail₀ cfgs (dats m) 0 (V0 m) [hostOps1, hostOps1_1, hostOps1_2, hostOps1_3, hostOps1_4, hostOps1_5, hostOps1_6] c main_v145 (ix3 b s cc)
      = resultOf (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) q b s cc := by
  unfold Pipeline.afterTail₀
  have hne : ∀ r : Ref sig .tc, (∀ w, Pipeline.arrRef spec0 w ≠ r) →
      Pipeline.withArrays spec0 c (V0 m c) (fun w => (dats m 0 c).arrAt w cfg0.N) (Proc.devRef .tc r) = V0 m c (Proc.devRef .tc r) :=
    fun r h => Pipeline.withArrays_of_ne spec0 c (V0 m c) _ r h
  have hinj : Function.Injective (Pipeline.arrRef spec0) := by decide
  have harr : ∀ w, Pipeline.withArrays spec0 c (V0 m c) (fun w => (dats m 0 c).arrAt w cfg0.N) (Proc.devRef .tc (Pipeline.arrRef spec0 w)) = (dats m 0 c).arrAt w cfg0.N :=
    fun w => Pipeline.withArrays_arr spec0 hinj c (V0 m c) _ w
  refine (line_at _ b s cc (q b s) _ _ _ _ _ _ _ _ _ _ ((harr 3).trans (cast3 m c)) ((harr 4).trans (cast4 m c)) ((harr 5).trans (cast5 m c))
    (hne main_arg1 (by decide)) (hne main_arg2 (by decide)) (hne main_arg3 (by decide)) (hne main_arg4 (by decide)) (hne main_arg6 (by decide))
    (hne main_arg8 (by decide)) (hne main_arg9 (by decide)) (hq b s)).trans ?_
  unfold resultOf result pairOf
  refine Finset.sum_congr (M := EReal) rfl fun n _ => ?_
  exact term_eq _ _ _ _ _

end Cert.ReferenceIdeal.Value
-- ==== Proof.Pair.lean ====
module

public import proofs.«01_k».proof.Defs
public import proofs.«01_k».proof.Proof.KernOut
public import proofs.«01_k».proof.Proof.RefC
public import Idealize.ShloMosaic.Lib.Claim
public import Idealize.ShloMosaic.Lib.Pointwise
public import Idealize.ShloMosaic.Lib.StableHlo.Predicate

/-! The two runs end with the same array: the kernel's output and the reference's. -/

@[expose] public section

set_option maxRecDepth 16384

noncomputable section
namespace Cert.Pair
open Idealize.ShloMosaic Idealize.ShloMosaic.TcCoe Idealize.SL.Sem
open Cert.Spec

/-- The one shape fact the precondition states. -/
theorem pre_facts : Cert.Pre_neighbours_in_range.Facts := ⟨by decide⟩

attribute [local instance] pre_facts

theorem small_of (w : BitVec 32) (h : IntOp.andi (IntOp.cmpi .sge w 0#32) (IntOp.cmpi .slt w 128#32) = 1#1) : w.toNat < 128 := by
  have hb : ∀ a b : BitVec 1, a &&& b = 1#1 → a = 1#1 ∧ b = 1#1 := by decide
  obtain ⟨h1, h2⟩ := hb _ _ h
  have hd : ∀ b : Bool, BitVec.ofBool b = 1#1 → b = true := by decide
  have h1' : (0 : ℤ) ≤ w.toInt := of_decide_eq_true (hd _ h1)
  have h2' : w.toInt < 128 := of_decide_eq_true (hd _ h2)
  have hl := w.isLt
  rw [BitVec.toInt_eq_toNat_cond] at h1' h2'
  split at h1' <;> omega

/-- Under the precondition every neighbour word is the word of an atom. -/
theorem atoms_of (m : (ℓ : Loc Cert.KernelIdeal.nD Cert.KernelIdeal.τ Cert.KernelIdeal.sig) → Buf (Elt Ideal) ℓ)
    (h : Cert.Pre_KernelIdeal_neighbours_in_range m) (c : Dev Cert.KernelIdeal.nD) :
    ∃ q : Fin 2 → Fin 128 → Fin 96 → Fin 128, ∀ b s n,
      (m ((c.tc : Thread Cert.KernelIdeal.nD Cert.KernelIdeal.τ).loc Cert.KernelIdeal.main_arg3) : IVec Cert.KernelIdeal.S2x128x96 32) (ix3 b s n)
        = BitVec.ofNat 32 (q b s n).val := by
  have hw : ∀ (b : Fin 2) (s : Fin 128) (n : Fin 96),
      ((m ((c.tc : Thread Cert.KernelIdeal.nD Cert.KernelIdeal.τ).loc Cert.KernelIdeal.main_arg3) : IVec Cert.KernelIdeal.S2x128x96 32) (ix3 b s n)).toNat < 128 := by
    intro b s n
    have := congrFun (h c) (ix3 b s n)
    unfold Cert.Pre_neighbours_in_range.fn at this
    exact small_of _ this
  refine ⟨fun b s n => ⟨_, hw b s n⟩, fun b s n => ?_⟩
  simp

/-- What both runs leave in their output, from the kernel's arguments. -/
def ends (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v4) :=
  (Cert.KernelIdeal.Gen.dats m 0 c).arrAt 10 (Cert.KernelIdeal.cfgs 0).N

theorem algebraic : Cert.algebraic_KernelIdeal_ReferenceIdeal_pre_neighbours_in_range (hKernelIdeal := Cert.KernelIdeal.Gen.facts)
    (hReferenceIdeal := Cert.ReferenceIdeal.Gen.facts) (hPre_neighbours_in_range := pre_facts) := by
  intro m g m' g' hpre hagree
  refine ⟨ends m, ?_, ?_⟩
  · run_from (Cert.KernelIdeal.Gen.run_main (F := Ideal) m g)
    all_goals rfl
  · have hv : ∀ c, Pipeline.afterTail₀ Cert.ReferenceIdeal.cfgs (Cert.ReferenceIdeal.Gen.dats m') 0 (Cert.ReferenceIdeal.Gen.V0 m') [Cert.ReferenceIdeal.Gen.hostOps1, Cert.ReferenceIdeal.Gen.hostOps1_1, Cert.ReferenceIdeal.Gen.hostOps1_2, Cert.ReferenceIdeal.Gen.hostOps1_3, Cert.ReferenceIdeal.Gen.hostOps1_4, Cert.ReferenceIdeal.Gen.hostOps1_5, Cert.ReferenceIdeal.Gen.hostOps1_6] c Cert.ReferenceIdeal.main_v145 = ends m c := by
      intro c
      obtain ⟨q, hq⟩ := atoms_of m hpre c
      obtain ⟨e0, e1, e2, e3, e4, e5, e6, e7, e8, e9⟩ := hagree c
      refine funext fun j => ?_
      refine (congrArg _ (eq_ix3 (j : Cert.ReferenceIdeal.S2x128x768.Idx))).trans ?_
      refine Eq.trans ?_ (congrArg (ends m c) (eq_ix3 (j : Cert.ReferenceIdeal.S2x128x768.Idx))).symm
      refine (Cert.ReferenceIdeal.Value.ref_out m' c q (fun b s n => (congrFun e3 (ix3 b s n)).trans (hq b s n)) _ _ _).trans ?_
      refine Eq.trans ?_ (Cert.KernelIdeal.Value.out_value m c q hq _ _ _).symm
      rw [e0, e1, e2, e4, e5, e6, e7, e8, e9]
    refine θ_run_mono (θ_run_and (Cert.ReferenceIdeal.Gen.run_main (F := Ideal) m' g') (Cert.ReferenceIdeal.Gen.unchanged (F := Ideal) m' g')) ?_
    intro r hr c
    obtain ⟨h1, h2⟩ := hr
    refine ⟨?_, h2 c⟩
    refine Eq.trans ?_ (hv c)
    exact ((h1 c).2 _ (by decide))
end Cert.Pair
end
-- ==== Proof.ScOut.lean ====
module

public import proofs.«01_k».proof.Proof.Gen.ScalesIdeal.Value
public import Idealize.ShloMosaic.Lib.Pipeline.ValueKit
public import Idealize.ShloMosaic.Lib.Pointwise
public import Idealize.ShloMosaic.Lib.Tactic.RunNames

/-! From the gathered rows to the result: every molecule's and group's rows are turned. -/

@[expose] public section

set_option maxRecDepth 16384

noncomputable section
namespace Cert.ScalesIdeal.Value
open Idealize.ShloMosaic Idealize.ShloMosaic.TcCoe Idealize.SL.Sem
open Cert.ScalesIdeal Cert.ScalesIdeal.Gen

/-- One strided store in front of a list: where it lands it leaves its molecule's and group's rows, elsewhere what was there. -/
theorem out_cons (G : Vec Ideal S2x2304x128 .f32) (B T n : Nat) (hB : B = n / 24) (hT : T = n % 24)
    (inb : ∀ a, S1x96x128.size a = 0 ∨ (![B, T, 0] : Fin 3 → Nat) a + (![1, 24, 1] : Fin 3 → Nat) a * (S1x96x128.size a - 1) < S2x2304x128.size a)
    (sp : ∀ a, 0 < (![1, 24, 1] : Fin 3 → Nat) a)
    (w : S1x96x128.Idx → Elt Ideal .f32)
    (L : List (View.Piece (Elt Ideal) S2x2304x128 .f32)) (b : Fin 2) (y : Fin 2304) (s : Fin 128)
    (hk : 24 * b.val + y.val % 24 < n + 1)
    (hw : ∀ (b' : Fin 2) (y' : Fin 2304) (x : S1x96x128.Idx), b'.val = B → y'.val = T + 24 * (x 1).val → w x = G (ix3 b' y' (x 2)))
    (hL : 24 * b.val + y.val % 24 < n → View.canon L (ix3 b y s) = G (ix3 b y s)) :
    View.canon ((⟨(⟨⟨![B, T, 0], S1x96x128.size, ![1, 24, 1], inb⟩, sp⟩ : Rect S2x2304x128), w⟩ : View.Piece (Elt Ideal) S2x2304x128 .f32) :: L) (ix3 b y s) = G (ix3 b y s) := by
  by_cases h : 24 * b.val + y.val % 24 < n
  · rw [View.canon_cons_of_not_mem _ _ ?_]
    · exact hL h
    · intro hm
      obtain ⟨x, hx⟩ := LoadRect.exists_idx_of_mem _ hm
      have e0 : B + 1 * (x 0).val = b.val := congrArg (fun y : S2x2304x128.Idx => (y 0).val) hx
      have e1 : T + 24 * (x 1).val = y.val := congrArg (fun y : S2x2304x128.Idx => (y 1).val) hx
      have z0 : (x 0).val < 1 := (x 0).isLt
      have z1 : (x 1).val < 96 := (x 1).isLt
      omega
  · have hx : ix3 b y s = (⟨⟨![B, T, 0], S1x96x128.size, ![1, 24, 1], inb⟩, sp⟩ : Rect S2x2304x128).emb
        (ix3 (0 : Fin 1) (⟨y.val / 24, by omega⟩ : Fin 96) s) := by
      funext a
      match a with
      | 0 => exact Fin.ext (show b.val = B + 1 * 0 by omega)
      | 1 => exact Fin.ext (show y.val = T + 24 * (y.val / 24) by omega)
      | 2 => exact Fin.ext (show s.val = 0 + 1 * s.val by omega)
    refine (congrArg _ hx).trans ?_
    rw [View.canon_cons_emb]
    exact hw b y _ (by omega) (show y.val = T + 24 * (y.val / 24) by omega)

theorem turned_le (s : Fin 128) (y : Fin 2304) : 24 * s.val + y.val % 24 < 3072 := by omega
theorem turned_lt (y : Fin 2304) : y.val / 24 < 128 := by omega

/-- The gathered rows, turned: neighbour and group first, atom last. -/
def turned (Y : Vec Ideal S2x3072x128 .f32) : Vec Ideal S2x2304x128 .f32 := fun z =>
  Y (ix3 (z 0) ⟨24 * (z 2).val + (z 1).val % 24, turned_le (z 2) (z 1)⟩ ⟨(z 1).val / 24, turned_lt (z 1)⟩)

theorem turned_at (Y : Vec Ideal S2x3072x128 .f32) (b : Fin 2) (y : Fin 2304) (s : Fin 128) (B T i : Nat)
    (hb : b.val = B) (hy : y.val = T + 24 * i) (hT : T < 24) (p : Fin 2) (q : Fin 3072) (r : Fin 128)
    (hp : p.val = B) (hq : q.val = T + 24 * s.val) (hr : r.val = i) :
    Y (ix3 p q r) = turned Y (ix3 b y s) := by
  have e1 : p = b := Fin.ext (by omega)
  have e2 : q = ⟨24 * s.val + y.val % 24, turned_le s y⟩ := Fin.ext (show q.val = 24 * s.val + y.val % 24 by omega)
  have e3 : r = ⟨y.val / 24, turned_lt y⟩ := Fin.ext (show r.val = y.val / 24 by omega)
  rw [e1, e2, e3]; rfl

theorem one_mul_val (n : Nat) : 0 + 1 * n = n := by omega

theorem turned_ix (Y : Vec Ideal S2x3072x128 .f32) (b : Fin 2) (y : Fin 2304) (s : Fin 128) (B T i : Nat)
    (hb : b.val = B) (hy : y.val = T + 24 * i) (hT : T < 24) (z : S2x3072x128.Idx)
    (hp : (z 0).val = B) (hq : (z 1).val = T + 24 * s.val) (hr : (z 2).val = i) :
    Y z = turned Y (ix3 b y s) := by
  rw [← turned_at Y b y s B T i hb hy hT (z 0) (z 1) (z 2) hp hq hr]
  refine congrArg Y ?_
  funext a
  match a with
  | ⟨0, _⟩ => rfl
  | ⟨1, _⟩ => rfl
  | ⟨2, _⟩ => rfl

/-- A piece of the result, from the tile it was read from. -/
theorem pay_out (Z : Vec Ideal S1x128x128 .f32) (h1 h2 h3 h4) (x : S1x96x128.Idx) :
    shapeCast S1x96x128 (extractStridedSlice S96x128 ![0, 0] (transpose S128x128 [1, 0] (shapeCast S128x128 Z h1) h2) h3) h4 x
      = Z (ix3 0 (x 2) ⟨(x 1).val, Nat.lt_trans (x 1).isLt (by decide)⟩) := by
  pointwise

variable (c : Dev nD) (arg0 : Memref sig .tc .vmem S2x96x128 .i32) (harg0 : arg0.IsWhole) (arg1 : Memref sig .tc .vmem S33x24x512 .f32) (harg1 : arg1.IsWhole) (arg2 : Memref sig .tc .vmem S2x2304x128 .f32) (harg2 : arg2.IsWhole) (arg3 : Memref sig .tc .vmem S2x128x128 .i32) (harg3 : arg3.IsWhole) (arg4 : Memref sig .tc .vmem S3936x128 .f32) (harg4 : arg4.IsWhole) (arg5 : Memref sig .tc .vmem S7168x128 .f32) (harg5 : arg5.IsWhole) (arg6 : Memref sig .tc .vmem S2x3072x128 .f32) (harg6 : arg6.IsWhole) (arg7 : Memref sig .tc .vmem S2x2304x128 .f32) (harg7 : arg7.IsWhole) (x0 : Vec Ideal S2x96x128 .i32) (x1 : Vec Ideal S33x24x512 .f32)
/-- What the loop leaves in the gathered rows. -/
def gsv : Vec Ideal S2x3072x128 .f32 := View.canon (pb_k0_t1 (F := Ideal) Variants.none c none arg0 harg0 arg1 harg1 arg2 harg2 arg3 harg3 arg4 harg4 arg5 harg5 arg6 harg6 arg7 harg7 (0#32) (arg3.view.writes (Elt Ideal) arg3.view.junk (kernelRun0_A.sl.HS0_2 c arg0 harg0 x0)) (arg5.view.writes (Elt Ideal) arg5.view.junk (kernelRun0_A.sl.HS2_49 (F := Ideal) c arg1 harg1 arg4 x1)) (Scf.trips k0_t1_loop.lb k0_t1_loop.ub k0_t1_loop.st))

set_option maxHeartbeats 4000000 in
theorem out_1 (b : Fin 2) (y : Fin 2304) (s : Fin 128) (k1 : 24 * b.val + y.val % 24 < 1) :
    View.canon (kernelRun0_A.sl.HS4_1 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_1
  refine out_cons _ 0 0 0 rfl rfl _ _ _ _ b y s k1 ?_ ?_
  · intro b' y' x hb hy
    unfold kernelRun0_A.sl.v1239 kernelRun0_A.sl.v1236 kernelRun0_A.sl.v1235 kernelRun0_A.sl.v1234
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 0 (x 1).val hb hy (by decide) _ rfl rfl (one_mul_val (x 1).val)
  intro k0
  exact absurd k0 (Nat.not_lt_zero _)

set_option maxHeartbeats 4000000 in
theorem out_2 (b : Fin 2) (y : Fin 2304) (s : Fin 128) (k2 : 24 * b.val + y.val % 24 < 2) :
    View.canon (kernelRun0_A.sl.HS4_2 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_2
  refine out_cons _ 0 1 1 rfl rfl _ _ _ _ b y s k2 ?_ ?_
  · intro b' y' x hb hy
    unfold kernelRun0_A.sl.v1246 kernelRun0_A.sl.v1243 kernelRun0_A.sl.v1242 kernelRun0_A.sl.v1241
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 1 (x 1).val hb hy (by decide) _ rfl rfl (one_mul_val (x 1).val)
  intro k1
  exact out_1 c arg0 harg0 arg1 harg1 arg2 harg2 arg3 harg3 arg4 harg4 arg5 harg5 arg6 harg6 arg7 harg7 x0 x1 b y s k1

set_option maxHeartbeats 4000000 in
theorem out_3 (b : Fin 2) (y : Fin 2304) (s : Fin 128) (k3 : 24 * b.val + y.val % 24 < 3) :
    View.canon (kernelRun0_A.sl.HS4_3 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_3
  refine out_cons _ 0 2 2 rfl rfl _ _ _ _ b y s k3 ?_ ?_
  · intro b' y' x hb hy
    unfold kernelRun0_A.sl.v1253 kernelRun0_A.sl.v1250 kernelRun0_A.sl.v1249 kernelRun0_A.sl.v1248
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 2 (x 1).val hb hy (by decide) _ rfl rfl (one_mul_val (x 1).val)
  intro k2
  exact out_2 c arg0 harg0 arg1 harg1 arg2 harg2 arg3 harg3 arg4 harg4 arg5 harg5 arg6 harg6 arg7 harg7 x0 x1 b y s k2

set_option maxHeartbeats 4000000 in
theorem out_4 (b : Fin 2) (y : Fin 2304) (s : Fin 128) (k4 : 24 * b.val + y.val % 24 < 4) :
    View.canon (kernelRun0_A.sl.HS4_4 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_4
  refine out_cons _ 0 3 3 rfl rfl _ _ _ _ b y s k4 ?_ ?_
  · intro b' y' x hb hy
    unfold kernelRun0_A.sl.v1260 kernelRun0_A.sl.v1257 kernelRun0_A.sl.v1256 kernelRun0_A.sl.v1255
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 3 (x 1).val hb hy (by decide) _ rfl rfl (one_mul_val (x 1).val)
  intro k3
  exact out_3 c arg0 harg0 arg1 harg1 arg2 harg2 arg3 harg3 arg4 harg4 arg5 harg5 arg6 harg6 arg7 harg7 x0 x1 b y s k3

set_option maxHeartbeats 4000000 in
theorem out_5 (b : Fin 2) (y : Fin 2304) (s : Fin 128) (k5 : 24 * b.val + y.val % 24 < 5) :
    View.canon (kernelRun0_A.sl.HS4_5 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_5
  refine out_cons _ 0 4 4 rfl rfl _ _ _ _ b y s k5 ?_ ?_
  · intro b' y' x hb hy
    unfold kernelRun0_A.sl.v1267 kernelRun0_A.sl.v1264 kernelRun0_A.sl.v1263 kernelRun0_A.sl.v1262
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 4 (x 1).val hb hy (by decide) _ rfl rfl (one_mul_val (x 1).val)
  intro k4
  exact out_4 c arg0 harg0 arg1 harg1 arg2 harg2 arg3 harg3 arg4 harg4 arg5 harg5 arg6 harg6 arg7 harg7 x0 x1 b y s k4

set_option maxHeartbeats 4000000 in
theorem out_6 (b : Fin 2) (y : Fin 2304) (s : Fin 128) (k6 : 24 * b.val + y.val % 24 < 6) :
    View.canon (kernelRun0_A.sl.HS4_6 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_6
  refine out_cons _ 0 5 5 rfl rfl _ _ _ _ b y s k6 ?_ ?_
  · intro b' y' x hb hy
    unfold kernelRun0_A.sl.v1274 kernelRun0_A.sl.v1271 kernelRun0_A.sl.v1270 kernelRun0_A.sl.v1269
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 5 (x 1).val hb hy (by decide) _ rfl rfl (one_mul_val (x 1).val)
  intro k5
  exact out_5 c arg0 harg0 arg1 harg1 arg2 harg2 arg3 harg3 arg4 harg4 arg5 harg5 arg6 harg6 arg7 harg7 x0 x1 b y s k5

set_option maxHeartbeats 4000000 in
theorem out_7 (b : Fin 2) (y : Fin 2304) (s : Fin 128) (k7 : 24 * b.val + y.val % 24 < 7) :
    View.canon (kernelRun0_A.sl.HS4_7 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_7
  refine out_cons _ 0 6 6 rfl rfl _ _ _ _ b y s k7 ?_ ?_
  · intro b' y' x hb hy
    unfold kernelRun0_A.sl.v1281 kernelRun0_A.sl.v1278 kernelRun0_A.sl.v1277 kernelRun0_A.sl.v1276
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 6 (x 1).val hb hy (by decide) _ rfl rfl (one_mul_val (x 1).val)
  intro k6
  exact out_6 c arg0 harg0 arg1 harg1 arg2 harg2 arg3 harg3 arg4 harg4 arg5 harg5 arg6 harg6 arg7 harg7 x0 x1 b y s k6

set_option maxHeartbeats 4000000 in
theorem out_8 (b : Fin 2) (y : Fin 2304) (s : Fin 128) (k8 : 24 * b.val + y.val % 24 < 8) :
    View.canon (kernelRun0_A.sl.HS4_8 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_8
  refine out_cons _ 0 7 7 rfl rfl _ _ _ _ b y s k8 ?_ ?_
  · intro b' y' x hb hy
    unfold kernelRun0_A.sl.v1288 kernelRun0_A.sl.v1285 kernelRun0_A.sl.v1284 kernelRun0_A.sl.v1283
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 7 (x 1).val hb hy (by decide) _ rfl rfl (one_mul_val (x 1).val)
  intro k7
  exact out_7 c arg0 harg0 arg1 harg1 arg2 harg2 arg3 harg3 arg4 harg4 arg5 harg5 arg6 harg6 arg7 harg7 x0 x1 b y s k7

set_option maxHeartbeats 4000000 in
theorem out_9 (b : Fin 2) (y : Fin 2304) (s : Fin 128) (k9 : 24 * b.val + y.val % 24 < 9) :
    View.canon (kernelRun0_A.sl.HS4_9 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_9
  refine out_cons _ 0 8 8 rfl rfl _ _ _ _ b y s k9 ?_ ?_
  · intro b' y' x hb hy
    unfold kernelRun0_A.sl.v1295 kernelRun0_A.sl.v1292 kernelRun0_A.sl.v1291 kernelRun0_A.sl.v1290
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 8 (x 1).val hb hy (by decide) _ rfl rfl (one_mul_val (x 1).val)
  intro k8
  exact out_8 c arg0 harg0 arg1 harg1 arg2 harg2 arg3 harg3 arg4 harg4 arg5 harg5 arg6 harg6 arg7 harg7 x0 x1 b y s k8

set_option maxHeartbeats 4000000 in
theorem out_10 (b : Fin 2) (y : Fin 2304) (s : Fin 128) (k10 : 24 * b.val + y.val % 24 < 10) :
    View.canon (kernelRun0_A.sl.HS4_10 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_10
  refine out_cons _ 0 9 9 rfl rfl _ _ _ _ b y s k10 ?_ ?_
  · intro b' y' x hb hy
    unfold kernelRun0_A.sl.v1302 kernelRun0_A.sl.v1299 kernelRun0_A.sl.v1298 kernelRun0_A.sl.v1297
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 9 (x 1).val hb hy (by decide) _ rfl rfl (one_mul_val (x 1).val)
  intro k9
  exact out_9 c arg0 harg0 arg1 harg1 arg2 harg2 arg3 harg3 arg4 harg4 arg5 harg5 arg6 harg6 arg7 harg7 x0 x1 b y s k9

set_option maxHeartbeats 4000000 in
theorem out_11 (b : Fin 2) (y : Fin 2304) (s : Fin 128) (k11 : 24 * b.val + y.val % 24 < 11) :
    View.canon (kernelRun0_A.sl.HS4_11 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_11
  refine out_cons _ 0 10 10 rfl rfl _ _ _ _ b y s k11 ?_ ?_
  · intro b' y' x hb hy
    unfold kernelRun0_A.sl.v1309 kernelRun0_A.sl.v1306 kernelRun0_A.sl.v1305 kernelRun0_A.sl.v1304
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 10 (x 1).val hb hy (by decide) _ rfl rfl (one_mul_val (x 1).val)
  intro k10
  exact out_10 c arg0 harg0 arg1 harg1 arg2 harg2 arg3 harg3 arg4 harg4 arg5 harg5 arg6 harg6 arg7 harg7 x0 x1 b y s k10

set_option maxHeartbeats 4000000 in
theorem out_12 (b : Fin 2) (y : Fin 2304) (s : Fin 128) (k12 : 24 * b.val + y.val % 24 < 12) :
    View.canon (kernelRun0_A.sl.HS4_12 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_12
  refine out_cons _ 0 11 11 rfl rfl _ _ _ _ b y s k12 ?_ ?_
  · intro b' y' x hb hy
    unfold kernelRun0_A.sl.v1316 kernelRun0_A.sl.v1313 kernelRun0_A.sl.v1312 kernelRun0_A.sl.v1311
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 11 (x 1).val hb hy (by decide) _ rfl rfl (one_mul_val (x 1).val)
  intro k11
  exact out_11 c arg0 harg0 arg1 harg1 arg2 harg2 arg3 harg3 arg4 harg4 arg5 harg5 arg6 harg6 arg7 harg7 x0 x1 b y s k11

set_option maxHeartbeats 4000000 in
theorem out_13 (b : Fin 2) (y : Fin 2304) (s : Fin 128) (k13 : 24 * b.val + y.val % 24 < 13) :
    View.canon (kernelRun0_A.sl.HS4_13 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_13
  refine out_cons _ 0 12 12 rfl rfl _ _ _ _ b y s k13 ?_ ?_
  · intro b' y' x hb hy
    unfold kernelRun0_A.sl.v1323 kernelRun0_A.sl.v1320 kernelRun0_A.sl.v1319 kernelRun0_A.sl.v1318
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 12 (x 1).val hb hy (by decide) _ rfl rfl (one_mul_val (x 1).val)
  intro k12
  exact out_12 c arg0 harg0 arg1 harg1 arg2 harg2 arg3 harg3 arg4 harg4 arg5 harg5 arg6 harg6 arg7 harg7 x0 x1 b y s k12

set_option maxHeartbeats 4000000 in
theorem out_14 (b : Fin 2) (y : Fin 2304) (s : Fin 128) (k14 : 24 * b.val + y.val % 24 < 14) :
    View.canon (kernelRun0_A.sl.HS4_14 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_14
  refine out_cons _ 0 13 13 rfl rfl _ _ _ _ b y s k14 ?_ ?_
  · intro b' y' x hb hy
    unfold kernelRun0_A.sl.v1330 kernelRun0_A.sl.v1327 kernelRun0_A.sl.v1326 kernelRun0_A.sl.v1325
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 13 (x 1).val hb hy (by decide) _ rfl rfl (one_mul_val (x 1).val)
  intro k13
  exact out_13 c arg0 harg0 arg1 harg1 arg2 harg2 arg3 harg3 arg4 harg4 arg5 harg5 arg6 harg6 arg7 harg7 x0 x1 b y s k13

set_option maxHeartbeats 4000000 in
theorem out_15 (b : Fin 2) (y : Fin 2304) (s : Fin 128) (k15 : 24 * b.val + y.val % 24 < 15) :
    View.canon (kernelRun0_A.sl.HS4_15 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_15
  refine out_cons _ 0 14 14 rfl rfl _ _ _ _ b y s k15 ?_ ?_
  · intro b' y' x hb hy
    unfold kernelRun0_A.sl.v1337 kernelRun0_A.sl.v1334 kernelRun0_A.sl.v1333 kernelRun0_A.sl.v1332
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 14 (x 1).val hb hy (by decide) _ rfl rfl (one_mul_val (x 1).val)
  intro k14
  exact out_14 c arg0 harg0 arg1 harg1 arg2 harg2 arg3 harg3 arg4 harg4 arg5 harg5 arg6 harg6 arg7 harg7 x0 x1 b y s k14

set_option maxHeartbeats 4000000 in
theorem out_16 (b : Fin 2) (y : Fin 2304) (s : Fin 128) (k16 : 24 * b.val + y.val % 24 < 16) :
    View.canon (kernelRun0_A.sl.HS4_16 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_16
  refine out_cons _ 0 15 15 rfl rfl _ _ _ _ b y s k16 ?_ ?_
  · intro b' y' x hb hy
    unfold kernelRun0_A.sl.v1344 kernelRun0_A.sl.v1341 kernelRun0_A.sl.v1340 kernelRun0_A.sl.v1339
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 15 (x 1).val hb hy (by decide) _ rfl rfl (one_mul_val (x 1).val)
  intro k15
  exact out_15 c arg0 harg0 arg1 harg1 arg2 harg2 arg3 harg3 arg4 harg4 arg5 harg5 arg6 harg6 arg7 harg7 x0 x1 b y s k15

set_option maxHeartbeats 4000000 in
theorem out_17 (b : Fin 2) (y : Fin 2304) (s : Fin 128) (k17 : 24 * b.val + y.val % 24 < 17) :
    View.canon (kernelRun0_A.sl.HS4_17 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_17
  refine out_cons _ 0 16 16 rfl rfl _ _ _ _ b y s k17 ?_ ?_
  · intro b' y' x hb hy
    unfold kernelRun0_A.sl.v1351 kernelRun0_A.sl.v1348 kernelRun0_A.sl.v1347 kernelRun0_A.sl.v1346
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 16 (x 1).val hb hy (by decide) _ rfl rfl (one_mul_val (x 1).val)
  intro k16
  exact out_16 c arg0 harg0 arg1 harg1 arg2 harg2 arg3 harg3 arg4 harg4 arg5 harg5 arg6 harg6 arg7 harg7 x0 x1 b y s k16

set_option maxHeartbeats 4000000 in
theorem out_18 (b : Fin 2) (y : Fin 2304) (s : Fin 128) (k18 : 24 * b.val + y.val % 24 < 18) :
    View.canon (kernelRun0_A.sl.HS4_18 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_18
  refine out_cons _ 0 17 17 rfl rfl _ _ _ _ b y s k18 ?_ ?_
  · intro b' y' x hb hy
    unfold kernelRun0_A.sl.v1358 kernelRun0_A.sl.v1355 kernelRun0_A.sl.v1354 kernelRun0_A.sl.v1353
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 17 (x 1).val hb hy (by decide) _ rfl rfl (one_mul_val (x 1).val)
  intro k17
  exact out_17 c arg0 harg0 arg1 harg1 arg2 harg2 arg3 harg3 arg4 harg4 arg5 harg5 arg6 harg6 arg7 harg7 x0 x1 b y s k17

set_option maxHeartbeats 4000000 in
theorem out_19 (b : Fin 2) (y : Fin 2304) (s : Fin 128) (k19 : 24 * b.val + y.val % 24 < 19) :
    View.canon (kernelRun0_A.sl.HS4_19 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_19
  refine out_cons _ 0 18 18 rfl rfl _ _ _ _ b y s k19 ?_ ?_
  · intro b' y' x hb hy
    unfold kernelRun0_A.sl.v1365 kernelRun0_A.sl.v1362 kernelRun0_A.sl.v1361 kernelRun0_A.sl.v1360
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 18 (x 1).val hb hy (by decide) _ rfl rfl (one_mul_val (x 1).val)
  intro k18
  exact out_18 c arg0 harg0 arg1 harg1 arg2 harg2 arg3 harg3 arg4 harg4 arg5 harg5 arg6 harg6 arg7 harg7 x0 x1 b y s k18

set_option maxHeartbeats 4000000 in
theorem out_20 (b : Fin 2) (y : Fin 2304) (s : Fin 128) (k20 : 24 * b.val + y.val % 24 < 20) :
    View.canon (kernelRun0_A.sl.HS4_20 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_20
  refine out_cons _ 0 19 19 rfl rfl _ _ _ _ b y s k20 ?_ ?_
  · intro b' y' x hb hy
    unfold kernelRun0_A.sl.v1372 kernelRun0_A.sl.v1369 kernelRun0_A.sl.v1368 kernelRun0_A.sl.v1367
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 19 (x 1).val hb hy (by decide) _ rfl rfl (one_mul_val (x 1).val)
  intro k19
  exact out_19 c arg0 harg0 arg1 harg1 arg2 harg2 arg3 harg3 arg4 harg4 arg5 harg5 arg6 harg6 arg7 harg7 x0 x1 b y s k19

set_option maxHeartbeats 4000000 in
theorem out_21 (b : Fin 2) (y : Fin 2304) (s : Fin 128) (k21 : 24 * b.val + y.val % 24 < 21) :
    View.canon (kernelRun0_A.sl.HS4_21 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_21
  refine out_cons _ 0 20 20 rfl rfl _ _ _ _ b y s k21 ?_ ?_
  · intro b' y' x hb hy
    unfold kernelRun0_A.sl.v1379 kernelRun0_A.sl.v1376 kernelRun0_A.sl.v1375 kernelRun0_A.sl.v1374
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 20 (x 1).val hb hy (by decide) _ rfl rfl (one_mul_val (x 1).val)
  intro k20
  exact out_20 c arg0 harg0 arg1 harg1 arg2 harg2 arg3 harg3 arg4 harg4 arg5 harg5 arg6 harg6 arg7 harg7 x0 x1 b y s k20

set_option maxHeartbeats 4000000 in
theorem out_22 (b : Fin 2) (y : Fin 2304) (s : Fin 128) (k22 : 24 * b.val + y.val % 24 < 22) :
    View.canon (kernelRun0_A.sl.HS4_22 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_22
  refine out_cons _ 0 21 21 rfl rfl _ _ _ _ b y s k22 ?_ ?_
  · intro b' y' x hb hy
    unfold kernelRun0_A.sl.v1386 kernelRun0_A.sl.v1383 kernelRun0_A.sl.v1382 kernelRun0_A.sl.v1381
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 21 (x 1).val hb hy (by decide) _ rfl rfl (one_mul_val (x 1).val)
  intro k21
  exact out_21 c arg0 harg0 arg1 harg1 arg2 harg2 arg3 harg3 arg4 harg4 arg5 harg5 arg6 harg6 arg7 harg7 x0 x1 b y s k21

set_option maxHeartbeats 4000000 in
theorem out_23 (b : Fin 2) (y : Fin 2304) (s : Fin 128) (k23 : 24 * b.val + y.val % 24 < 23) :
    View.canon (kernelRun0_A.sl.HS4_23 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_23
  refine out_cons _ 0 22 22 rfl rfl _ _ _ _ b y s k23 ?_ ?_
  · intro b' y' x hb hy
    unfold kernelRun0_A.sl.v1393 kernelRun0_A.sl.v1390 kernelRun0_A.sl.v1389 kernelRun0_A.sl.v1388
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 22 (x 1).val hb hy (by decide) _ rfl rfl (one_mul_val (x 1).val)
  intro k22
  exact out_22 c arg0 harg0 arg1 harg1 arg2 harg2 arg3 harg3 arg4 harg4 arg5 harg5 arg6 harg6 arg7 harg7 x0 x1 b y s k22

set_option maxHeartbeats 4000000 in
theorem out_25 (b : Fin 2) (y : Fin 2304) (s : Fin 128) (k25 : 24 * b.val + y.val % 24 < 25) :
    View.canon (kernelRun0_A.sl.HS4_25 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_25
  refine out_cons _ 1 0 24 rfl rfl _ _ _ _ b y s k25 ?_ ?_
  · intro b' y' x hb hy
    unfold kernelRun0_A.sl.v1407 kernelRun0_A.sl.v1404 kernelRun0_A.sl.v1403 kernelRun0_A.sl.v1402
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 0 (x 1).val hb hy (by decide) _ rfl rfl (one_mul_val (x 1).val)
  intro k24
  refine out_cons _ 0 23 23 rfl rfl _ _ _ _ b y s k24 ?_ ?_
  · intro b' y' x hb hy
    unfold kernelRun0_A.sl.v1400 kernelRun0_A.sl.v1397 kernelRun0_A.sl.v1396 kernelRun0_A.sl.v1395
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 0 23 (x 1).val hb hy (by decide) _ rfl rfl (one_mul_val (x 1).val)
  intro k23
  exact out_23 c arg0 harg0 arg1 harg1 arg2 harg2 arg3 harg3 arg4 harg4 arg5 harg5 arg6 harg6 arg7 harg7 x0 x1 b y s k23

set_option maxHeartbeats 4000000 in
theorem out_26 (b : Fin 2) (y : Fin 2304) (s : Fin 128) (k26 : 24 * b.val + y.val % 24 < 26) :
    View.canon (kernelRun0_A.sl.HS4_26 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_26
  refine out_cons _ 1 1 25 rfl rfl _ _ _ _ b y s k26 ?_ ?_
  · intro b' y' x hb hy
    unfold kernelRun0_A.sl.v1414 kernelRun0_A.sl.v1411 kernelRun0_A.sl.v1410 kernelRun0_A.sl.v1409
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 1 (x 1).val hb hy (by decide) _ rfl rfl (one_mul_val (x 1).val)
  intro k25
  exact out_25 c arg0 harg0 arg1 harg1 arg2 harg2 arg3 harg3 arg4 harg4 arg5 harg5 arg6 harg6 arg7 harg7 x0 x1 b y s k25

set_option maxHeartbeats 4000000 in
theorem out_27 (b : Fin 2) (y : Fin 2304) (s : Fin 128) (k27 : 24 * b.val + y.val % 24 < 27) :
    View.canon (kernelRun0_A.sl.HS4_27 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_27
  refine out_cons _ 1 2 26 rfl rfl _ _ _ _ b y s k27 ?_ ?_
  · intro b' y' x hb hy
    unfold kernelRun0_A.sl.v1421 kernelRun0_A.sl.v1418 kernelRun0_A.sl.v1417 kernelRun0_A.sl.v1416
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 2 (x 1).val hb hy (by decide) _ rfl rfl (one_mul_val (x 1).val)
  intro k26
  exact out_26 c arg0 harg0 arg1 harg1 arg2 harg2 arg3 harg3 arg4 harg4 arg5 harg5 arg6 harg6 arg7 harg7 x0 x1 b y s k26

set_option maxHeartbeats 4000000 in
theorem out_28 (b : Fin 2) (y : Fin 2304) (s : Fin 128) (k28 : 24 * b.val + y.val % 24 < 28) :
    View.canon (kernelRun0_A.sl.HS4_28 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_28
  refine out_cons _ 1 3 27 rfl rfl _ _ _ _ b y s k28 ?_ ?_
  · intro b' y' x hb hy
    unfold kernelRun0_A.sl.v1428 kernelRun0_A.sl.v1425 kernelRun0_A.sl.v1424 kernelRun0_A.sl.v1423
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 3 (x 1).val hb hy (by decide) _ rfl rfl (one_mul_val (x 1).val)
  intro k27
  exact out_27 c arg0 harg0 arg1 harg1 arg2 harg2 arg3 harg3 arg4 harg4 arg5 harg5 arg6 harg6 arg7 harg7 x0 x1 b y s k27

set_option maxHeartbeats 4000000 in
theorem out_29 (b : Fin 2) (y : Fin 2304) (s : Fin 128) (k29 : 24 * b.val + y.val % 24 < 29) :
    View.canon (kernelRun0_A.sl.HS4_29 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_29
  refine out_cons _ 1 4 28 rfl rfl _ _ _ _ b y s k29 ?_ ?_
  · intro b' y' x hb hy
    unfold kernelRun0_A.sl.v1435 kernelRun0_A.sl.v1432 kernelRun0_A.sl.v1431 kernelRun0_A.sl.v1430
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 4 (x 1).val hb hy (by decide) _ rfl rfl (one_mul_val (x 1).val)
  intro k28
  exact out_28 c arg0 harg0 arg1 harg1 arg2 harg2 arg3 harg3 arg4 harg4 arg5 harg5 arg6 harg6 arg7 harg7 x0 x1 b y s k28

set_option maxHeartbeats 4000000 in
theorem out_30 (b : Fin 2) (y : Fin 2304) (s : Fin 128) (k30 : 24 * b.val + y.val % 24 < 30) :
    View.canon (kernelRun0_A.sl.HS4_30 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_30
  refine out_cons _ 1 5 29 rfl rfl _ _ _ _ b y s k30 ?_ ?_
  · intro b' y' x hb hy
    unfold kernelRun0_A.sl.v1442 kernelRun0_A.sl.v1439 kernelRun0_A.sl.v1438 kernelRun0_A.sl.v1437
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 5 (x 1).val hb hy (by decide) _ rfl rfl (one_mul_val (x 1).val)
  intro k29
  exact out_29 c arg0 harg0 arg1 harg1 arg2 harg2 arg3 harg3 arg4 harg4 arg5 harg5 arg6 harg6 arg7 harg7 x0 x1 b y s k29

set_option maxHeartbeats 4000000 in
theorem out_31 (b : Fin 2) (y : Fin 2304) (s : Fin 128) (k31 : 24 * b.val + y.val % 24 < 31) :
    View.canon (kernelRun0_A.sl.HS4_31 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_31
  refine out_cons _ 1 6 30 rfl rfl _ _ _ _ b y s k31 ?_ ?_
  · intro b' y' x hb hy
    unfold kernelRun0_A.sl.v1449 kernelRun0_A.sl.v1446 kernelRun0_A.sl.v1445 kernelRun0_A.sl.v1444
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 6 (x 1).val hb hy (by decide) _ rfl rfl (one_mul_val (x 1).val)
  intro k30
  exact out_30 c arg0 harg0 arg1 harg1 arg2 harg2 arg3 harg3 arg4 harg4 arg5 harg5 arg6 harg6 arg7 harg7 x0 x1 b y s k30

set_option maxHeartbeats 4000000 in
theorem out_32 (b : Fin 2) (y : Fin 2304) (s : Fin 128) (k32 : 24 * b.val + y.val % 24 < 32) :
    View.canon (kernelRun0_A.sl.HS4_32 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_32
  refine out_cons _ 1 7 31 rfl rfl _ _ _ _ b y s k32 ?_ ?_
  · intro b' y' x hb hy
    unfold kernelRun0_A.sl.v1456 kernelRun0_A.sl.v1453 kernelRun0_A.sl.v1452 kernelRun0_A.sl.v1451
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 7 (x 1).val hb hy (by decide) _ rfl rfl (one_mul_val (x 1).val)
  intro k31
  exact out_31 c arg0 harg0 arg1 harg1 arg2 harg2 arg3 harg3 arg4 harg4 arg5 harg5 arg6 harg6 arg7 harg7 x0 x1 b y s k31

set_option maxHeartbeats 4000000 in
theorem out_33 (b : Fin 2) (y : Fin 2304) (s : Fin 128) (k33 : 24 * b.val + y.val % 24 < 33) :
    View.canon (kernelRun0_A.sl.HS4_33 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_33
  refine out_cons _ 1 8 32 rfl rfl _ _ _ _ b y s k33 ?_ ?_
  · intro b' y' x hb hy
    unfold kernelRun0_A.sl.v1463 kernelRun0_A.sl.v1460 kernelRun0_A.sl.v1459 kernelRun0_A.sl.v1458
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 8 (x 1).val hb hy (by decide) _ rfl rfl (one_mul_val (x 1).val)
  intro k32
  exact out_32 c arg0 harg0 arg1 harg1 arg2 harg2 arg3 harg3 arg4 harg4 arg5 harg5 arg6 harg6 arg7 harg7 x0 x1 b y s k32

set_option maxHeartbeats 4000000 in
theorem out_34 (b : Fin 2) (y : Fin 2304) (s : Fin 128) (k34 : 24 * b.val + y.val % 24 < 34) :
    View.canon (kernelRun0_A.sl.HS4_34 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_34
  refine out_cons _ 1 9 33 rfl rfl _ _ _ _ b y s k34 ?_ ?_
  · intro b' y' x hb hy
    unfold kernelRun0_A.sl.v1470 kernelRun0_A.sl.v1467 kernelRun0_A.sl.v1466 kernelRun0_A.sl.v1465
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 9 (x 1).val hb hy (by decide) _ rfl rfl (one_mul_val (x 1).val)
  intro k33
  exact out_33 c arg0 harg0 arg1 harg1 arg2 harg2 arg3 harg3 arg4 harg4 arg5 harg5 arg6 harg6 arg7 harg7 x0 x1 b y s k33

set_option maxHeartbeats 4000000 in
theorem out_35 (b : Fin 2) (y : Fin 2304) (s : Fin 128) (k35 : 24 * b.val + y.val % 24 < 35) :
    View.canon (kernelRun0_A.sl.HS4_35 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_35
  refine out_cons _ 1 10 34 rfl rfl _ _ _ _ b y s k35 ?_ ?_
  · intro b' y' x hb hy
    unfold kernelRun0_A.sl.v1477 kernelRun0_A.sl.v1474 kernelRun0_A.sl.v1473 kernelRun0_A.sl.v1472
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 10 (x 1).val hb hy (by decide) _ rfl rfl (one_mul_val (x 1).val)
  intro k34
  exact out_34 c arg0 harg0 arg1 harg1 arg2 harg2 arg3 harg3 arg4 harg4 arg5 harg5 arg6 harg6 arg7 harg7 x0 x1 b y s k34

set_option maxHeartbeats 4000000 in
theorem out_36 (b : Fin 2) (y : Fin 2304) (s : Fin 128) (k36 : 24 * b.val + y.val % 24 < 36) :
    View.canon (kernelRun0_A.sl.HS4_36 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_36
  refine out_cons _ 1 11 35 rfl rfl _ _ _ _ b y s k36 ?_ ?_
  · intro b' y' x hb hy
    unfold kernelRun0_A.sl.v1484 kernelRun0_A.sl.v1481 kernelRun0_A.sl.v1480 kernelRun0_A.sl.v1479
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 11 (x 1).val hb hy (by decide) _ rfl rfl (one_mul_val (x 1).val)
  intro k35
  exact out_35 c arg0 harg0 arg1 harg1 arg2 harg2 arg3 harg3 arg4 harg4 arg5 harg5 arg6 harg6 arg7 harg7 x0 x1 b y s k35

set_option maxHeartbeats 4000000 in
theorem out_37 (b : Fin 2) (y : Fin 2304) (s : Fin 128) (k37 : 24 * b.val + y.val % 24 < 37) :
    View.canon (kernelRun0_A.sl.HS4_37 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_37
  refine out_cons _ 1 12 36 rfl rfl _ _ _ _ b y s k37 ?_ ?_
  · intro b' y' x hb hy
    unfold kernelRun0_A.sl.v1491 kernelRun0_A.sl.v1488 kernelRun0_A.sl.v1487 kernelRun0_A.sl.v1486
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 12 (x 1).val hb hy (by decide) _ rfl rfl (one_mul_val (x 1).val)
  intro k36
  exact out_36 c arg0 harg0 arg1 harg1 arg2 harg2 arg3 harg3 arg4 harg4 arg5 harg5 arg6 harg6 arg7 harg7 x0 x1 b y s k36

set_option maxHeartbeats 4000000 in
theorem out_38 (b : Fin 2) (y : Fin 2304) (s : Fin 128) (k38 : 24 * b.val + y.val % 24 < 38) :
    View.canon (kernelRun0_A.sl.HS4_38 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_38
  refine out_cons _ 1 13 37 rfl rfl _ _ _ _ b y s k38 ?_ ?_
  · intro b' y' x hb hy
    unfold kernelRun0_A.sl.v1498 kernelRun0_A.sl.v1495 kernelRun0_A.sl.v1494 kernelRun0_A.sl.v1493
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 13 (x 1).val hb hy (by decide) _ rfl rfl (one_mul_val (x 1).val)
  intro k37
  exact out_37 c arg0 harg0 arg1 harg1 arg2 harg2 arg3 harg3 arg4 harg4 arg5 harg5 arg6 harg6 arg7 harg7 x0 x1 b y s k37

set_option maxHeartbeats 4000000 in
theorem out_39 (b : Fin 2) (y : Fin 2304) (s : Fin 128) (k39 : 24 * b.val + y.val % 24 < 39) :
    View.canon (kernelRun0_A.sl.HS4_39 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_39
  refine out_cons _ 1 14 38 rfl rfl _ _ _ _ b y s k39 ?_ ?_
  · intro b' y' x hb hy
    unfold kernelRun0_A.sl.v1505 kernelRun0_A.sl.v1502 kernelRun0_A.sl.v1501 kernelRun0_A.sl.v1500
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 14 (x 1).val hb hy (by decide) _ rfl rfl (one_mul_val (x 1).val)
  intro k38
  exact out_38 c arg0 harg0 arg1 harg1 arg2 harg2 arg3 harg3 arg4 harg4 arg5 harg5 arg6 harg6 arg7 harg7 x0 x1 b y s k38

set_option maxHeartbeats 4000000 in
theorem out_40 (b : Fin 2) (y : Fin 2304) (s : Fin 128) (k40 : 24 * b.val + y.val % 24 < 40) :
    View.canon (kernelRun0_A.sl.HS4_40 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_40
  refine out_cons _ 1 15 39 rfl rfl _ _ _ _ b y s k40 ?_ ?_
  · intro b' y' x hb hy
    unfold kernelRun0_A.sl.v1512 kernelRun0_A.sl.v1509 kernelRun0_A.sl.v1508 kernelRun0_A.sl.v1507
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 15 (x 1).val hb hy (by decide) _ rfl rfl (one_mul_val (x 1).val)
  intro k39
  exact out_39 c arg0 harg0 arg1 harg1 arg2 harg2 arg3 harg3 arg4 harg4 arg5 harg5 arg6 harg6 arg7 harg7 x0 x1 b y s k39

set_option maxHeartbeats 4000000 in
theorem out_41 (b : Fin 2) (y : Fin 2304) (s : Fin 128) (k41 : 24 * b.val + y.val % 24 < 41) :
    View.canon (kernelRun0_A.sl.HS4_41 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_41
  refine out_cons _ 1 16 40 rfl rfl _ _ _ _ b y s k41 ?_ ?_
  · intro b' y' x hb hy
    unfold kernelRun0_A.sl.v1519 kernelRun0_A.sl.v1516 kernelRun0_A.sl.v1515 kernelRun0_A.sl.v1514
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 16 (x 1).val hb hy (by decide) _ rfl rfl (one_mul_val (x 1).val)
  intro k40
  exact out_40 c arg0 harg0 arg1 harg1 arg2 harg2 arg3 harg3 arg4 harg4 arg5 harg5 arg6 harg6 arg7 harg7 x0 x1 b y s k40

set_option maxHeartbeats 4000000 in
theorem out_42 (b : Fin 2) (y : Fin 2304) (s : Fin 128) (k42 : 24 * b.val + y.val % 24 < 42) :
    View.canon (kernelRun0_A.sl.HS4_42 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_42
  refine out_cons _ 1 17 41 rfl rfl _ _ _ _ b y s k42 ?_ ?_
  · intro b' y' x hb hy
    unfold kernelRun0_A.sl.v1526 kernelRun0_A.sl.v1523 kernelRun0_A.sl.v1522 kernelRun0_A.sl.v1521
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 17 (x 1).val hb hy (by decide) _ rfl rfl (one_mul_val (x 1).val)
  intro k41
  exact out_41 c arg0 harg0 arg1 harg1 arg2 harg2 arg3 harg3 arg4 harg4 arg5 harg5 arg6 harg6 arg7 harg7 x0 x1 b y s k41

set_option maxHeartbeats 4000000 in
theorem out_43 (b : Fin 2) (y : Fin 2304) (s : Fin 128) (k43 : 24 * b.val + y.val % 24 < 43) :
    View.canon (kernelRun0_A.sl.HS4_43 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_43
  refine out_cons _ 1 18 42 rfl rfl _ _ _ _ b y s k43 ?_ ?_
  · intro b' y' x hb hy
    unfold kernelRun0_A.sl.v1533 kernelRun0_A.sl.v1530 kernelRun0_A.sl.v1529 kernelRun0_A.sl.v1528
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 18 (x 1).val hb hy (by decide) _ rfl rfl (one_mul_val (x 1).val)
  intro k42
  exact out_42 c arg0 harg0 arg1 harg1 arg2 harg2 arg3 harg3 arg4 harg4 arg5 harg5 arg6 harg6 arg7 harg7 x0 x1 b y s k42

set_option maxHeartbeats 4000000 in
theorem out_44 (b : Fin 2) (y : Fin 2304) (s : Fin 128) (k44 : 24 * b.val + y.val % 24 < 44) :
    View.canon (kernelRun0_A.sl.HS4_44 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_44
  refine out_cons _ 1 19 43 rfl rfl _ _ _ _ b y s k44 ?_ ?_
  · intro b' y' x hb hy
    unfold kernelRun0_A.sl.v1540 kernelRun0_A.sl.v1537 kernelRun0_A.sl.v1536 kernelRun0_A.sl.v1535
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 19 (x 1).val hb hy (by decide) _ rfl rfl (one_mul_val (x 1).val)
  intro k43
  exact out_43 c arg0 harg0 arg1 harg1 arg2 harg2 arg3 harg3 arg4 harg4 arg5 harg5 arg6 harg6 arg7 harg7 x0 x1 b y s k43

set_option maxHeartbeats 4000000 in
theorem out_45 (b : Fin 2) (y : Fin 2304) (s : Fin 128) (k45 : 24 * b.val + y.val % 24 < 45) :
    View.canon (kernelRun0_A.sl.HS4_45 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_45
  refine out_cons _ 1 20 44 rfl rfl _ _ _ _ b y s k45 ?_ ?_
  · intro b' y' x hb hy
    unfold kernelRun0_A.sl.v1547 kernelRun0_A.sl.v1544 kernelRun0_A.sl.v1543 kernelRun0_A.sl.v1542
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 20 (x 1).val hb hy (by decide) _ rfl rfl (one_mul_val (x 1).val)
  intro k44
  exact out_44 c arg0 harg0 arg1 harg1 arg2 harg2 arg3 harg3 arg4 harg4 arg5 harg5 arg6 harg6 arg7 harg7 x0 x1 b y s k44

set_option maxHeartbeats 4000000 in
theorem out_46 (b : Fin 2) (y : Fin 2304) (s : Fin 128) (k46 : 24 * b.val + y.val % 24 < 46) :
    View.canon (kernelRun0_A.sl.HS4_46 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_46
  refine out_cons _ 1 21 45 rfl rfl _ _ _ _ b y s k46 ?_ ?_
  · intro b' y' x hb hy
    unfold kernelRun0_A.sl.v1554 kernelRun0_A.sl.v1551 kernelRun0_A.sl.v1550 kernelRun0_A.sl.v1549
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 21 (x 1).val hb hy (by decide) _ rfl rfl (one_mul_val (x 1).val)
  intro k45
  exact out_45 c arg0 harg0 arg1 harg1 arg2 harg2 arg3 harg3 arg4 harg4 arg5 harg5 arg6 harg6 arg7 harg7 x0 x1 b y s k45

set_option maxHeartbeats 4000000 in
theorem out_48 (b : Fin 2) (y : Fin 2304) (s : Fin 128) (k48 : 24 * b.val + y.val % 24 < 48) :
    View.canon (kernelRun0_A.sl.HS4_48 (F := Ideal) c arg0 harg0 arg1 harg1 arg2 harg2 arg3 harg3 arg4 harg4 arg5 harg5 arg6 harg6 arg7 harg7 x0 x1) (ix3 b y s)
      = turned (gsv c arg0 harg0 arg1 harg1 arg2 harg2 arg3 harg3 arg4 harg4 arg5 harg5 arg6 harg6 arg7 harg7 x0 x1) (ix3 b y s) := by
  unfold kernelRun0_A.sl.HS4_48
  refine out_cons _ 1 23 47 rfl rfl _ _ _ _ b y s k48 ?_ ?_
  · intro b' y' x hb hy
    unfold k0_pay1 kernelRun0_A.sl.r_2
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 23 (x 1).val hb hy (by decide) _ rfl rfl (one_mul_val (x 1).val)
  intro k47
  refine out_cons _ 1 22 46 rfl rfl _ _ _ _ b y s k47 ?_ ?_
  · intro b' y' x hb hy
    unfold k0_pay259 kernelRun0_A.sl.v1558 kernelRun0_A.sl.v1557 kernelRun0_A.sl.v1556
    refine (pay_out _ _ _ _ _ x).trans ?_
    rw [View.readCov_eq_canon']
    beta_reduce
    unfold gsv
    generalize pb_k0_t1 (F := Ideal) _ _ _ _ _ _ _ _ _ _ _ _ _ _ _ _ _ _ _ _ _ _ _ = L
    exact turned_ix (View.canon L) b' y' (x 2) 1 22 (x 1).val hb hy (by decide) _ rfl rfl (one_mul_val (x 1).val)
  intro k46
  exact out_46 c arg0 harg0 arg1 harg1 arg2 harg2 arg3 harg3 arg4 harg4 arg5 harg5 arg6 harg6 arg7 harg7 x0 x1 b y s k46

end Cert.ScalesIdeal.Value
end
-- ==== Proof.ScLoop.lean ====
module

public import proofs.«01_k».proof.Proof.Gen.ScalesIdeal.Value
public import proofs.«01_k».proof.Proof.Lanes
public import Idealize.ShloMosaic.Lib.Pipeline.ValueKit
public import Idealize.ShloMosaic.Lib.Pointwise
public import Idealize.ShloMosaic.Lib.Tactic.RunNames

/-! The loop of the scales kernel: what each trip gathers. -/

@[expose] public section

set_option maxRecDepth 16384

noncomputable section
namespace Cert.ScalesIdeal.Value
open Idealize.ShloMosaic Idealize.ShloMosaic.TcCoe Idealize.SL.Sem
open Cert.ScalesIdeal Cert.ScalesIdeal.Gen

/-- The lane a word below 256 selects in its half. -/
theorem w_lane : ∀ i : Fin 256, (Scalar.select (IntOp.cmpi .slt (IntOp.andi (BitVec.ofNat 32 i.val) 127#32) 0#32)
    (IntOp.addi (IntOp.andi (BitVec.ofNat 32 i.val) 127#32) 128#32) (IntOp.andi (BitVec.ofNat 32 i.val) 127#32)).toNat % 128 = i.val % 128 := by decide +kernel

theorem w_half : ∀ i : Fin 256, IntOp.cmpi .slt (BitVec.ofNat 32 i.val) 128#32 = if i.val < 128 then 1#1 else 0#1 := by decide +kernel

/-- The lane a word below 256 takes: from the first tile below 128, from the second above. -/
def pick (u v : Vec Ideal S24x128 .f32) (g : Fin 24) (i : Fin 256) : EReal :=
  if i.val < 128 then u (ix2 g ⟨i.val % 128, Nat.mod_lt _ (by decide)⟩) else v (ix2 g ⟨i.val % 128, Nat.mod_lt _ (by decide)⟩)

theorem pick_eq (u v : Vec Ideal S24x128 .f32) (g : Fin 24) (i : Fin 256) (w : BitVec 32) (hw : w = BitVec.ofNat 32 i.val)
    (n : Fin 128) (hn : n.val = (Scalar.select (IntOp.cmpi .slt (IntOp.andi w 127#32) 0#32)
    (IntOp.addi (IntOp.andi w 127#32) 128#32) (IntOp.andi w 127#32)).toNat % 128) :
    Scalar.select (IntOp.cmpi .slt w 128#32) (u (ix2 g n)) (v (ix2 g n)) = pick u v g i := by
  subst hw
  have en : n = ⟨i.val % 128, Nat.mod_lt _ (by decide)⟩ := Fin.ext (hn.trans (w_lane i))
  rw [en, w_half]
  unfold pick
  split
  · rfl
  · rfl

set_option maxHeartbeats 4000000 in
theorem pay3_at (w : Vec Ideal S1x2x128 .i32) (u v : Vec Ideal S24x128 .f32) (g : Fin 24) (k : Fin 128) (i : Fin 256)
    (hw : w (ix3 0 0 k) = BitVec.ofNat 32 i.val) :
    k0_pay3 (F := Ideal) w u v (ix2 g k) = pick u v g i := by
  unfold k0_pay3 k0_pay2
  pointwise
  exact pick_eq u v g i _ hw _ rfl

set_option maxHeartbeats 4000000 in
theorem pay206_at (w : Vec Ideal S1x2x128 .i32) (u v : Vec Ideal S24x128 .f32) (d : Fin 2) (g : Fin 24) (G : Fin 48) (hG : G.val = 24 * d.val + g.val) (k : Fin 128) (i : Fin 256)
    (hw : w (ix3 0 d k) = BitVec.ofNat 32 i.val) :
    k0_pay206 (F := Ideal) u v (k0_pay3 (F := Ideal) w u v) (k0_pay4 (F := Ideal) w) (k0_pay5 (F := Ideal) w) (ix3 0 G k) = pick u v g i := by
  unfold k0_pay206
  generalize hY : k0_pay3 (F := Ideal) w u v = Y
  unfold k0_pay5 k0_pay4 k0_pay2
  pointwise
  by_cases h : G.val < 24
  · rw [dif_pos h, ← hY]
    have ed : d = 0 := Fin.ext (show d.val = 0 by omega)
    have eg : (⟨G.val, h⟩ : Fin 24) = g := Fin.ext (show G.val = g.val by omega)
    rw [ed] at hw
    refine Eq.trans ?_ (pay3_at w u v g k i hw)
    exact congrArg (fun z => k0_pay3 (F := Ideal) w u v (ix2 z k)) eg
  · rw [dif_neg h]
    have hd := d.isLt
    have ed : d = 1 := Fin.ext (show d.val = 1 by omega)
    rw [ed] at hw hG
    have hg : G.val - 24 < 24 := by omega
    have eg : (⟨G.val - 24, hg⟩ : Fin 24) = g := Fin.ext (show G.val - 24 = g.val from by rw [hG]; exact Nat.add_sub_cancel_left _ _)
    refine Eq.trans ?_ (pick_eq u v g i (w (ix3 0 1 k)) hw ⟨_, Nat.mod_lt _ (by decide)⟩ rfl)
    rw [← eg]

/-- One trip's rows in front of a list. -/
theorem gs_cons (t : Nat) (o : Fin 3 → Nat) (ho : o = ![t % 2, 48 * (t / 2), 0])
    (inb : ∀ a, o a + S1x48x128.size a ≤ S2x3072x128.size a)
    (w : S1x48x128.Idx → Elt Ideal .f32) (L : List (View.Piece (Elt Ideal) S2x3072x128 .f32)) (b : Fin 2) (s : Fin 128) (g : Fin 24) (y : Fin 3072)
    (hy : y.val = 24 * s.val + g.val) (k : Fin 128) (r : EReal)
    (hk : 2 * (s.val / 2) + b.val < t + 1)
    (hw : 2 * (s.val / 2) + b.val = t → ∀ (d : Fin 2) (G : Fin 48), d.val = s.val % 2 → G.val = 24 * d.val + g.val → w (ix3 0 G k) = r)
    (hL : 2 * (s.val / 2) + b.val < t → View.canon L (ix3 b y k) = r) :
    View.canon ((⟨Rect.unit o S1x48x128.size inb, w⟩ : View.Piece (Elt Ideal) S2x3072x128 .f32) :: L) (ix3 b y k) = r := by
  subst ho
  by_cases h : 2 * (s.val / 2) + b.val < t
  · rw [View.canon_cons_of_not_mem _ _ ?_]
    · exact hL h
    · intro hm
      obtain ⟨x, hx⟩ := LoadRect.exists_idx_of_mem _ hm
      have e0 : t % 2 + 1 * (x 0).val = b.val := congrArg (fun y : S2x3072x128.Idx => (y 0).val) hx
      have e1 : 48 * (t / 2) + 1 * (x 1).val = y.val := congrArg (fun y : S2x3072x128.Idx => (y 1).val) hx
      have z0 : (x 0).val < 1 := (x 0).isLt
      have z1 : (x 1).val < 48 := (x 1).isLt
      omega
  · have hG : 24 * (s.val % 2) + g.val < 48 := by omega
    have hx : (ix3 b y k : S2x3072x128.Idx) = (Rect.unit ![t % 2, 48 * (t / 2), 0] S1x48x128.size inb : Rect S2x3072x128).emb (ix3 0 ⟨24 * (s.val % 2) + g.val, hG⟩ k) := by
      funext a
      match a with
      | 0 => exact Fin.ext (show b.val = t % 2 + 1 * 0 by omega)
      | 1 => exact Fin.ext (show y.val = 48 * (t / 2) + 1 * (24 * (s.val % 2) + g.val) by omega)
      | 2 => exact Fin.ext (show k.val = 0 + 1 * k.val by omega)
    refine (congrArg _ hx).trans ?_
    rw [View.canon_cons_emb]
    exact hw (by omega) ⟨s.val % 2, Nat.mod_lt _ (by decide)⟩ _ rfl rfl

theorem trips128 : k0_t1_loop.trips = 128 := by decide +kernel

theorem row3_le (t : Fin k0_t1_loop.trips) : t.val < 128 := lt_of_lt_of_eq t.isLt trips128
theorem row5_le (t : Fin k0_t1_loop.trips) (z : Fin 2) (g : Fin 24) : 56 * t.val + 24 * z.val + g.val < 7168 := by
  have := row3_le t
  omega

theorem rd3 (arg3 : Memref sig .tc .vmem S2x128x128 .i32) (X_arg3 : BufTy.Contents (Elt Ideal) arg3.view.ty) (t : Fin k0_t1_loop.trips) (d : Fin 2) (k : Fin 128) (b : Fin 2) (s : Fin 128)
    (hb : b.val = t.val % 2) (hs : s.val = 2 * (t.val / 2) + d.val) :
    View.readAt (Elt Ideal) arg3.view (Rect.unit (s := S2x128x128) (k0_off1 t) S1x2x128.size (k0_off1_inb t)).toLoadRect X_arg3 (ix3 0 d k) = arg3.view.read (Elt Ideal) X_arg3 (ix3 b s k) := by
  have e := k0_off1_eq t
  rw [View.readAt_eq_ld]
  refine congrArg (arg3.view.read (Elt Ideal) X_arg3) (funext fun a => Fin.ext ?_)
  match a with
  | ⟨0, _⟩ => exact (show k0_off1 t 0 + 1 * 0 = b.val by rw [e]; exact hb.symm)
  | ⟨1, _⟩ => exact (show k0_off1 t 1 + 1 * d.val = s.val by rw [e, hs, one_mul]; rfl)
  | ⟨2, _⟩ => exact (show k0_off1 t 2 + 1 * k.val = k.val by rw [e, one_mul]; exact Nat.zero_add _)

theorem rd5 (arg5 : Memref sig .tc .vmem S7168x128 .f32) (X_arg5 : BufTy.Contents (Elt Ideal) arg5.view.ty) (t : Fin k0_t1_loop.trips) (g : Fin 24) (k : Fin 128) :
    View.readAt (Elt Ideal) arg5.view (Rect.unit (s := S7168x128) (k0_off2 t) S24x128.size (k0_off2_inb t)).toLoadRect X_arg5 (ix2 g k) = arg5.view.read (Elt Ideal) X_arg5 (ix2 ⟨56 * t.val + 24 * (0 : Fin 2).val + g.val, row5_le t 0 g⟩ k) := by
  have e := k0_off2_eq t
  rw [View.readAt_eq_ld]
  refine congrArg (arg5.view.read (Elt Ideal) X_arg5) (funext fun a => Fin.ext ?_)
  match a with
  | ⟨0, _⟩ => exact (show k0_off2 t 0 + 1 * g.val = 56 * t.val + g.val by rw [e, one_mul]; rfl)
  | ⟨1, _⟩ => exact (show k0_off2 t 1 + 1 * k.val = k.val by rw [e, one_mul]; exact Nat.zero_add _)

theorem rd5' (arg5 : Memref sig .tc .vmem S7168x128 .f32) (X_arg5 : BufTy.Contents (Elt Ideal) arg5.view.ty) (t : Fin k0_t1_loop.trips) (g : Fin 24) (k : Fin 128) :
    View.readAt (Elt Ideal) arg5.view (Rect.unit (s := S7168x128) (k0_off3 t) S24x128.size (k0_off3_inb t)).toLoadRect X_arg5 (ix2 g k) = arg5.view.read (Elt Ideal) X_arg5 (ix2 ⟨56 * t.val + 24 * (1 : Fin 2).val + g.val, row5_le t 1 g⟩ k) := by
  have e := k0_off3_eq t
  rw [View.readAt_eq_ld]
  refine congrArg (arg5.view.read (Elt Ideal) X_arg5) (funext fun a => Fin.ext ?_)
  match a with
  | ⟨0, _⟩ => exact (show k0_off3 t 0 + 1 * g.val = 56 * t.val + 24 + g.val by rw [e, one_mul]; rfl)
  | ⟨1, _⟩ => exact (show k0_off3 t 1 + 1 * k.val = k.val by rw [e, one_mul]; exact Nat.zero_add _)

/-- The row of the pair tables that the word's half selects. -/
theorem rowz_le (b : Fin 2) (s : Fin 128) (z : Fin 2) (g : Fin 24) : 56 * (2 * (s.val / 2) + b.val) + 24 * z.val + g.val < 7168 := by omega
def half (i : Fin 256) : Fin 2 := if i.val < 128 then 0 else 1
/-- What atom `s` of molecule `b` gathers at the word `i`. -/
def gat (R : Vec Ideal S7168x128 .f32) (b : Fin 2) (s : Fin 128) (g : Fin 24) (i : Fin 256) : EReal :=
  R (ix2 ⟨56 * (2 * (s.val / 2) + b.val) + 24 * (half i).val + g.val, rowz_le b s (half i) g⟩ ⟨i.val % 128, Nat.mod_lt _ (by decide)⟩)

variable (c : Dev nD) (arg0 : Memref sig .tc .vmem S2x96x128 .i32) (harg0 : arg0.IsWhole) (arg1 : Memref sig .tc .vmem S33x24x512 .f32) (harg1 : arg1.IsWhole) (arg2 : Memref sig .tc .vmem S2x2304x128 .f32) (harg2 : arg2.IsWhole) (arg3 : Memref sig .tc .vmem S2x128x128 .i32) (harg3 : arg3.IsWhole) (arg4 : Memref sig .tc .vmem S3936x128 .f32) (harg4 : arg4.IsWhole) (arg5 : Memref sig .tc .vmem S7168x128 .f32) (harg5 : arg5.IsWhole) (arg6 : Memref sig .tc .vmem S2x3072x128 .f32) (harg6 : arg6.IsWhole) (arg7 : Memref sig .tc .vmem S2x2304x128 .f32) (harg7 : arg7.IsWhole) (X_arg3 : BufTy.Contents (Elt Ideal) arg3.view.ty) (X_arg5 : BufTy.Contents (Elt Ideal) arg5.view.ty)

set_option maxHeartbeats 4000000 in
theorem trip_list (t : Fin k0_t1_loop.trips) (L : List (View.Piece (Elt Ideal) S2x3072x128 .f32)) (b : Fin 2) (s : Fin 128) (g : Fin 24) (y : Fin 3072)
    (hy : y.val = 24 * s.val + g.val) (k : Fin 128) (i : Fin 256)
    (hi : arg3.view.read (Elt Ideal) X_arg3 (ix3 b s k) = BitVec.ofNat 32 i.val)
    (hk : 2 * (s.val / 2) + b.val < t.val + 1)
    (hL : 2 * (s.val / 2) + b.val < t.val → View.canon L (ix3 b y k) = gat (arg5.view.read (Elt Ideal) X_arg5) b s g i) :
    View.canon (tripL_k0_t1 (F := Ideal) Variants.none c none arg0 harg0 arg1 harg1 arg2 harg2 arg3 harg3 arg4 harg4 arg5 harg5 arg6 harg6 arg7 harg7 (0#32) X_arg3 X_arg5 t ++ L) (ix3 b y k) = gat (arg5.view.read (Elt Ideal) X_arg5) b s g i := by
  unfold tripL_k0_t1 trip_k0_t1
  dsimp only
  refine gs_cons t.val _ (k0_off4_eq t) _ _ L b s g y hy k _ hk ?_ hL
  intro ht d G hd hG
  have hb := b.isLt
  refine (pay206_at (View.readAt (Elt Ideal) arg3.view (Rect.unit (s := S2x128x128) (k0_off1 t) S1x2x128.size (k0_off1_inb t)).toLoadRect X_arg3)
    (View.readAt (Elt Ideal) arg5.view (Rect.unit (s := S7168x128) (k0_off2 t) S24x128.size (k0_off2_inb t)).toLoadRect X_arg5)
    (View.readAt (Elt Ideal) arg5.view (Rect.unit (s := S7168x128) (k0_off3 t) S24x128.size (k0_off3_inb t)).toLoadRect X_arg5) d g G hG k i ?_).trans ?_
  · rw [rd3 arg3 X_arg3 t d k b s (by omega) (by omega)]
    exact hi
  · unfold pick gat half
    by_cases h : i.val < 128
    · simp only [if_pos h]
      rw [rd5]
      simp only [ht]
    · simp only [if_neg h]
      rw [rd5']
      simp only [ht]

set_option maxHeartbeats 4000000 in
/-- What the loop leaves: after `n` trips, the rows of the atom pairs below `n`. -/
theorem gs_val (b : Fin 2) (s : Fin 128) (g : Fin 24) (y : Fin 3072)
    (hy : y.val = 24 * s.val + g.val) (k : Fin 128) (i : Fin 256)
    (hi : arg3.view.read (Elt Ideal) X_arg3 (ix3 b s k) = BitVec.ofNat 32 i.val) : ∀ n : Nat, n ≤ k0_t1_loop.trips → 2 * (s.val / 2) + b.val < n →
    View.canon (pb_k0_t1 (F := Ideal) Variants.none c none arg0 harg0 arg1 harg1 arg2 harg2 arg3 harg3 arg4 harg4 arg5 harg5 arg6 harg6 arg7 harg7 (0#32) X_arg3 X_arg5 n) (ix3 b y k) = gat (arg5.view.read (Elt Ideal) X_arg5) b s g i := by
  intro n
  induction n with
  | zero => exact fun _ h => absurd h (Nat.not_lt_zero _)
  | succ n ih =>
    intro hn hk
    have ih' := ih (Nat.le_of_succ_le hn)
    clear ih
    have h := pb_k0_t1_succ (F := Ideal) Variants.none c none arg0 harg0 arg1 harg1 arg2 harg2 arg3 harg3 arg4 harg4 arg5 harg5 arg6 harg6 arg7 harg7 (0#32) X_arg3 X_arg5 ⟨n, hn⟩
    have h' := trip_list c arg0 harg0 arg1 harg1 arg2 harg2 arg3 harg3 arg4 harg4 arg5 harg5 arg6 harg6 arg7 harg7 X_arg3 X_arg5 ⟨n, hn⟩ (pb_k0_t1 (F := Ideal) Variants.none c none arg0 harg0 arg1 harg1 arg2 harg2 arg3 harg3 arg4 harg4 arg5 harg5 arg6 harg6 arg7 harg7 (0#32) X_arg3 X_arg5 n) b s g y hy k i hi hk ih'
    exact (congrArg (fun L => View.canon L (ix3 b y k)) h).trans h'

end Cert.ScalesIdeal.Value
end
-- ==== Proof.ScCand.lean ====
module

public import proofs.«01_k».proof.Proof.Gen.ScalesIdeal.Value
public import proofs.«01_k».proof.Proof.PrepD
public import proofs.«01_k».proof.Proof.Spec
public import Idealize.ShloMosaic.Lib.Pipeline.ValueKit
public import Idealize.ShloMosaic.Lib.Pointwise
public import Idealize.ShloMosaic.Lib.Tactic.RunNames

/-! The scales kernel's table of candidates: for atom and list position, the lane that holds the pair's scales. -/

@[expose] public section

set_option maxRecDepth 16384

noncomputable section
namespace Cert.ScalesIdeal.Value
open Idealize.ShloMosaic Idealize.ShloMosaic.TcCoe Idealize.SL.Sem
open Cert.ScalesIdeal Cert.ScalesIdeal.Gen
open Cert.Spec (off)
open Cert.KernelIdeal.Value (modw divw l_mod l_div)

/-- The lane of the candidate of neighbour `q` of atom `s`. -/
def cidx (q s : Fin 128) : Nat :=
  if off q s < 32 then (2 * (s.val % 2) + q.val % 2) * 32 + off q s else 128 + (2 * (q.val % 2) + s.val % 2) * 32 + (63 - off q s)

/-- The same, as the kernel's words compute it. -/
def cw (d e o : BitVec 32) : BitVec 32 :=
  Scalar.select (IntOp.cmpi .slt o 32#32) (IntOp.addi (IntOp.muli (IntOp.addi (IntOp.muli 2#32 d) e) 32#32) o)
    (IntOp.addi (IntOp.addi 128#32 (IntOp.muli (IntOp.addi (IntOp.muli 2#32 e) d) 32#32)) (IntOp.subi 63#32 o))

theorem cw_eq (q s : Fin 128) : cw (modw (BitVec.ofNat 32 s.val)) (modw (BitVec.ofNat 32 q.val))
    (IntOp.andi (IntOp.subi (divw (BitVec.ofNat 32 q.val)) (divw (BitVec.ofNat 32 s.val))) 63#32) = BitVec.ofNat 32 (cidx q s) := by
  have h2 : ∀ a b : Fin 64, IntOp.andi (IntOp.subi (BitVec.ofNat 32 a.val) (BitVec.ofNat 32 b.val)) 63#32 = BitVec.ofNat 32 ((a.val + 64 - b.val) % 64) := by
    decide +kernel
  have h3 : ∀ (d e : Fin 2) (o : Fin 64), cw (BitVec.ofNat 32 d.val) (BitVec.ofNat 32 e.val) (BitVec.ofNat 32 o.val)
      = BitVec.ofNat 32 (if o.val < 32 then (2 * d.val + e.val) * 32 + o.val else 128 + (2 * e.val + d.val) * 32 + (63 - o.val)) := by
    decide +kernel
  have ho : off q s < 64 := by unfold off; omega
  have hd : ∀ n : Fin 128, n.val / 2 < 64 := fun n => by omega
  have hm : ∀ n : Fin 128, n.val % 2 < 2 := fun n => by omega
  have e1 := h2 ⟨q.val / 2, hd q⟩ ⟨s.val / 2, hd s⟩
  have e2 := h3 ⟨s.val % 2, hm s⟩ ⟨q.val % 2, hm q⟩ ⟨off q s, ho⟩
  have m1 : modw (BitVec.ofNat 32 s.val) = BitVec.ofNat 32 (s.val % 2) := l_mod _ s.isLt
  have m2 : modw (BitVec.ofNat 32 q.val) = BitVec.ofNat 32 (q.val % 2) := l_mod _ q.isLt
  have m3 : divw (BitVec.ofNat 32 s.val) = BitVec.ofNat 32 (s.val / 2) := l_div _ s.isLt
  have m4 : divw (BitVec.ofNat 32 q.val) = BitVec.ofNat 32 (q.val / 2) := l_div _ q.isLt
  rw [m1, m2, m3, m4]
  exact (congrArg (cw _ _) e1).trans e2

theorem ciota (k : Fin 96) (s : Fin 128) : iota .tc S96x128 32 [1] iota_S96x128_d1_w32 (ix2 k s) = BitVec.ofNat 32 s.val := by
  pointwise

variable (c : Dev nD) (arg0 : Memref sig .tc .vmem S2x96x128 .i32) (harg0 : arg0.IsWhole) (x0 : Vec Ideal S2x96x128 .i32)

theorem cnb0 (k : Fin 96) (s : Fin 128) : kernelRun0_A.sl.v3 (F := Ideal) c arg0 harg0 x0 (ix2 k s) = x0 (ix3 0 k s) := by
  unfold kernelRun0_A.sl.v3
  pointwise [View.readAt_eq_ld, harg0.read_unread]

set_option maxHeartbeats 4000000 in
theorem cm0 (k : Fin 96) (s : Fin 128) : kernelRun0_A.sl.v35 (F := Ideal) c arg0 harg0 x0 (ix2 k s)
    = modw (kernelRun0_A.sl.v3 (F := Ideal) c arg0 harg0 x0 (ix2 k s)) := rfl

set_option maxHeartbeats 4000000 in
theorem ca0 (k : Fin 96) (s : Fin 128) : kernelRun0_A.sl.v19 (ix2 k s) = modw (BitVec.ofNat 32 s.val) :=
  (show _ = modw (iota .tc S96x128 32 [1] iota_S96x128_d1_w32 (ix2 k s)) from rfl).trans (congrArg modw (ciota k s))

set_option maxHeartbeats 4000000 in
theorem cd0 (k : Fin 96) (s : Fin 128) : kernelRun0_A.sl.v59 (F := Ideal) c arg0 harg0 x0 (ix2 k s)
    = divw (kernelRun0_A.sl.v3 (F := Ideal) c arg0 harg0 x0 (ix2 k s)) := rfl

set_option maxHeartbeats 4000000 in
theorem ce0 (k : Fin 96) (s : Fin 128) : kernelRun0_A.sl.v83 (ix2 k s) = divw (BitVec.ofNat 32 s.val) :=
  (show _ = divw (iota .tc S96x128 32 [1] iota_S96x128_d1_w32 (ix2 k s)) from rfl).trans (congrArg divw (ciota k s))

theorem co0 (k : Fin 96) (s : Fin 128) : kernelRun0_A.sl.v86 (F := Ideal) c arg0 harg0 x0 (ix2 k s)
    = IntOp.andi (IntOp.subi (kernelRun0_A.sl.v59 (F := Ideal) c arg0 harg0 x0 (ix2 k s)) (kernelRun0_A.sl.v83 (ix2 k s))) 63#32 := rfl

theorem cs0 (k : Fin 96) (s : Fin 128) : kernelRun0_A.sl.v105 (F := Ideal) c arg0 harg0 x0 (ix2 k s)
    = cw (kernelRun0_A.sl.v19 (ix2 k s)) (kernelRun0_A.sl.v35 (F := Ideal) c arg0 harg0 x0 (ix2 k s)) (kernelRun0_A.sl.v86 (F := Ideal) c arg0 harg0 x0 (ix2 k s)) := rfl

theorem cc0 (s k : Fin 128) (hk : k.val < 96) : kernelRun0_A.sl.v110 (F := Ideal) c arg0 harg0 x0 (ix3 0 s k)
    = kernelRun0_A.sl.v105 (F := Ideal) c arg0 harg0 x0 (ix2 ⟨k.val, hk⟩ s) := by
  unfold kernelRun0_A.sl.v110 kernelRun0_A.sl.v107 kernelRun0_A.sl.v106
  generalize kernelRun0_A.sl.v105 (F := Ideal) c arg0 harg0 x0 = Y
  pointwise
  exact dif_pos hk

theorem cf0 (q s k : Fin 128) (hk : k.val < 96) (hq : x0 (ix3 0 ⟨k.val, hk⟩ s) = BitVec.ofNat 32 q.val) :
    kernelRun0_A.sl.v110 (F := Ideal) c arg0 harg0 x0 (ix3 0 s k) = BitVec.ofNat 32 (cidx q s) := by
  rw [cc0 c arg0 harg0 x0 s k hk, cs0, ca0 ⟨k.val, hk⟩ s, cm0, co0, cd0, ce0 ⟨k.val, hk⟩ s, cnb0, hq]
  exact cw_eq q s

theorem cnb1 (k : Fin 96) (s : Fin 128) : kernelRun0_A.sl.v112 (F := Ideal) c arg0 harg0 x0 (ix2 k s) = x0 (ix3 1 k s) := by
  unfold kernelRun0_A.sl.v112
  pointwise [View.readAt_eq_ld, harg0.read_unread]

set_option maxHeartbeats 4000000 in
theorem cm1 (k : Fin 96) (s : Fin 128) : kernelRun0_A.sl.v144 (F := Ideal) c arg0 harg0 x0 (ix2 k s)
    = modw (kernelRun0_A.sl.v112 (F := Ideal) c arg0 harg0 x0 (ix2 k s)) := rfl

set_option maxHeartbeats 4000000 in
theorem cd1 (k : Fin 96) (s : Fin 128) : kernelRun0_A.sl.v168 (F := Ideal) c arg0 harg0 x0 (ix2 k s)
    = divw (kernelRun0_A.sl.v112 (F := Ideal) c arg0 harg0 x0 (ix2 k s)) := rfl

theorem co1 (k : Fin 96) (s : Fin 128) : kernelRun0_A.sl.v195 (F := Ideal) c arg0 harg0 x0 (ix2 k s)
    = IntOp.andi (IntOp.subi (kernelRun0_A.sl.v168 (F := Ideal) c arg0 harg0 x0 (ix2 k s)) (kernelRun0_A.sl.v83 (ix2 k s))) 63#32 := rfl

theorem cs1 (k : Fin 96) (s : Fin 128) : kernelRun0_A.sl.v214 (F := Ideal) c arg0 harg0 x0 (ix2 k s)
    = cw (kernelRun0_A.sl.v19 (ix2 k s)) (kernelRun0_A.sl.v144 (F := Ideal) c arg0 harg0 x0 (ix2 k s)) (kernelRun0_A.sl.v195 (F := Ideal) c arg0 harg0 x0 (ix2 k s)) := rfl

theorem cc1 (s k : Fin 128) (hk : k.val < 96) : kernelRun0_A.sl.v219 (F := Ideal) c arg0 harg0 x0 (ix3 0 s k)
    = kernelRun0_A.sl.v214 (F := Ideal) c arg0 harg0 x0 (ix2 ⟨k.val, hk⟩ s) := by
  unfold kernelRun0_A.sl.v219 kernelRun0_A.sl.v216 kernelRun0_A.sl.v215
  generalize kernelRun0_A.sl.v214 (F := Ideal) c arg0 harg0 x0 = Y
  pointwise
  exact dif_pos hk

theorem cf1 (q s k : Fin 128) (hk : k.val < 96) (hq : x0 (ix3 1 ⟨k.val, hk⟩ s) = BitVec.ofNat 32 q.val) :
    kernelRun0_A.sl.v219 (F := Ideal) c arg0 harg0 x0 (ix3 0 s k) = BitVec.ofNat 32 (cidx q s) := by
  rw [cc1 c arg0 harg0 x0 s k hk, cs1, ca0 ⟨k.val, hk⟩ s, cm1, co1, cd1, ce0 ⟨k.val, hk⟩ s, cnb1, hq]
  exact cw_eq q s

set_option maxHeartbeats 4000000 in
/-- The table of candidates. -/
theorem cand_val (b : Fin 2) (q s k : Fin 128) (hk : k.val < 96) (hq : x0 (ix3 b ⟨k.val, hk⟩ s) = BitVec.ofNat 32 q.val) :
    View.canon (kernelRun0_A.sl.HS0_2 (F := Ideal) c arg0 harg0 x0) (ix3 b s k) = BitVec.ofNat 32 (cidx q s) := by
  unfold kernelRun0_A.sl.HS0_2
  canon_tiles x h
  case piece0 =>
    change b.val = _ at h0
    change s.val = _ at h1
    change k.val = _ at h2
    have eb : b = 1 := Fin.ext (show b.val = 1 by omega)
    have ex : x = ix3 0 s k := by
      funext a
      match a with
      | ⟨0, _⟩ => exact Fin.ext (show (x 0).val = 0 by omega)
      | ⟨1, _⟩ => exact Fin.ext (show (x 1).val = s.val by omega)
      | ⟨2, _⟩ => exact Fin.ext (show (x 2).val = k.val by omega)
    rw [ex]
    rw [eb] at hq
    exact cf1 c arg0 harg0 x0 q s k hk hq
  case piece1 =>
    change b.val = _ at h0
    change s.val = _ at h1
    change k.val = _ at h2
    have eb : b = 0 := Fin.ext (show b.val = 0 by omega)
    have ex : x = ix3 0 s k := by
      funext a
      match a with
      | ⟨0, _⟩ => exact Fin.ext (show (x 0).val = 0 by omega)
      | ⟨1, _⟩ => exact Fin.ext (show (x 1).val = s.val by omega)
      | ⟨2, _⟩ => exact Fin.ext (show (x 2).val = k.val by omega)
    rw [ex]
    rw [eb] at hq
    exact cf0 c arg0 harg0 x0 q s k hk hq

end Cert.ScalesIdeal.Value
end
-- ==== Proof.ScEx.lean ====
module

public import proofs.«01_k».proof.Proof.Gen.ScalesIdeal.Value
public import Idealize.ShloMosaic.Lib.Pipeline.ValueKit
public import Idealize.ShloMosaic.Lib.Pointwise
public import Idealize.ShloMosaic.Lib.Tactic.RunNames

/-! The kernel's copy of the scales: one tile of thirty-three rows for every group and pair kind. -/

@[expose] public section

set_option maxRecDepth 16384

noncomputable section
namespace Cert.ScalesIdeal.Value
open Idealize.ShloMosaic Idealize.ShloMosaic.TcCoe Idealize.SL.Sem
open Cert.ScalesIdeal Cert.ScalesIdeal.Gen

/-- One tile of rows in front of a list: where it lands it leaves the group's scales, elsewhere what was there. -/
theorem ex_cons (x1 : Vec Ideal S33x24x512 .f32) (R n : Nat) (hR : R = 164 * (n / 4) + 40 * (n % 4))
    (inb : ∀ a, (![R, 0] : Fin 2 → Nat) a + S33x128.size a ≤ S3936x128.size a)
    (w : S33x128.Idx → Elt Ideal .f32)
    (L : List (View.Piece (Elt Ideal) S3936x128 .f32)) (g : Fin 24) (p : Fin 4) (o : Fin 33) (l : Fin 128)
    (hk : 4 * g.val + p.val < n + 1)
    (hw : ∀ (g' : Fin 24) (p' : Fin 4) (x : S33x128.Idx), g'.val = n / 4 → p'.val = n % 4 →
      w x = x1 (ix3 (x 0) g' ⟨128 * p'.val + (x 1).val, by have h : (x 1).val < 128 := (x 1).isLt; omega⟩))
    (hL : 4 * g.val + p.val < n → View.canon L (ix2 ⟨164 * g.val + 40 * p.val + o.val, by omega⟩ l) = x1 (ix3 o g ⟨128 * p.val + l.val, by omega⟩)) :
    View.canon ((⟨Rect.unit ![R, 0] S33x128.size inb, w⟩ : View.Piece (Elt Ideal) S3936x128 .f32) :: L) (ix2 ⟨164 * g.val + 40 * p.val + o.val, by omega⟩ l) = x1 (ix3 o g ⟨128 * p.val + l.val, by omega⟩) := by
  by_cases h : 4 * g.val + p.val < n
  · rw [View.canon_cons_of_not_mem _ _ ?_]
    · exact hL h
    · intro hm
      obtain ⟨x, hx⟩ := LoadRect.exists_idx_of_mem _ hm
      have e0 : R + 1 * (x 0).val = 164 * g.val + 40 * p.val + o.val := congrArg (fun y : S3936x128.Idx => (y 0).val) hx
      have z0 : (x 0).val < 33 := (x 0).isLt
      omega
  · have hx : ix2 (⟨164 * g.val + 40 * p.val + o.val, by omega⟩ : Fin 3936) l = (Rect.unit ![R, 0] S33x128.size inb : Rect S3936x128).emb (ix2 o l) := by
      funext a
      match a with
      | 0 => exact Fin.ext (show 164 * g.val + 40 * p.val + o.val = R + 1 * o.val by omega)
      | 1 => exact Fin.ext (show l.val = 0 + 1 * l.val by omega)
    refine (congrArg _ hx).trans ?_
    rw [View.canon_cons_emb]
    exact hw g p _ (by omega) (by omega)

set_option maxHeartbeats 16000000 in
theorem ex_val (c : Dev nD) (arg1 : Memref sig .tc .vmem S33x24x512 .f32) (harg1 : arg1.IsWhole) (x1 : Vec Ideal S33x24x512 .f32)
    (g : Fin 24) (p : Fin 4) (o : Fin 33) (l : Fin 128) :
    View.canon (kernelRun0_A.sl.HS1_96 (F := Ideal) c arg1 harg1 x1) (ix2 ⟨164 * g.val + 40 * p.val + o.val, by omega⟩ l)
      = x1 (ix3 o g ⟨128 * p.val + l.val, by omega⟩) := by
  unfold kernelRun0_A.sl.HS1_96
  have k96 : 4 * g.val + p.val < 96 := by omega
  refine ex_cons x1 3892 95 rfl _ _ _ g p o l k96 ?_ ?_
  · intro g' p' x hg hp
    obtain rfl : g' = 23 := Fin.ext hg
    obtain rfl : p' = 3 := Fin.ext hp
    sl_unfold_run_values
    open_payloads
    pointwise [View.readAt_eq_ld, harg1.read_unread]
    all_goals rfl
  intro k95
  refine ex_cons x1 3852 94 rfl _ _ _ g p o l k95 ?_ ?_
  · intro g' p' x hg hp
    obtain rfl : g' = 23 := Fin.ext hg
    obtain rfl : p' = 2 := Fin.ext hp
    sl_unfold_run_values
    open_payloads
    pointwise [View.readAt_eq_ld, harg1.read_unread]
    all_goals rfl
  intro k94
  refine ex_cons x1 3812 93 rfl _ _ _ g p o l k94 ?_ ?_
  · intro g' p' x hg hp
    obtain rfl : g' = 23 := Fin.ext hg
    obtain rfl : p' = 1 := Fin.ext hp
    sl_unfold_run_values
    open_payloads
    pointwise [View.readAt_eq_ld, harg1.read_unread]
    all_goals rfl
  intro k93
  refine ex_cons x1 3772 92 rfl _ _ _ g p o l k93 ?_ ?_
  · intro g' p' x hg hp
    obtain rfl : g' = 23 := Fin.ext hg
    obtain rfl : p' = 0 := Fin.ext hp
    sl_unfold_run_values
    open_payloads
    pointwise [View.readAt_eq_ld, harg1.read_unread]
    all_goals rfl
  intro k92
  refine ex_cons x1 3728 91 rfl _ _ _ g p o l k92 ?_ ?_
  · intro g' p' x hg hp
    obtain rfl : g' = 22 := Fin.ext hg
    obtain rfl : p' = 3 := Fin.ext hp
    sl_unfold_run_values
    open_payloads
    pointwise [View.readAt_eq_ld, harg1.read_unread]
    all_goals rfl
  intro k91
  refine ex_cons x1 3688 90 rfl _ _ _ g p o l k91 ?_ ?_
  · intro g' p' x hg hp
    obtain rfl : g' = 22 := Fin.ext hg
    obtain rfl : p' = 2 := Fin.ext hp
    sl_unfold_run_values
    open_payloads
    pointwise [View.readAt_eq_ld, harg1.read_unread]
    all_goals rfl
  intro k90
  refine ex_cons x1 3648 89 rfl _ _ _ g p o l k90 ?_ ?_
  · intro g' p' x hg hp
    obtain rfl : g' = 22 := Fin.ext hg
    obtain rfl : p' = 1 := Fin.ext hp
    sl_unfold_run_values
    open_payloads
    pointwise [View.readAt_eq_ld, harg1.read_unread]
    all_goals rfl
  intro k89
  refine ex_cons x1 3608 88 rfl _ _ _ g p o l k89 ?_ ?_
  · intro g' p' x hg hp
    obtain rfl : g' = 22 := Fin.ext hg
    obtain rfl : p' = 0 := Fin.ext hp
    sl_unfold_run_values
    open_payloads
    pointwise [View.readAt_eq_ld, harg1.read_unread]
    all_goals rfl
  intro k88
  refine ex_cons x1 3564 87 rfl _ _ _ g p o l k88 ?_ ?_
  · intro g' p' x hg hp
    obtain rfl : g' = 21 := Fin.ext hg
    obtain rfl : p' = 3 := Fin.ext hp
    sl_unfold_run_values
    open_payloads
    pointwise [View.readAt_eq_ld, harg1.read_unread]
    all_goals rfl
  intro k87
  refine ex_cons x1 3524 86 rfl _ _ _ g p o l k87 ?_ ?_
  · intro g' p' x hg hp
    obtain rfl : g' = 21 := Fin.ext hg
    obtain rfl : p' = 2 := Fin.ext hp
    sl_unfold_run_values
    open_payloads
    pointwise [View.readAt_eq_ld, harg1.read_unread]
    all_goals rfl
  intro k86
  refine ex_cons x1 3484 85 rfl _ _ _ g p o l k86 ?_ ?_
  · intro g' p' x hg hp
    obtain rfl : g' = 21 := Fin.ext hg
    obtain rfl : p' = 1 := Fin.ext hp
    sl_unfold_run_values
    open_payloads
    pointwise [View.readAt_eq_ld, harg1.read_unread]
    all_goals rfl
  intro k85
  refine ex_cons x1 3444 84 rfl _ _ _ g p o l k85 ?_ ?_
  · intro g' p' x hg hp
    obtain rfl : g' = 21 := Fin.ext hg
    obtain rfl : p' = 0 := Fin.ext hp
    sl_unfold_run_values
    open_payloads
    pointwise [View.readAt_eq_ld, harg1.read_unread]
    all_goals rfl
  intro k84
  refine ex_cons x1 3400 83 rfl _ _ _ g p o l k84 ?_ ?_
  · intro g' p' x hg hp
    obtain rfl : g' = 20 := Fin.ext hg
    obtain rfl : p' = 3 := Fin.ext hp
    sl_unfold_run_values
    open_payloads
    pointwise [View.readAt_eq_ld, harg1.read_unread]
    all_goals rfl
  intro k83
  refine ex_cons x1 3360 82 rfl _ _ _ g p o l k83 ?_ ?_
  · intro g' p' x hg hp
    obtain rfl : g' = 20 := Fin.ext hg
    obtain rfl : p' = 2 := Fin.ext hp
    sl_unfold_run_values
    open_payloads
    pointwise [View.readAt_eq_ld, harg1.read_unread]
    all_goals rfl
  intro k82
  refine ex_cons x1 3320 81 rfl _ _ _ g p o l k82 ?_ ?_
  · intro g' p' x hg hp
    obtain rfl : g' = 20 := Fin.ext hg
    obtain rfl : p' = 1 := Fin.ext hp
    sl_unfold_run_values
    open_payloads
    pointwise [View.readAt_eq_ld, harg1.read_unread]
    all_goals rfl
  intro k81
  refine ex_cons x1 3280 80 rfl _ _ _ g p o l k81 ?_ ?_
  · intro g' p' x hg hp
    obtain rfl : g' = 20 := Fin.ext hg
    obtain rfl : p' = 0 := Fin.ext hp
    sl_unfold_run_values
    open_payloads
    pointwise [View.readAt_eq_ld, harg1.read_unread]
    all_goals rfl
  intro k80
  refine ex_cons x1 3236 79 rfl _ _ _ g p o l k80 ?_ ?_
  · intro g' p' x hg hp
    obtain rfl : g' = 19 := Fin.ext hg
    obtain rfl : p' = 3 := Fin.ext hp
    sl_unfold_run_values
    open_payloads
    pointwise [View.readAt_eq_ld, harg1.read_unread]
    all_goals rfl
  intro k79
  refine ex_cons x1 3196 78 rfl _ _ _ g p o l k79 ?_ ?_
  · intro g' p' x hg hp
    obtain rfl : g' = 19 := Fin.ext hg
    obtain rfl : p' = 2 := Fin.ext hp
    sl_unfold_run_values
    open_payloads
    pointwise [View.readAt_eq_ld, harg1.read_unread]
    all_goals rfl
  intro k78
  refine ex_cons x1 3156 77 rfl _ _ _ g p o l k78 ?_ ?_
  · intro g' p' x hg hp
    obtain rfl : g' = 19 := Fin.ext hg
    obtain rfl : p' = 1 := Fin.ext hp
    sl_unfold_run_values
    open_payloads
    pointwise [View.readAt_eq_ld, harg1.read_unread]
    all_goals rfl
  intro k77
  refine ex_cons x1 3116 76 rfl _ _ _ g p o l k77 ?_ ?_
  · intro g' p' x hg hp
    obtain rfl : g' = 19 := Fin.ext hg
    obtain rfl : p' = 0 := Fin.ext hp
    sl_unfold_run_values
    open_payloads
    pointwise [View.readAt_eq_ld, harg1.read_unread]
    all_goals rfl
  intro k76
  refine ex_cons x1 3072 75 rfl _ _ _ g p o l k76 ?_ ?_
  · intro g' p' x hg hp
    obtain rfl : g' = 18 := Fin.ext hg
    obtain rfl : p' = 3 := Fin.ext hp
    sl_unfold_run_values
    open_payloads
    pointwise [View.readAt_eq_ld, harg1.read_unread]
    all_goals rfl
  intro k75
  refine ex_cons x1 3032 74 rfl _ _ _ g p o l k75 ?_ ?_
  · intro g' p' x hg hp
    obtain rfl : g' = 18 := Fin.ext hg
    obtain rfl : p' = 2 := Fin.ext hp
    sl_unfold_run_values
    open_payloads
    pointwise [View.readAt_eq_ld, harg1.read_unread]
    all_goals rfl
  intro k74
  refine ex_cons x1 2992 73 rfl _ _ _ g p o l k74 ?_ ?_
  · intro g' p' x hg hp
    obtain rfl : g' = 18 := Fin.ext hg
    obtain rfl : p' = 1 := Fin.ext hp
    sl_unfold_run_values
    open_payloads
    pointwise [View.readAt_eq_ld, harg1.read_unread]
    all_goals rfl
  intro k73
  refine ex_cons x1 2952 72 rfl _ _ _ g p o l k73 ?_ ?_
  · intro g' p' x hg hp
    obtain rfl : g' = 18 := Fin.ext hg
    obtain rfl : p' = 0 := Fin.ext hp
    sl_unfold_run_values
    open_payloads
    pointwise [View.readAt_eq_ld, harg1.read_unread]
    all_goals rfl
  intro k72
  refine ex_cons x1 2908 71 rfl _ _ _ g p o l k72 ?_ ?_
  · intro g' p' x hg hp
    obtain rfl : g' = 17 := Fin.ext hg
    obtain rfl : p' = 3 := Fin.ext hp
    sl_unfold_run_values
    open_payloads
    pointwise [View.readAt_eq_ld, harg1.read_unread]
    all_goals rfl
  intro k71
  refine ex_cons x1 2868 70 rfl _ _ _ g p o l k71 ?_ ?_
  · intro g' p' x hg hp
    obtain rfl : g' = 17 := Fin.ext hg
    obtain rfl : p' = 2 := Fin.ext hp
    sl_unfold_run_values
    open_payloads
    pointwise [View.readAt_eq_ld, harg1.read_unread]
    all_goals rfl
  intro k70
  refine ex_cons x1 2828 69 rfl _ _ _ g p o l k70 ?_ ?_
  · intro g' p' x hg hp
    obtain rfl : g' = 17 := Fin.ext hg
    obtain rfl : p' = 1 := Fin.ext hp
    sl_unfold_run_values
    open_payloads
    pointwise [View.readAt_eq_ld, harg1.read_unread]
    all_goals rfl
  intro k69
  refine ex_cons x1 2788 68 rfl _ _ _ g p o l k69 ?_ ?_
  · intro g' p' x hg hp
    obtain rfl : g' = 17 := Fin.ext hg
    obtain rfl : p' = 0 := Fin.ext hp
    sl_unfold_run_values
    open_payloads
    pointwise [View.readAt_eq_ld, harg1.read_unread]
    all_goals rfl
  intro k68
  refine ex_cons x1 2744 67 rfl _ _ _ g p o l k68 ?_ ?_
  · intro g' p' x hg hp
    obtain rfl : g' = 16 := Fin.ext hg
    obtain rfl : p' = 3 := Fin.ext hp
    sl_unfold_run_values
    open_payloads
    pointwise [View.readAt_eq_ld, harg1.read_unread]
    all_goals rfl
  intro k67
  refine ex_cons x1 2704 66 rfl _ _ _ g p o l k67 ?_ ?_
  · intro g' p' x hg hp
    obtain rfl : g' = 16 := Fin.ext hg
    obtain rfl : p' = 2 := Fin.ext hp
    sl_unfold_run_values
    open_payloads
    pointwise [View.readAt_eq_ld, harg1.read_unread]
    all_goals rfl
  intro k66
  refine ex_cons x1 2664 65 rfl _ _ _ g p o l k66 ?_ ?_
  · intro g' p' x hg hp
    obtain rfl : g' = 16 := Fin.ext hg
    obtain rfl : p' = 1 := Fin.ext hp
    sl_unfold_run_values
    open_payloads
    pointwise [View.readAt_eq_ld, harg1.read_unread]
    all_goals rfl
  intro k65
  refine ex_cons x1 2624 64 rfl _ _ _ g p o l k65 ?_ ?_
  · intro g' p' x hg hp
    obtain rfl : g' = 16 := Fin.ext hg
    obtain rfl : p' = 0 := Fin.ext hp
    sl_unfold_run_values
    open_payloads
    pointwise [View.readAt_eq_ld, harg1.read_unread]
    all_goals rfl
  intro k64
  refine ex_cons x1 2580 63 rfl _ _ _ g p o l k64 ?_ ?_
  · intro g' p' x hg hp
    obtain rfl : g' = 15 := Fin.ext hg
    obtain rfl : p' = 3 := Fin.ext hp
    sl_unfold_run_values
    open_payloads
    pointwise [View.readAt_eq_ld, harg1.read_unread]
    all_goals rfl
  intro k63
  refine ex_cons x1 2540 62 rfl _ _ _ g p o l k63 ?_ ?_
  · intro g' p' x hg hp
    obtain rfl : g' = 15 := Fin.ext hg
    obtain rfl : p' = 2 := Fin.ext hp
    sl_unfold_run_values
    open_payloads
    pointwise [View.readAt_eq_ld, harg1.read_unread]
    all_goals rfl
  intro k62
  refine ex_cons x1 2500 61 rfl _ _ _ g p o l k62 ?_ ?_
  · intro g' p' x hg hp
    obtain rfl : g' = 15 := Fin.ext hg
    obtain rfl : p' = 1 := Fin.ext hp
    sl_unfold_run_values
    open_payloads
    pointwise [View.readAt_eq_ld, harg1.read_unread]
    all_goals rfl
  intro k61
  refine ex_cons x1 2460 60 rfl _ _ _ g p o l k61 ?_ ?_
  · intro g' p' x hg hp
    obtain rfl : g' = 15 := Fin.ext hg
    obtain rfl : p' = 0 := Fin.ext hp
    sl_unfold_run_values
    open_payloads
    pointwise [View.readAt_eq_ld, harg1.read_unread]
    all_goals rfl
  intro k60
  refine ex_cons x1 2416 59 rfl _ _ _ g p o l k60 ?_ ?_
  · intro g' p' x hg hp
    obtain rfl : g' = 14 := Fin.ext hg
    obtain rfl : p' = 3 := Fin.ext hp
    sl_unfold_run_values
    open_payloads
    pointwise [View.readAt_eq_ld, harg1.read_unread]
    all_goals rfl
  intro k59
  refine ex_cons x1 2376 58 rfl _ _ _ g p o l k59 ?_ ?_
  · intro g' p' x hg hp
    obtain rfl : g' = 14 := Fin.ext hg
    obtain rfl : p' = 2 := Fin.ext hp
    sl_unfold_run_values
    open_payloads
    pointwise [View.readAt_eq_ld, harg1.read_unread]
    all_goals rfl
  intro k58
  refine ex_cons x1 2336 57 rfl _ _ _ g p o l k58 ?_ ?_
  · intro g' p' x hg hp
    obtain rfl : g' = 14 := Fin.ext hg
    obtain rfl : p' = 1 := Fin.ext hp
    sl_unfold_run_values
    open_payloads
    pointwise [View.readAt_eq_ld, harg1.read_unread]
    all_goals rfl
  intro k57
  refine ex_cons x1 2296 56 rfl _ _ _ g p o l k57 ?_ ?_
  · intro g' p' x hg hp
    obtain rfl : g' = 14 := Fin.ext hg
    obtain rfl : p' = 0 := Fin.ext hp
    sl_unfold_run_values
    open_payloads
    pointwise [View.readAt_eq_ld, harg1.read_unread]
    all_goals rfl
  intro k56
  refine ex_cons x1 2252 55 rfl _ _ _ g p o l k56 ?_ ?_
  · intro g' p' x hg hp
    obtain rfl : g' = 13 := Fin.ext hg
    obtain rfl : p' = 3 := Fin.ext hp
    sl_unfold_run_values
    open_payloads
    pointwise [View.readAt_eq_ld, harg1.read_unread]
    all_goals rfl
  intro k55
  refine ex_cons x1 2212 54 rfl _ _ _ g p o l k55 ?_ ?_
  · intro g' p' x hg hp
    obtain rfl : g' = 13 := Fin.ext hg
    obtain rfl : p' = 2 := Fin.ext hp
    sl_unfold_run_values
    open_payloads
    pointwise [View.readAt_eq_ld, harg1.read_unread]
    all_goals rfl
  intro k54
  refine ex_cons x1 2172 53 rfl _ _ _ g p o l k54 ?_ ?_
  · intro g' p' x hg hp
    obtain rfl : g' = 13 := Fin.ext hg
    obtain rfl : p' = 1 := Fin.ext hp
    sl_unfold_run_values
    open_payloads
    pointwise [View.readAt_eq_ld, harg1.read_unread]
    all_goals rfl
  intro k53
  refine ex_cons x1 2132 52 rfl _ _ _ g p o l k53 ?_ ?_
  · intro g' p' x hg hp
    obtain rfl : g' = 13 := Fin.ext hg
    obtain rfl : p' = 0 := Fin.ext hp
    sl_unfold_run_values
    open_payloads
    pointwise [View.readAt_eq_ld, harg1.read_unread]
    all_goals rfl
  intro k52
  refine ex_cons x1 2088 51 rfl _ _ _ g p o l k52 ?_ ?_
  · intro g' p' x hg hp
    obtain rfl : g' = 12 := Fin.ext hg
    obtain rfl : p' = 3 := Fin.ext hp
    sl_unfold_run_values
    open_payloads
    pointwise [View.readAt_eq_ld, harg1.read_unread]
    all_goals rfl
  intro k51
  refine ex_cons x1 2048 50 rfl _ _ _ g p o l k51 ?_ ?_
  · intro g' p' x hg hp
    obtain rfl : g' = 12 := Fin.ext hg
    obtain rfl : p' = 2 := Fin.ext hp
    sl_unfold_run_values
    open_payloads
    pointwise [View.readAt_eq_ld, harg1.read_unread]
    all_goals rfl
  intro k50
  refine ex_cons x1 2008 49 rfl _ _ _ g p o l k50 ?_ ?_
  · intro g' p' x hg hp
    obtain rfl : g' = 12 := Fin.ext hg
    obtain rfl : p' = 1 := Fin.ext hp
    sl_unfold_run_values
    open_payloads
    pointwise [View.readAt_eq_ld, harg1.read_unread]
    all_goals rfl
  intro k49
  refine ex_cons x1 1968 48 rfl _ _ _ g p o l k49 ?_ ?_
  · intro g' p' x hg hp
    obtain rfl : g' = 12 := Fin.ext hg
    obtain rfl : p' = 0 := Fin.ext hp
    sl_unfold_run_values
    open_payloads
    pointwise [View.readAt_eq_ld, harg1.read_unread]
    all_goals rfl
  intro k48
  refine ex_cons x1 1924 47 rfl _ _ _ g p o l k48 ?_ ?_
  · intro g' p' x hg hp
    obtain rfl : g' = 11 := Fin.ext hg
    obtain rfl : p' = 3 := Fin.ext hp
    sl_unfold_run_values
    open_payloads
    pointwise [View.readAt_eq_ld, harg1.read_unread]
    all_goals rfl
  intro k47
  refine ex_cons x1 1884 46 rfl _ _ _ g p o l k47 ?_ ?_
  · intro g' p' x hg hp
    obtain rfl : g' = 11 := Fin.ext hg
    obtain rfl : p' = 2 := Fin.ext hp
    sl_unfold_run_values
    open_payloads
    pointwise [View.readAt_eq_ld, harg1.read_unread]
    all_goals rfl
  intro k46
  refine ex_cons x1 1844 45 rfl _ _ _ g p o l k46 ?_ ?_
  · intro g' p' x hg hp
    obtain rfl : g' = 11 := Fin.ext hg
    obtain rfl : p' = 1 := Fin.ext hp
    sl_unfold_run_values
    open_payloads
    pointwise [View.readAt_eq_ld, harg1.read_unread]
    all_goals rfl
  intro k45
  refine ex_cons x1 1804 44 rfl _ _ _ g p o l k45 ?_ ?_
  · intro g' p' x hg hp
    obtain rfl : g' = 11 := Fin.ext hg
    obtain rfl : p' = 0 := Fin.ext hp
    sl_unfold_run_values
    open_payloads
    pointwise [View.readAt_eq_ld, harg1.read_unread]
    all_goals rfl
  intro k44
  refine ex_cons x1 1760 43 rfl _ _ _ g p o l k44 ?_ ?_
  · intro g' p' x hg hp
    obtain rfl : g' = 10 := Fin.ext hg
    obtain rfl : p' = 3 := Fin.ext hp
    sl_unfold_run_values
    open_payloads
    pointwise [View.readAt_eq_ld, harg1.read_unread]
    all_goals rfl
  intro k43
  refine ex_cons x1 1720 42 rfl _ _ _ g p o l k43 ?_ ?_
  · intro g' p' x hg hp
    obtain rfl : g' = 10 := Fin.ext hg
    obtain rfl : p' = 2 := Fin.ext hp
    sl_unfold_run_values
    open_payloads
    pointwise [View.readAt_eq_ld, harg1.read_unread]
    all_goals rfl
  intro k42
  refine ex_cons x1 1680 41 rfl _ _ _ g p o l k42 ?_ ?_
  · intro g' p' x hg hp
    obtain rfl : g' = 10 := Fin.ext hg
    obtain rfl : p' = 1 := Fin.ext hp
    sl_unfold_run_values
    open_payloads
    pointwise [View.readAt_eq_ld, harg1.read_unread]
    all_goals rfl
  intro k41
  refine ex_cons x1 1640 40 rfl _ _ _ g p o l k41 ?_ ?_
  · intro g' p' x hg hp
    obtain rfl : g' = 10 := Fin.ext hg
    obtain rfl : p' = 0 := Fin.ext hp
    sl_unfold_run_values
    open_payloads
    pointwise [View.readAt_eq_ld, harg1.read_unread]
    all_goals rfl
  intro k40
  refine ex_cons x1 1596 39 rfl _ _ _ g p o l k40 ?_ ?_
  · intro g' p' x hg hp
    obtain rfl : g' = 9 := Fin.ext hg
    obtain rfl : p' = 3 := Fin.ext hp
    sl_unfold_run_values
    open_payloads
    pointwise [View.readAt_eq_ld, harg1.read_unread]
    all_goals rfl
  intro k39
  refine ex_cons x1 1556 38 rfl _ _ _ g p o l k39 ?_ ?_
  · intro g' p' x hg hp
    obtain rfl : g' = 9 := Fin.ext hg
    obtain rfl : p' = 2 := Fin.ext hp
    sl_unfold_run_values
    open_payloads
    pointwise [View.readAt_eq_ld, harg1.read_unread]
    all_goals rfl
  intro k38
  refine ex_cons x1 1516 37 rfl _ _ _ g p o l k38 ?_ ?_
  · intro g' p' x hg hp
    obtain rfl : g' = 9 := Fin.ext hg
    obtain rfl : p' = 1 := Fin.ext hp
    sl_unfold_run_values
    open_payloads
    pointwise [View.readAt_eq_ld, harg1.read_unread]
    all_goals rfl
  intro k37
  refine ex_cons x1 1476 36 rfl _ _ _ g p o l k37 ?_ ?_
  · intro g' p' x hg hp
    obtain rfl : g' = 9 := Fin.ext hg
    obtain rfl : p' = 0 := Fin.ext hp
    sl_unfold_run_values
    open_payloads
    pointwise [View.readAt_eq_ld, harg1.read_unread]
    all_goals rfl
  intro k36
  refine ex_cons x1 1432 35 rfl _ _ _ g p o l k36 ?_ ?_
  · intro g' p' x hg hp
    obtain rfl : g' = 8 := Fin.ext hg
    obtain rfl : p' = 3 := Fin.ext hp
    sl_unfold_run_values
    open_payloads
    pointwise [View.readAt_eq_ld, harg1.read_unread]
    all_goals rfl
  intro k35
  refine ex_cons x1 1392 34 rfl _ _ _ g p o l k35 ?_ ?_
  · intro g' p' x hg hp
    obtain rfl : g' = 8 := Fin.ext hg
    obtain rfl : p' = 2 := Fin.ext hp
    sl_unfold_run_values
    open_payloads
    pointwise [View.readAt_eq_ld, harg1.read_unread]
    all_goals rfl
  intro k34
  refine ex_cons x1 1352 33 rfl _ _ _ g p o l k34 ?_ ?_
  · intro g' p' x hg hp
    obtain rfl : g' = 8 := Fin.ext hg
    obtain rfl : p' = 1 := Fin.ext hp
    sl_unfold_run_values
    open_payloads
    pointwise [View.readAt_eq_ld, harg1.read_unread]
    all_goals rfl
  intro k33
  refine ex_cons x1 1312 32 rfl _ _ _ g p o l k33 ?_ ?_
  · intro g' p' x hg hp
    obtain rfl : g' = 8 := Fin.ext hg
    obtain rfl : p' = 0 := Fin.ext hp
    sl_unfold_run_values
    open_payloads
    pointwise [View.readAt_eq_ld, harg1.read_unread]
    all_goals rfl
  intro k32
  refine ex_cons x1 1268 31 rfl _ _ _ g p o l k32 ?_ ?_
  · intro g' p' x hg hp
    obtain rfl : g' = 7 := Fin.ext hg
    obtain rfl : p' = 3 := Fin.ext hp
    sl_unfold_run_values
    open_payloads
    pointwise [View.readAt_eq_ld, harg1.read_unread]
    all_goals rfl
  intro k31
  refine ex_cons x1 1228 30 rfl _ _ _ g p o l k31 ?_ ?_
  · intro g' p' x hg hp
    obtain rfl : g' = 7 := Fin.ext hg
    obtain rfl : p' = 2 := Fin.ext hp
    sl_unfold_run_values
    open_payloads
    pointwise [View.readAt_eq_ld, harg1.read_unread]
    all_goals rfl
  intro k30
  refine ex_cons x1 1188 29 rfl _ _ _ g p o l k30 ?_ ?_
  · intro g' p' x hg hp
    obtain rfl : g' = 7 := Fin.ext hg
    obtain rfl : p' = 1 := Fin.ext hp
    sl_unfold_run_values
    open_payloads
    pointwise [View.readAt_eq_ld, harg1.read_unread]
    all_goals rfl
  intro k29
  refine ex_cons x1 1148 28 rfl _ _ _ g p o l k29 ?_ ?_
  · intro g' p' x hg hp
    obtain rfl : g' = 7 := Fin.ext hg
    obtain rfl : p' = 0 := Fin.ext hp
    sl_unfold_run_values
    open_payloads
    pointwise [View.readAt_eq_ld, harg1.read_unread]
    all_goals rfl
  intro k28
  refine ex_cons x1 1104 27 rfl _ _ _ g p o l k28 ?_ ?_
  · intro g' p' x hg hp
    obtain rfl : g' = 6 := Fin.ext hg
    obtain rfl : p' = 3 := Fin.ext hp
    sl_unfold_run_values
    open_payloads
    pointwise [View.readAt_eq_ld, harg1.read_unread]
    all_goals rfl
  intro k27
  refine ex_cons x1 1064 26 rfl _ _ _ g p o l k27 ?_ ?_
  · intro g' p' x hg hp
    obtain rfl : g' = 6 := Fin.ext hg
    obtain rfl : p' = 2 := Fin.ext hp
    sl_unfold_run_values
    open_payloads
    pointwise [View.readAt_eq_ld, harg1.read_unread]
    all_goals rfl
  intro k26
  refine ex_cons x1 1024 25 rfl _ _ _ g p o l k26 ?_ ?_
  · intro g' p' x hg hp
    obtain rfl : g' = 6 := Fin.ext hg
    obtain rfl : p' = 1 := Fin.ext hp
    sl_unfold_run_values
    open_payloads
    pointwise [View.readAt_eq_ld, harg1.read_unread]
    all_goals rfl
  intro k25
  refine ex_cons x1 984 24 rfl _ _ _ g p o l k25 ?_ ?_
  · intro g' p' x hg hp
    obtain rfl : g' = 6 := Fin.ext hg
    obtain rfl : p' = 0 := Fin.ext hp
    sl_unfold_run_values
    open_payloads
    pointwise [View.readAt_eq_ld, harg1.read_unread]
    all_goals rfl
  intro k24
  refine ex_cons x1 940 23 rfl _ _ _ g p o l k24 ?_ ?_
  · intro g' p' x hg hp
    obtain rfl : g' = 5 := Fin.ext hg
    obtain rfl : p' = 3 := Fin.ext hp
    sl_unfold_run_values
    open_payloads
    pointwise [View.readAt_eq_ld, harg1.read_unread]
    all_goals rfl
  intro k23
  refine ex_cons x1 900 22 rfl _ _ _ g p o l k23 ?_ ?_
  · intro g' p' x hg hp
    obtain rfl : g' = 5 := Fin.ext hg
    obtain rfl : p' = 2 := Fin.ext hp
    sl_unfold_run_values
    open_payloads
    pointwise [View.readAt_eq_ld, harg1.read_unread]
    all_goals rfl
  intro k22
  refine ex_cons x1 860 21 rfl _ _ _ g p o l k22 ?_ ?_
  · intro g' p' x hg hp
    obtain rfl : g' = 5 := Fin.ext hg
    obtain rfl : p' = 1 := Fin.ext hp
    sl_unfold_run_values
    open_payloads
    pointwise [View.readAt_eq_ld, harg1.read_unread]
    all_goals rfl
  intro k21
  refine ex_cons x1 820 20 rfl _ _ _ g p o l k21 ?_ ?_
  · intro g' p' x hg hp
    obtain rfl : g' = 5 := Fin.ext hg
    obtain rfl : p' = 0 := Fin.ext hp
    sl_unfold_run_values
    open_payloads
    pointwise [View.readAt_eq_ld, harg1.read_unread]
    all_goals rfl
  intro k20
  refine ex_cons x1 776 19 rfl _ _ _ g p o l k20 ?_ ?_
  · intro g' p' x hg hp
    obtain rfl : g' = 4 := Fin.ext hg
    obtain rfl : p' = 3 := Fin.ext hp
    sl_unfold_run_values
    open_payloads
    pointwise [View.readAt_eq_ld, harg1.read_unread]
    all_goals rfl
  intro k19
  refine ex_cons x1 736 18 rfl _ _ _ g p o l k19 ?_ ?_
  · intro g' p' x hg hp
    obtain rfl : g' = 4 := Fin.ext hg
    obtain rfl : p' = 2 := Fin.ext hp
    sl_unfold_run_values
    open_payloads
    pointwise [View.readAt_eq_ld, harg1.read_unread]
    all_goals rfl
  intro k18
  refine ex_cons x1 696 17 rfl _ _ _ g p o l k18 ?_ ?_
  · intro g' p' x hg hp
    obtain rfl : g' = 4 := Fin.ext hg
    obtain rfl : p' = 1 := Fin.ext hp
    sl_unfold_run_values
    open_payloads
    pointwise [View.readAt_eq_ld, harg1.read_unread]
    all_goals rfl
  intro k17
  refine ex_cons x1 656 16 rfl _ _ _ g p o l k17 ?_ ?_
  · intro g' p' x hg hp
    obtain rfl : g' = 4 := Fin.ext hg
    obtain rfl : p' = 0 := Fin.ext hp
    sl_unfold_run_values
    open_payloads
    pointwise [View.readAt_eq_ld, harg1.read_unread]
    all_goals rfl
  intro k16
  refine ex_cons x1 612 15 rfl _ _ _ g p o l k16 ?_ ?_
  · intro g' p' x hg hp
    obtain rfl : g' = 3 := Fin.ext hg
    obtain rfl : p' = 3 := Fin.ext hp
    sl_unfold_run_values
    open_payloads
    pointwise [View.readAt_eq_ld, harg1.read_unread]
    all_goals rfl
  intro k15
  refine ex_cons x1 572 14 rfl _ _ _ g p o l k15 ?_ ?_
  · intro g' p' x hg hp
    obtain rfl : g' = 3 := Fin.ext hg
    obtain rfl : p' = 2 := Fin.ext hp
    sl_unfold_run_values
    open_payloads
    pointwise [View.readAt_eq_ld, harg1.read_unread]
    all_goals rfl
  intro k14
  refine ex_cons x1 532 13 rfl _ _ _ g p o l k14 ?_ ?_
  · intro g' p' x hg hp
    obtain rfl : g' = 3 := Fin.ext hg
    obtain rfl : p' = 1 := Fin.ext hp
    sl_unfold_run_values
    open_payloads
    pointwise [View.readAt_eq_ld, harg1.read_unread]
    all_goals rfl
  intro k13
  refine ex_cons x1 492 12 rfl _ _ _ g p o l k13 ?_ ?_
  · intro g' p' x hg hp
    obtain rfl : g' = 3 := Fin.ext hg
    obtain rfl : p' = 0 := Fin.ext hp
    sl_unfold_run_values
    open_payloads
    pointwise [View.readAt_eq_ld, harg1.read_unread]
    all_goals rfl
  intro k12
  refine ex_cons x1 448 11 rfl _ _ _ g p o l k12 ?_ ?_
  · intro g' p' x hg hp
    obtain rfl : g' = 2 := Fin.ext hg
    obtain rfl : p' = 3 := Fin.ext hp
    sl_unfold_run_values
    open_payloads
    pointwise [View.readAt_eq_ld, harg1.read_unread]
    all_goals rfl
  intro k11
  refine ex_cons x1 408 10 rfl _ _ _ g p o l k11 ?_ ?_
  · intro g' p' x hg hp
    obtain rfl : g' = 2 := Fin.ext hg
    obtain rfl : p' = 2 := Fin.ext hp
    sl_unfold_run_values
    open_payloads
    pointwise [View.readAt_eq_ld, harg1.read_unread]
    all_goals rfl
  intro k10
  refine ex_cons x1 368 9 rfl _ _ _ g p o l k10 ?_ ?_
  · intro g' p' x hg hp
    obtain rfl : g' = 2 := Fin.ext hg
    obtain rfl : p' = 1 := Fin.ext hp
    sl_unfold_run_values
    open_payloads
    pointwise [View.readAt_eq_ld, harg1.read_unread]
    all_goals rfl
  intro k9
  refine ex_cons x1 328 8 rfl _ _ _ g p o l k9 ?_ ?_
  · intro g' p' x hg hp
    obtain rfl : g' = 2 := Fin.ext hg
    obtain rfl : p' = 0 := Fin.ext hp
    sl_unfold_run_values
    open_payloads
    pointwise [View.readAt_eq_ld, harg1.read_unread]
    all_goals rfl
  intro k8
  refine ex_cons x1 284 7 rfl _ _ _ g p o l k8 ?_ ?_
  · intro g' p' x hg hp
    obtain rfl : g' = 1 := Fin.ext hg
    obtain rfl : p' = 3 := Fin.ext hp
    sl_unfold_run_values
    open_payloads
    pointwise [View.readAt_eq_ld, harg1.read_unread]
    all_goals rfl
  intro k7
  refine ex_cons x1 244 6 rfl _ _ _ g p o l k7 ?_ ?_
  · intro g' p' x hg hp
    obtain rfl : g' = 1 := Fin.ext hg
    obtain rfl : p' = 2 := Fin.ext hp
    sl_unfold_run_values
    open_payloads
    pointwise [View.readAt_eq_ld, harg1.read_unread]
    all_goals rfl
  intro k6
  refine ex_cons x1 204 5 rfl _ _ _ g p o l k6 ?_ ?_
  · intro g' p' x hg hp
    obtain rfl : g' = 1 := Fin.ext hg
    obtain rfl : p' = 1 := Fin.ext hp
    sl_unfold_run_values
    open_payloads
    pointwise [View.readAt_eq_ld, harg1.read_unread]
    all_goals rfl
  intro k5
  refine ex_cons x1 164 4 rfl _ _ _ g p o l k5 ?_ ?_
  · intro g' p' x hg hp
    obtain rfl : g' = 1 := Fin.ext hg
    obtain rfl : p' = 0 := Fin.ext hp
    sl_unfold_run_values
    open_payloads
    pointwise [View.readAt_eq_ld, harg1.read_unread]
    all_goals rfl
  intro k4
  refine ex_cons x1 120 3 rfl _ _ _ g p o l k4 ?_ ?_
  · intro g' p' x hg hp
    obtain rfl : g' = 0 := Fin.ext hg
    obtain rfl : p' = 3 := Fin.ext hp
    sl_unfold_run_values
    open_payloads
    pointwise [View.readAt_eq_ld, harg1.read_unread]
    all_goals rfl
  intro k3
  refine ex_cons x1 80 2 rfl _ _ _ g p o l k3 ?_ ?_
  · intro g' p' x hg hp
    obtain rfl : g' = 0 := Fin.ext hg
    obtain rfl : p' = 2 := Fin.ext hp
    sl_unfold_run_values
    open_payloads
    pointwise [View.readAt_eq_ld, harg1.read_unread]
    all_goals rfl
  intro k2
  refine ex_cons x1 40 1 rfl _ _ _ g p o l k2 ?_ ?_
  · intro g' p' x hg hp
    obtain rfl : g' = 0 := Fin.ext hg
    obtain rfl : p' = 1 := Fin.ext hp
    sl_unfold_run_values
    open_payloads
    pointwise [View.readAt_eq_ld, harg1.read_unread]
    all_goals rfl
  intro k1
  refine ex_cons x1 0 0 rfl _ _ _ g p o l k1 ?_ ?_
  · intro g' p' x hg hp
    obtain rfl : g' = 0 := Fin.ext hg
    obtain rfl : p' = 0 := Fin.ext hp
    sl_unfold_run_values
    open_payloads
    pointwise [View.readAt_eq_ld, harg1.read_unread]
    all_goals rfl
  intro k0
  exact absurd k0 (Nat.not_lt_zero _)

end Cert.ScalesIdeal.Value
end
-- ==== Proof.ScFb.lean ====
module

public import proofs.«01_k».proof.Proof.Gen.ScalesIdeal.Value
public import proofs.«01_k».proof.Proof.ScEx
public import Idealize.ShloMosaic.Lib.Pipeline.ValueKit
public import Idealize.ShloMosaic.Lib.Pointwise
public import Idealize.ShloMosaic.Lib.Tactic.RunNames

/-! The combined table: for every lane the scales read forward and backward, row by row. -/

@[expose] public section

set_option maxRecDepth 16384

noncomputable section
namespace Cert.ScalesIdeal.Value
open Idealize.ShloMosaic Idealize.ShloMosaic.TcCoe Idealize.SL.Sem
open Cert.ScalesIdeal Cert.ScalesIdeal.Gen

/-- The row of the combined table for lane `l`: its first 24 columns go forward, its next 24 backward. -/
def fbv (x1 : Vec Ideal S33x24x512 .f32) (l : Fin 128) (n : Nat) (r : Fin 128) : EReal :=
  if n % 2 = 0 then x1 (ix3 ⟨r.val % 32, by omega⟩ (Fin.ofNat 24 (n / 2)) ⟨128 * (r.val / 32) + l.val, by omega⟩)
  else x1 (ix3 ⟨r.val % 32 + 1, by omega⟩ (Fin.ofNat 24 (n / 2)) ⟨128 * (r.val / 32) + (l.val + 128 - (2 + 2 * (r.val % 32)) % 128) % 128, by omega⟩)

/-- One strided store in front of a list: where it lands it leaves its column's scales, elsewhere what was there. -/
theorem fb_cons (x1 : Vec Ideal S33x24x512 .f32) (R n : Nat) (hn48 : n < 48) (hR : R = n / 2 + 24 * (n % 2))
    (inb : ∀ a, S128x128.size a = 0 ∨ (![R, 0] : Fin 2 → Nat) a + (![56, 1] : Fin 2 → Nat) a * (S128x128.size a - 1) < S7168x128.size a)
    (sp : ∀ a, 0 < (![56, 1] : Fin 2 → Nat) a)
    (w : S128x128.Idx → Elt Ideal .f32)
    (L : List (View.Piece (Elt Ideal) S7168x128 .f32)) (l : Fin 128) (k : Fin 48) (r : Fin 128)
    (hk : k.val < n + 1)
    (hw : ∀ x : S128x128.Idx, w x = fbv x1 (x 0) n (x 1))
    (hL : k.val < n → View.canon L (ix2 ⟨56 * l.val + (k.val / 2 + 24 * (k.val % 2)), by omega⟩ r) = fbv x1 l k.val r) :
    View.canon ((⟨(⟨⟨![R, 0], S128x128.size, ![56, 1], inb⟩, sp⟩ : Rect S7168x128), w⟩ : View.Piece (Elt Ideal) S7168x128 .f32) :: L) (ix2 ⟨56 * l.val + (k.val / 2 + 24 * (k.val % 2)), by omega⟩ r) = fbv x1 l k.val r := by
  by_cases h : k.val < n
  · rw [View.canon_cons_of_not_mem _ _ ?_]
    · exact hL h
    · intro hm
      obtain ⟨x, hx⟩ := LoadRect.exists_idx_of_mem _ hm
      have e0 : R + 56 * (x 0).val = 56 * l.val + (k.val / 2 + 24 * (k.val % 2)) := congrArg (fun y : S7168x128.Idx => (y 0).val) hx
      have z0 : (x 0).val < 128 := (x 0).isLt
      have hk48 := k.isLt
      have q1 : n / 2 + 24 * (n % 2) < 48 := by omega
      have q2 : k.val / 2 + 24 * (k.val % 2) < 48 := by omega
      rw [← hR] at q1
      have q3 : R = k.val / 2 + 24 * (k.val % 2) := by omega
      rw [hR] at q3
      clear hm hx e0 q1 q2
      rcases Nat.mod_two_eq_zero_or_one n with h1 | h1 <;> rcases Nat.mod_two_eq_zero_or_one k.val with h2 | h2 <;> omega
  · have hn : n = k.val := by omega
    subst hn
    have hx : ix2 (⟨56 * l.val + (k.val / 2 + 24 * (k.val % 2)), by omega⟩ : Fin 7168) r = (⟨⟨![R, 0], S128x128.size, ![56, 1], inb⟩, sp⟩ : Rect S7168x128).emb (ix2 l r) := by
      funext a
      match a with
      | 0 => exact Fin.ext (show 56 * l.val + (k.val / 2 + 24 * (k.val % 2)) = R + 56 * l.val by omega)
      | 1 => exact Fin.ext (show r.val = 0 + 1 * r.val by omega)
    refine (congrArg _ hx).trans ?_
    rw [View.canon_cons_emb]
    exact hw _

theorem bd_i (g : Nat) (hg : g < 24) (u : Fin 128) : 164 * g + 40 * (u.val / 32) + u.val % 32 < 3936 := by omega
theorem bd_i' (g : Nat) (hg : g < 24) (u : Fin 128) : 164 * g + 40 * (u.val / 32) + (u.val % 32 + 1) < 3936 := by omega
theorem bd_q (u : Fin 128) : u.val / 32 < 4 := by omega
theorem bd_m (u : Fin 128) : u.val % 32 < 33 := by omega
theorem bd_m' (u : Fin 128) : u.val % 32 + 1 < 33 := by omega

theorem fb_at_f (c : Dev nD) (arg1 : Memref sig .tc .vmem S33x24x512 .f32) (harg1 : arg1.IsWhole) (x1 : Vec Ideal S33x24x512 .f32)
    (n g : Nat) (hg : g < 24) (hn : n = 2 * g) (l u : Fin 128) (i : Fin 3936) (j : Fin 128) (hi : i.val = 164 * g + 40 * (u.val / 32) + u.val % 32) (hj : j = l) :
    View.canon (kernelRun0_A.sl.HS1_96 (F := Ideal) c arg1 harg1 x1) (ix2 i j) = fbv x1 l n u := by
  subst hj hn
  have ei : i = ⟨164 * (⟨g, hg⟩ : Fin 24).val + 40 * (⟨u.val / 32, bd_q u⟩ : Fin 4).val + (⟨u.val % 32, bd_m u⟩ : Fin 33).val, bd_i g hg u⟩ := Fin.ext hi
  rw [ei, ex_val]
  unfold fbv
  rw [if_pos (by omega)]
  have e : (Fin.ofNat 24 (2 * g / 2)) = ⟨g, hg⟩ := Fin.ext (show 2 * g / 2 % 24 = g by omega)
  rw [e]

theorem fb_at_b (c : Dev nD) (arg1 : Memref sig .tc .vmem S33x24x512 .f32) (harg1 : arg1.IsWhole) (x1 : Vec Ideal S33x24x512 .f32)
    (n g : Nat) (hg : g < 24) (hn : n = 2 * g + 1) (l u : Fin 128) (i : Fin 3936) (j : Fin 128) (hi : i.val = 164 * g + 40 * (u.val / 32) + u.val % 32 + 1)
    (hj : j.val = (l.val + 128 - (2 + 2 * (u.val % 32)) % 128) % 128) :
    View.canon (kernelRun0_A.sl.HS1_96 (F := Ideal) c arg1 harg1 x1) (ix2 i j) = fbv x1 l n u := by
  subst hn
  have ej : j = ⟨(l.val + 128 - (2 + 2 * (u.val % 32)) % 128) % 128, Nat.mod_lt _ (by decide)⟩ := Fin.ext hj
  have ei : i = ⟨164 * (⟨g, hg⟩ : Fin 24).val + 40 * (⟨u.val / 32, bd_q u⟩ : Fin 4).val + (⟨u.val % 32 + 1, bd_m' u⟩ : Fin 33).val, bd_i' g hg u⟩ := Fin.ext hi
  rw [ei, ej, ex_val]
  unfold fbv
  rw [if_neg (by omega)]
  have e : (Fin.ofNat 24 ((2 * g + 1) / 2)) = ⟨g, hg⟩ := Fin.ext (show (2 * g + 1) / 2 % 24 = g by omega)
  rw [e]

set_option maxHeartbeats 16000000 in
theorem fb_val (c : Dev nD) (arg1 : Memref sig .tc .vmem S33x24x512 .f32) (harg1 : arg1.IsWhole) (arg4 : Memref sig .tc .vmem S3936x128 .f32) (x1 : Vec Ideal S33x24x512 .f32)
    (l : Fin 128) (k : Fin 48) (r : Fin 128) :
    View.canon (kernelRun0_A.sl.HS2_49 (F := Ideal) c arg1 harg1 arg4 x1) (ix2 ⟨56 * l.val + (k.val / 2 + 24 * (k.val % 2)), by omega⟩ r)
      = fbv x1 l k.val r := by
  have k48 : k.val < 48 := k.isLt
  unfold kernelRun0_A.sl.HS2_49
  refine fb_cons x1 47 47 (by decide) rfl _ _ _ _ l k r k48 ?_ ?_
  · intro x
    sl_unfold_run_values
    open_payloads
    pointwise [View.readCov_eq_canon']
    have z1 : (x 1).val < 128 := (x 1).isLt
    repeat' split
    all_goals exact fb_at_b c arg1 harg1 x1 47 23 (by decide) rfl (x 0) (x 1) _ _ (by dsimp only; omega) (by dsimp only; omega)
  intro k47
  unfold kernelRun0_A.sl.HS2_48
  refine fb_cons x1 23 46 (by decide) rfl _ _ _ _ l k r k47 ?_ ?_
  · intro x
    sl_unfold_run_values
    open_payloads
    pointwise [View.readCov_eq_canon']
    have z1 : (x 1).val < 128 := (x 1).isLt
    repeat' split
    all_goals exact fb_at_f c arg1 harg1 x1 46 23 (by decide) rfl (x 0) (x 1) _ _ (by dsimp only; omega) (by rfl)
  intro k46
  unfold kernelRun0_A.sl.HS2_47
  refine fb_cons x1 46 45 (by decide) rfl _ _ _ _ l k r k46 ?_ ?_
  · intro x
    sl_unfold_run_values
    open_payloads
    pointwise [View.readCov_eq_canon']
    have z1 : (x 1).val < 128 := (x 1).isLt
    repeat' split
    all_goals exact fb_at_b c arg1 harg1 x1 45 22 (by decide) rfl (x 0) (x 1) _ _ (by dsimp only; omega) (by dsimp only; omega)
  intro k45
  unfold kernelRun0_A.sl.HS2_46
  refine fb_cons x1 22 44 (by decide) rfl _ _ _ _ l k r k45 ?_ ?_
  · intro x
    sl_unfold_run_values
    open_payloads
    pointwise [View.readCov_eq_canon']
    have z1 : (x 1).val < 128 := (x 1).isLt
    repeat' split
    all_goals exact fb_at_f c arg1 harg1 x1 44 22 (by decide) rfl (x 0) (x 1) _ _ (by dsimp only; omega) (by rfl)
  intro k44
  unfold kernelRun0_A.sl.HS2_45
  refine fb_cons x1 45 43 (by decide) rfl _ _ _ _ l k r k44 ?_ ?_
  · intro x
    sl_unfold_run_values
    open_payloads
    pointwise [View.readCov_eq_canon']
    have z1 : (x 1).val < 128 := (x 1).isLt
    repeat' split
    all_goals exact fb_at_b c arg1 harg1 x1 43 21 (by decide) rfl (x 0) (x 1) _ _ (by dsimp only; omega) (by dsimp only; omega)
  intro k43
  unfold kernelRun0_A.sl.HS2_44
  refine fb_cons x1 21 42 (by decide) rfl _ _ _ _ l k r k43 ?_ ?_
  · intro x
    sl_unfold_run_values
    open_payloads
    pointwise [View.readCov_eq_canon']
    have z1 : (x 1).val < 128 := (x 1).isLt
    repeat' split
    all_goals exact fb_at_f c arg1 harg1 x1 42 21 (by decide) rfl (x 0) (x 1) _ _ (by dsimp only; omega) (by rfl)
  intro k42
  unfold kernelRun0_A.sl.HS2_43
  refine fb_cons x1 44 41 (by decide) rfl _ _ _ _ l k r k42 ?_ ?_
  · intro x
    sl_unfold_run_values
    open_payloads
    pointwise [View.readCov_eq_canon']
    have z1 : (x 1).val < 128 := (x 1).isLt
    repeat' split
    all_goals exact fb_at_b c arg1 harg1 x1 41 20 (by decide) rfl (x 0) (x 1) _ _ (by dsimp only; omega) (by dsimp only; omega)
  intro k41
  unfold kernelRun0_A.sl.HS2_42
  refine fb_cons x1 20 40 (by decide) rfl _ _ _ _ l k r k41 ?_ ?_
  · intro x
    sl_unfold_run_values
    open_payloads
    pointwise [View.readCov_eq_canon']
    have z1 : (x 1).val < 128 := (x 1).isLt
    repeat' split
    all_goals exact fb_at_f c arg1 harg1 x1 40 20 (by decide) rfl (x 0) (x 1) _ _ (by dsimp only; omega) (by rfl)
  intro k40
  unfold kernelRun0_A.sl.HS2_41
  refine fb_cons x1 43 39 (by decide) rfl _ _ _ _ l k r k40 ?_ ?_
  · intro x
    sl_unfold_run_values
    open_payloads
    pointwise [View.readCov_eq_canon']
    have z1 : (x 1).val < 128 := (x 1).isLt
    repeat' split
    all_goals exact fb_at_b c arg1 harg1 x1 39 19 (by decide) rfl (x 0) (x 1) _ _ (by dsimp only; omega) (by dsimp only; omega)
  intro k39
  unfold kernelRun0_A.sl.HS2_40
  refine fb_cons x1 19 38 (by decide) rfl _ _ _ _ l k r k39 ?_ ?_
  · intro x
    sl_unfold_run_values
    open_payloads
    pointwise [View.readCov_eq_canon']
    have z1 : (x 1).val < 128 := (x 1).isLt
    repeat' split
    all_goals exact fb_at_f c arg1 harg1 x1 38 19 (by decide) rfl (x 0) (x 1) _ _ (by dsimp only; omega) (by rfl)
  intro k38
  unfold kernelRun0_A.sl.HS2_39
  refine fb_cons x1 42 37 (by decide) rfl _ _ _ _ l k r k38 ?_ ?_
  · intro x
    sl_unfold_run_values
    open_payloads
    pointwise [View.readCov_eq_canon']
    have z1 : (x 1).val < 128 := (x 1).isLt
    repeat' split
    all_goals exact fb_at_b c arg1 harg1 x1 37 18 (by decide) rfl (x 0) (x 1) _ _ (by dsimp only; omega) (by dsimp only; omega)
  intro k37
  unfold kernelRun0_A.sl.HS2_38
  refine fb_cons x1 18 36 (by decide) rfl _ _ _ _ l k r k37 ?_ ?_
  · intro x
    sl_unfold_run_values
    open_payloads
    pointwise [View.readCov_eq_canon']
    have z1 : (x 1).val < 128 := (x 1).isLt
    repeat' split
    all_goals exact fb_at_f c arg1 harg1 x1 36 18 (by decide) rfl (x 0) (x 1) _ _ (by dsimp only; omega) (by rfl)
  intro k36
  unfold kernelRun0_A.sl.HS2_37
  refine fb_cons x1 41 35 (by decide) rfl _ _ _ _ l k r k36 ?_ ?_
  · intro x
    sl_unfold_run_values
    open_payloads
    pointwise [View.readCov_eq_canon']
    have z1 : (x 1).val < 128 := (x 1).isLt
    repeat' split
    all_goals exact fb_at_b c arg1 harg1 x1 35 17 (by decide) rfl (x 0) (x 1) _ _ (by dsimp only; omega) (by dsimp only; omega)
  intro k35
  unfold kernelRun0_A.sl.HS2_36
  refine fb_cons x1 17 34 (by decide) rfl _ _ _ _ l k r k35 ?_ ?_
  · intro x
    sl_unfold_run_values
    open_payloads
    pointwise [View.readCov_eq_canon']
    have z1 : (x 1).val < 128 := (x 1).isLt
    repeat' split
    all_goals exact fb_at_f c arg1 harg1 x1 34 17 (by decide) rfl (x 0) (x 1) _ _ (by dsimp only; omega) (by rfl)
  intro k34
  unfold kernelRun0_A.sl.HS2_35
  refine fb_cons x1 40 33 (by decide) rfl _ _ _ _ l k r k34 ?_ ?_
  · intro x
    sl_unfold_run_values
    open_payloads
    pointwise [View.readCov_eq_canon']
    have z1 : (x 1).val < 128 := (x 1).isLt
    repeat' split
    all_goals exact fb_at_b c arg1 harg1 x1 33 16 (by decide) rfl (x 0) (x 1) _ _ (by dsimp only; omega) (by dsimp only; omega)
  intro k33
  unfold kernelRun0_A.sl.HS2_34
  refine fb_cons x1 16 32 (by decide) rfl _ _ _ _ l k r k33 ?_ ?_
  · intro x
    sl_unfold_run_values
    open_payloads
    pointwise [View.readCov_eq_canon']
    have z1 : (x 1).val < 128 := (x 1).isLt
    repeat' split
    all_goals exact fb_at_f c arg1 harg1 x1 32 16 (by decide) rfl (x 0) (x 1) _ _ (by dsimp only; omega) (by rfl)
  intro k32
  unfold kernelRun0_A.sl.HS2_33
  refine fb_cons x1 39 31 (by decide) rfl _ _ _ _ l k r k32 ?_ ?_
  · intro x
    sl_unfold_run_values
    open_payloads
    pointwise [View.readCov_eq_canon']
    have z1 : (x 1).val < 128 := (x 1).isLt
    repeat' split
    all_goals exact fb_at_b c arg1 harg1 x1 31 15 (by decide) rfl (x 0) (x 1) _ _ (by dsimp only; omega) (by dsimp only; omega)
  intro k31
  unfold kernelRun0_A.sl.HS2_32
  refine fb_cons x1 15 30 (by decide) rfl _ _ _ _ l k r k31 ?_ ?_
  · intro x
    sl_unfold_run_values
    open_payloads
    pointwise [View.readCov_eq_canon']
    have z1 : (x 1).val < 128 := (x 1).isLt
    repeat' split
    all_goals exact fb_at_f c arg1 harg1 x1 30 15 (by decide) rfl (x 0) (x 1) _ _ (by dsimp only; omega) (by rfl)
  intro k30
  unfold kernelRun0_A.sl.HS2_31
  refine fb_cons x1 38 29 (by decide) rfl _ _ _ _ l k r k30 ?_ ?_
  · intro x
    sl_unfold_run_values
    open_payloads
    pointwise [View.readCov_eq_canon']
    have z1 : (x 1).val < 128 := (x 1).isLt
    repeat' split
    all_goals exact fb_at_b c arg1 harg1 x1 29 14 (by decide) rfl (x 0) (x 1) _ _ (by dsimp only; omega) (by dsimp only; omega)
  intro k29
  unfold kernelRun0_A.sl.HS2_30
  refine fb_cons x1 14 28 (by decide) rfl _ _ _ _ l k r k29 ?_ ?_
  · intro x
    sl_unfold_run_values
    open_payloads
    pointwise [View.readCov_eq_canon']
    have z1 : (x 1).val < 128 := (x 1).isLt
    repeat' split
    all_goals exact fb_at_f c arg1 harg1 x1 28 14 (by decide) rfl (x 0) (x 1) _ _ (by dsimp only; omega) (by rfl)
  intro k28
  unfold kernelRun0_A.sl.HS2_29
  refine fb_cons x1 37 27 (by decide) rfl _ _ _ _ l k r k28 ?_ ?_
  · intro x
    sl_unfold_run_values
    open_payloads
    pointwise [View.readCov_eq_canon']
    have z1 : (x 1).val < 128 := (x 1).isLt
    repeat' split
    all_goals exact fb_at_b c arg1 harg1 x1 27 13 (by decide) rfl (x 0) (x 1) _ _ (by dsimp only; omega) (by dsimp only; omega)
  intro k27
  unfold kernelRun0_A.sl.HS2_28
  refine fb_cons x1 13 26 (by decide) rfl _ _ _ _ l k r k27 ?_ ?_
  · intro x
    sl_unfold_run_values
    open_payloads
    pointwise [View.readCov_eq_canon']
    have z1 : (x 1).val < 128 := (x 1).isLt
    repeat' split
    all_goals exact fb_at_f c arg1 harg1 x1 26 13 (by decide) rfl (x 0) (x 1) _ _ (by dsimp only; omega) (by rfl)
  intro k26
  unfold kernelRun0_A.sl.HS2_27
  refine fb_cons x1 36 25 (by decide) rfl _ _ _ _ l k r k26 ?_ ?_
  · intro x
    sl_unfold_run_values
    open_payloads
    pointwise [View.readCov_eq_canon']
    have z1 : (x 1).val < 128 := (x 1).isLt
    repeat' split
    all_goals exact fb_at_b c arg1 harg1 x1 25 12 (by decide) rfl (x 0) (x 1) _ _ (by dsimp only; omega) (by dsimp only; omega)
  intro k25
  unfold kernelRun0_A.sl.HS2_26
  refine fb_cons x1 12 24 (by decide) rfl _ _ _ _ l k r k25 ?_ ?_
  · intro x
    sl_unfold_run_values
    open_payloads
    pointwise [View.readCov_eq_canon']
    have z1 : (x 1).val < 128 := (x 1).isLt
    repeat' split
    all_goals exact fb_at_f c arg1 harg1 x1 24 12 (by decide) rfl (x 0) (x 1) _ _ (by dsimp only; omega) (by rfl)
  intro k24
  unfold kernelRun0_A.sl.HS2_25
  refine fb_cons x1 35 23 (by decide) rfl _ _ _ _ l k r k24 ?_ ?_
  · intro x
    sl_unfold_run_values
    open_payloads
    pointwise [View.readCov_eq_canon']
    have z1 : (x 1).val < 128 := (x 1).isLt
    repeat' split
    all_goals exact fb_at_b c arg1 harg1 x1 23 11 (by decide) rfl (x 0) (x 1) _ _ (by dsimp only; omega) (by dsimp only; omega)
  intro k23
  unfold kernelRun0_A.sl.HS2_24
  refine fb_cons x1 11 22 (by decide) rfl _ _ _ _ l k r k23 ?_ ?_
  · intro x
    sl_unfold_run_values
    open_payloads
    pointwise [View.readCov_eq_canon']
    have z1 : (x 1).val < 128 := (x 1).isLt
    repeat' split
    all_goals exact fb_at_f c arg1 harg1 x1 22 11 (by decide) rfl (x 0) (x 1) _ _ (by dsimp only; omega) (by rfl)
  intro k22
  unfold kernelRun0_A.sl.HS2_23
  refine fb_cons x1 34 21 (by decide) rfl _ _ _ _ l k r k22 ?_ ?_
  · intro x
    sl_unfold_run_values
    open_payloads
    pointwise [View.readCov_eq_canon']
    have z1 : (x 1).val < 128 := (x 1).isLt
    repeat' split
    all_goals exact fb_at_b c arg1 harg1 x1 21 10 (by decide) rfl (x 0) (x 1) _ _ (by dsimp only; omega) (by dsimp only; omega)
  intro k21
  unfold kernelRun0_A.sl.HS2_22
  refine fb_cons x1 10 20 (by decide) rfl _ _ _ _ l k r k21 ?_ ?_
  · intro x
    sl_unfold_run_values
    open_payloads
    pointwise [View.readCov_eq_canon']
    have z1 : (x 1).val < 128 := (x 1).isLt
    repeat' split
    all_goals exact fb_at_f c arg1 harg1 x1 20 10 (by decide) rfl (x 0) (x 1) _ _ (by dsimp only; omega) (by rfl)
  intro k20
  unfold kernelRun0_A.sl.HS2_21
  refine fb_cons x1 33 19 (by decide) rfl _ _ _ _ l k r k20 ?_ ?_
  · intro x
    sl_unfold_run_values
    open_payloads
    pointwise [View.readCov_eq_canon']
    have z1 : (x 1).val < 128 := (x 1).isLt
    repeat' split
    all_goals exact fb_at_b c arg1 harg1 x1 19 9 (by decide) rfl (x 0) (x 1) _ _ (by dsimp only; omega) (by dsimp only; omega)
  intro k19
  unfold kernelRun0_A.sl.HS2_20
  refine fb_cons x1 9 18 (by decide) rfl _ _ _ _ l k r k19 ?_ ?_
  · intro x
    sl_unfold_run_values
    open_payloads
    pointwise [View.readCov_eq_canon']
    have z1 : (x 1).val < 128 := (x 1).isLt
    repeat' split
    all_goals exact fb_at_f c arg1 harg1 x1 18 9 (by decide) rfl (x 0) (x 1) _ _ (by dsimp only; omega) (by rfl)
  intro k18
  unfold kernelRun0_A.sl.HS2_19
  refine fb_cons x1 32 17 (by decide) rfl _ _ _ _ l k r k18 ?_ ?_
  · intro x
    sl_unfold_run_values
    open_payloads
    pointwise [View.readCov_eq_canon']
    have z1 : (x 1).val < 128 := (x 1).isLt
    repeat' split
    all_goals exact fb_at_b c arg1 harg1 x1 17 8 (by decide) rfl (x 0) (x 1) _ _ (by dsimp only; omega) (by dsimp only; omega)
  intro k17
  unfold kernelRun0_A.sl.HS2_18
  refine fb_cons x1 8 16 (by decide) rfl _ _ _ _ l k r k17 ?_ ?_
  · intro x
    sl_unfold_run_values
    open_payloads
    pointwise [View.readCov_eq_canon']
    have z1 : (x 1).val < 128 := (x 1).isLt
    repeat' split
    all_goals exact fb_at_f c arg1 harg1 x1 16 8 (by decide) rfl (x 0) (x 1) _ _ (by dsimp only; omega) (by rfl)
  intro k16
  unfold kernelRun0_A.sl.HS2_17
  refine fb_cons x1 31 15 (by decide) rfl _ _ _ _ l k r k16 ?_ ?_
  · intro x
    sl_unfold_run_values
    open_payloads
    pointwise [View.readCov_eq_canon']
    have z1 : (x 1).val < 128 := (x 1).isLt
    repeat' split
    all_goals exact fb_at_b c arg1 harg1 x1 15 7 (by decide) rfl (x 0) (x 1) _ _ (by dsimp only; omega) (by dsimp only; omega)
  intro k15
  unfold kernelRun0_A.sl.HS2_16
  refine fb_cons x1 7 14 (by decide) rfl _ _ _ _ l k r k15 ?_ ?_
  · intro x
    sl_unfold_run_values
    open_payloads
    pointwise [View.readCov_eq_canon']
    have z1 : (x 1).val < 128 := (x 1).isLt
    repeat' split
    all_goals exact fb_at_f c arg1 harg1 x1 14 7 (by decide) rfl (x 0) (x 1) _ _ (by dsimp only; omega) (by rfl)
  intro k14
  unfold kernelRun0_A.sl.HS2_15
  refine fb_cons x1 30 13 (by decide) rfl _ _ _ _ l k r k14 ?_ ?_
  · intro x
    sl_unfold_run_values
    open_payloads
    pointwise [View.readCov_eq_canon']
    have z1 : (x 1).val < 128 := (x 1).isLt
    repeat' split
    all_goals exact fb_at_b c arg1 harg1 x1 13 6 (by decide) rfl (x 0) (x 1) _ _ (by dsimp only; omega) (by dsimp only; omega)
  intro k13
  unfold kernelRun0_A.sl.HS2_14
  refine fb_cons x1 6 12 (by decide) rfl _ _ _ _ l k r k13 ?_ ?_
  · intro x
    sl_unfold_run_values
    open_payloads
    pointwise [View.readCov_eq_canon']
    have z1 : (x 1).val < 128 := (x 1).isLt
    repeat' split
    all_goals exact fb_at_f c arg1 harg1 x1 12 6 (by decide) rfl (x 0) (x 1) _ _ (by dsimp only; omega) (by rfl)
  intro k12
  unfold kernelRun0_A.sl.HS2_13
  refine fb_cons x1 29 11 (by decide) rfl _ _ _ _ l k r k12 ?_ ?_
  · intro x
    sl_unfold_run_values
    open_payloads
    pointwise [View.readCov_eq_canon']
    have z1 : (x 1).val < 128 := (x 1).isLt
    repeat' split
    all_goals exact fb_at_b c arg1 harg1 x1 11 5 (by decide) rfl (x 0) (x 1) _ _ (by dsimp only; omega) (by dsimp only; omega)
  intro k11
  unfold kernelRun0_A.sl.HS2_12
  refine fb_cons x1 5 10 (by decide) rfl _ _ _ _ l k r k11 ?_ ?_
  · intro x
    sl_unfold_run_values
    open_payloads
    pointwise [View.readCov_eq_canon']
    have z1 : (x 1).val < 128 := (x 1).isLt
    repeat' split
    all_goals exact fb_at_f c arg1 harg1 x1 10 5 (by decide) rfl (x 0) (x 1) _ _ (by dsimp only; omega) (by rfl)
  intro k10
  unfold kernelRun0_A.sl.HS2_11
  refine fb_cons x1 28 9 (by decide) rfl _ _ _ _ l k r k10 ?_ ?_
  · intro x
    sl_unfold_run_values
    open_payloads
    pointwise [View.readCov_eq_canon']
    have z1 : (x 1).val < 128 := (x 1).isLt
    repeat' split
    all_goals exact fb_at_b c arg1 harg1 x1 9 4 (by decide) rfl (x 0) (x 1) _ _ (by dsimp only; omega) (by dsimp only; omega)
  intro k9
  unfold kernelRun0_A.sl.HS2_10
  refine fb_cons x1 4 8 (by decide) rfl _ _ _ _ l k r k9 ?_ ?_
  · intro x
    sl_unfold_run_values
    open_payloads
    pointwise [View.readCov_eq_canon']
    have z1 : (x 1).val < 128 := (x 1).isLt
    repeat' split
    all_goals exact fb_at_f c arg1 harg1 x1 8 4 (by decide) rfl (x 0) (x 1) _ _ (by dsimp only; omega) (by rfl)
  intro k8
  unfold kernelRun0_A.sl.HS2_9
  refine fb_cons x1 27 7 (by decide) rfl _ _ _ _ l k r k8 ?_ ?_
  · intro x
    sl_unfold_run_values
    open_payloads
    pointwise [View.readCov_eq_canon']
    have z1 : (x 1).val < 128 := (x 1).isLt
    repeat' split
    all_goals exact fb_at_b c arg1 harg1 x1 7 3 (by decide) rfl (x 0) (x 1) _ _ (by dsimp only; omega) (by dsimp only; omega)
  intro k7
  unfold kernelRun0_A.sl.HS2_8
  refine fb_cons x1 3 6 (by decide) rfl _ _ _ _ l k r k7 ?_ ?_
  · intro x
    sl_unfold_run_values
    open_payloads
    pointwise [View.readCov_eq_canon']
    have z1 : (x 1).val < 128 := (x 1).isLt
    repeat' split
    all_goals exact fb_at_f c arg1 harg1 x1 6 3 (by decide) rfl (x 0) (x 1) _ _ (by dsimp only; omega) (by rfl)
  intro k6
  unfold kernelRun0_A.sl.HS2_7
  refine fb_cons x1 26 5 (by decide) rfl _ _ _ _ l k r k6 ?_ ?_
  · intro x
    sl_unfold_run_values
    open_payloads
    pointwise [View.readCov_eq_canon']
    have z1 : (x 1).val < 128 := (x 1).isLt
    repeat' split
    all_goals exact fb_at_b c arg1 harg1 x1 5 2 (by decide) rfl (x 0) (x 1) _ _ (by dsimp only; omega) (by dsimp only; omega)
  intro k5
  unfold kernelRun0_A.sl.HS2_6
  refine fb_cons x1 2 4 (by decide) rfl _ _ _ _ l k r k5 ?_ ?_
  · intro x
    sl_unfold_run_values
    open_payloads
    pointwise [View.readCov_eq_canon']
    have z1 : (x 1).val < 128 := (x 1).isLt
    repeat' split
    all_goals exact fb_at_f c arg1 harg1 x1 4 2 (by decide) rfl (x 0) (x 1) _ _ (by dsimp only; omega) (by rfl)
  intro k4
  unfold kernelRun0_A.sl.HS2_5
  refine fb_cons x1 25 3 (by decide) rfl _ _ _ _ l k r k4 ?_ ?_
  · intro x
    sl_unfold_run_values
    open_payloads
    pointwise [View.readCov_eq_canon']
    have z1 : (x 1).val < 128 := (x 1).isLt
    repeat' split
    all_goals exact fb_at_b c arg1 harg1 x1 3 1 (by decide) rfl (x 0) (x 1) _ _ (by dsimp only; omega) (by dsimp only; omega)
  intro k3
  unfold kernelRun0_A.sl.HS2_4
  refine fb_cons x1 1 2 (by decide) rfl _ _ _ _ l k r k3 ?_ ?_
  · intro x
    sl_unfold_run_values
    open_payloads
    pointwise [View.readCov_eq_canon']
    have z1 : (x 1).val < 128 := (x 1).isLt
    repeat' split
    all_goals exact fb_at_f c arg1 harg1 x1 2 1 (by decide) rfl (x 0) (x 1) _ _ (by dsimp only; omega) (by rfl)
  intro k2
  unfold kernelRun0_A.sl.HS2_3
  refine fb_cons x1 24 1 (by decide) rfl _ _ _ _ l k r k2 ?_ ?_
  · intro x
    sl_unfold_run_values
    open_payloads
    pointwise [View.readCov_eq_canon']
    have z1 : (x 1).val < 128 := (x 1).isLt
    repeat' split
    all_goals exact fb_at_b c arg1 harg1 x1 1 0 (by decide) rfl (x 0) (x 1) _ _ (by dsimp only; omega) (by dsimp only; omega)
  intro k1
  unfold kernelRun0_A.sl.HS2_2
  refine fb_cons x1 0 0 (by decide) rfl _ _ _ _ l k r k1 ?_ ?_
  · intro x
    sl_unfold_run_values
    open_payloads
    pointwise [View.readCov_eq_canon']
    have z1 : (x 1).val < 128 := (x 1).isLt
    repeat' split
    all_goals exact fb_at_f c arg1 harg1 x1 0 0 (by decide) rfl (x 0) (x 1) _ _ (by dsimp only; omega) (by rfl)
  intro k0
  exact absurd k0 (Nat.not_lt_zero _)

end Cert.ScalesIdeal.Value
end
-- ==== Proof.ScRef.lean ====
module

public import proofs.«01_k».proof.Proof.Gen.ReferenceScalesIdeal.Run
public import proofs.«01_k».proof.Proof.Gen.ReferenceScalesIdeal.Read
public import proofs.«01_k».proof.Proof.RefA
public import Idealize.ShloMosaic.Lib.Pointwise
public import Idealize.ShloMosaic.Lib.Routing.OpsPair
public import Idealize.ShloMosaic.Lib.Routing.OpsSet

/-! The reference's expanded scales, entry by entry. -/

@[expose] public section

set_option maxRecDepth 16384

noncomputable section
namespace Cert.ReferenceScalesIdeal.Hand
open Idealize.ShloMosaic Idealize.ShloMosaic.TcCoe Idealize.SL.Sem
open Idealize.ShloMosaic.Routing
open Cert.Spec Cert.ReferenceScalesIdeal Cert.ReferenceScalesIdeal.Read
open Cert.ReferenceIdeal.Value (jx slots_at slotw sub63 rowg)

/-- The row and the column of the stored pair that holds the scales of neighbour `q` of atom `s`. -/
def rr (q s : Fin 128) : Fin 33 := if h : off q s < 32 then ⟨off q s, Nat.lt_succ_of_lt h⟩ else ⟨64 - off q s, by omega⟩
def rc (b : Fin 2) (q s : Fin 128) : Fin 512 := if off q s < 32 then col b s q else col b q s

set_option maxHeartbeats 4000000 in
theorem v37_at (x0 : IVec S2x128x96 32) (b : Fin 2) (s : Fin 128) (n : Fin 96) (q : Fin 128)
    (hq : x0 (ix3 b s n) = BitVec.ofNat 32 q.val) :
    val_main_v37 (F := Ideal) x0 (ix3 b s n) = BitVec.ofNat 32 ((rr q s).val * 512 + (rc b q s).val) := by
  have h2 : ∀ a : Fin 64, IntOp.cmpi .slt (BitVec.ofNat 32 a.val) 32#32 = if a.val < 32 then 1#1 else 0#1 := by decide +kernel
  have h3 : ∀ a : Fin 64, IntOp.subi 64#32 (BitVec.ofNat 32 a.val) = BitVec.ofNat 32 (64 - a.val) := by decide +kernel
  have ho : off q s < 64 := by unfold off; omega
  have i1 : ((ix3 b s n : S2x128x96.Idx) 1).val = s.val := rfl
  have i0 : ((ix3 b s n : S2x128x96.Idx) 0).val = b.val := rfl
  have hc1 : val_main_call1_v0 (F := Ideal) (ix3 b s n) = BitVec.ofNat 32 s.val := by rw [val_main_call1_v0_apply]; rfl
  have hc2 : val_main_call2_v0 (F := Ideal) (ix3 b s n) = BitVec.ofNat 32 s.val := by rw [val_main_call2_v0_apply]; rfl
  have hsub := sub63 q s
  change _ = BitVec.ofNat 32 (off q s) at hsub
  simp only [val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, hc1, hc2, hq]
  change IntOp.addi (IntOp.addi (IntOp.addi (IntOp.addi (IntOp.muli (Scalar.select (IntOp.cmpi .slt (IntOp.andi (IntOp.subi (IntOp.shrsi ArithUnit.host (BitVec.ofNat 32 q.val) 1#32) (IntOp.shrsi ArithUnit.host (BitVec.ofNat 32 s.val) 1#32)) 63#32) 32#32) _ _) _) _) _) _) (BitVec.ofNat 32 b.val) = _
  simp only [i1, i0, hsub]
  unfold rr rc
  by_cases h : off q s < 32
  · have e2 := h2 ⟨off q s, ho⟩
    rw [if_pos h] at e2
    change IntOp.cmpi .slt (BitVec.ofNat 32 (off q s)) 32#32 = 1#1 at e2
    rw [dif_pos h, if_pos h, e2]
    exact slotw ⟨off q s, Nat.lt_succ_of_lt h⟩ b s q
  · have e2 := h2 ⟨off q s, ho⟩
    rw [if_neg h] at e2
    change IntOp.cmpi .slt (BitVec.ofNat 32 (off q s)) 32#32 = 0#1 at e2
    have e3 := h3 ⟨off q s, ho⟩
    change IntOp.subi 64#32 (BitVec.ofNat 32 (off q s)) = BitVec.ofNat 32 (64 - off q s) at e3
    rw [dif_neg h, if_neg h, e2, e3]
    exact slotw ⟨64 - off q s, by omega⟩ b q s

theorem slot_lt (k : Fin 33) (m : Fin 512) : k.val * 512 + m.val < 16896 := by omega

theorem v47_at (x0 : IVec S2x128x96 32) (x1 : FVec Ideal S33x24x512 .f32) (b : Fin 2) (s : Fin 128) (n : Fin 96) (g : Fin 24) (q : Fin 128)
    (hq : x0 (ix3 b s n) = BitVec.ofNat 32 q.val) :
    val_main_v47 (F := Ideal) x0 x1 (ix2 (jx b s n) g) = x1 (ix3 (rr q s) g (rc b q s)) := by
  have h40 : val_main_v40 (F := Ideal) x0 (ix1 (jx b s n)) = BitVec.ofNat 32 ((rr q s).val * 512 + (rc b q s).val) :=
    (Cert.ReferenceIdeal.Value.flat_at (val_main_v37 (F := Ideal) x0) _ b s n).trans (v37_at x0 b s n q hq)
  refine (rowg gather_S16896x24_S24576x1_S24576x24_1_0_n_n_0_1_124 rfl rfl rfl rfl rfl (val_main_v39 (F := Ideal) x1) 16896#32
    (val_main_v40 (F := Ideal) x0) (jx b s n) g ⟨(rr q s).val * 512 + (rc b q s).val, slot_lt _ _⟩ (by norm_num) h40).trans ?_
  refine (slots_at (val_main_v38 (F := Ideal) x1) _ (rr q s) (rc b q s) g _ rfl).trans ?_
  rw [val_main_v38_apply]
  refine congrArg x1 ?_
  funext a
  match a with
  | ⟨0, _⟩ => rfl
  | ⟨1, _⟩ => rfl
  | ⟨2, _⟩ => rfl

set_option maxHeartbeats 4000000 in
/-- An entry of the reference's result: neighbour `y / 24` of atom `s`, scale `y % 24`. -/
theorem v50_at (x0 : IVec S2x128x96 32) (x1 : FVec Ideal S33x24x512 .f32) (b : Fin 2) (y : Fin 2304) (s : Fin 128) (q : Fin 128)
    (hn : y.val / 24 < 96) (hg : y.val % 24 < 24) (hq : x0 (ix3 b s ⟨y.val / 24, hn⟩) = BitVec.ofNat 32 q.val) :
    val_main_v50 (F := Ideal) x0 x1 (ix3 b y s) = x1 (ix3 (rr q s) ⟨y.val % 24, hg⟩ (rc b q s)) := by
  rw [val_main_v50_apply, val_main_v49_apply, val_main_v48_apply]
  have e : idx_main_v48 (idx_main_v49 (idx_main_v50 (ix3 b y s))) = ix2 (jx b s ⟨y.val / 24, hn⟩) ⟨y.val % 24, hg⟩ := by
    have e50 : idx_main_v50 (ix3 b y s) = ix4 b ⟨y.val / 24, hn⟩ ⟨y.val % 24, hg⟩ s := by
      have hb := b.isLt
      have hy := y.isLt
      have hs := s.isLt
      have e0 : ∀ x : Fin 2304, (ix3 b x s : S2x2304x128.Idx) 1 = x := fun _ => rfl
      funext a
      match a with
      | ⟨0, _⟩ => exact Fin.ext (by show ((b.val * 2304 + y.val) * 128 + s.val) / 294912 = b.val; omega)
      | ⟨1, _⟩ => exact Fin.ext (by show ((b.val * 2304 + y.val) * 128 + s.val) / 3072 % 96 = y.val / 24; omega)
      | ⟨2, _⟩ => exact Fin.ext (by show ((b.val * 2304 + y.val) * 128 + s.val) / 128 % 24 = y.val % 24; omega)
      | ⟨3, _⟩ => exact Fin.ext (by show ((b.val * 2304 + y.val) * 128 + s.val) % 128 = s.val; omega)
    rw [e50]
    have hg' := hg
    funext a
    match a with
    | ⟨0, _⟩ => exact Fin.ext (by show (((b.val * 128 + s.val) * 96 + y.val / 24) * 24 + y.val % 24) / 24 = (b.val * 128 + s.val) * 96 + y.val / 24; omega)
    | ⟨1, _⟩ => exact Fin.ext (by show (((b.val * 128 + s.val) * 96 + y.val / 24) * 24 + y.val % 24) % 24 = y.val % 24; omega)
  rw [e]
  exact v47_at x0 x1 b s _ _ q hq

end Cert.ReferenceScalesIdeal.Hand
end
-- ==== Proof.ScVal.lean ====
module

public import proofs.«01_k».proof.Proof.Gen.ScalesIdeal.Value
public import proofs.«01_k».proof.Proof.ScOut
public import proofs.«01_k».proof.Proof.ScLoop
public import proofs.«01_k».proof.Proof.ScCand
public import proofs.«01_k».proof.Proof.ScFb
public import proofs.«01_k».proof.Proof.ScRef
public import Idealize.ShloMosaic.Lib.Pipeline.ValueKit
public import Idealize.ShloMosaic.Lib.Pointwise
public import Idealize.ShloMosaic.Lib.Tactic.RunNames

/-! The scales kernel's result, entry by entry. -/

@[expose] public section

set_option maxRecDepth 16384

noncomputable section
namespace Cert.ScalesIdeal.Value
open Idealize.ShloMosaic Idealize.ShloMosaic.TcCoe Idealize.SL.Sem
open Cert.ScalesIdeal Cert.ScalesIdeal.Gen

open Cert.Spec (off col)
open Cert.ReferenceScalesIdeal.Hand (rr rc)

theorem cidx_lt (q s : Fin 128) : cidx q s < 256 := by
  have ho : off q s < 64 := by unfold off; omega
  unfold cidx
  split
  · omega
  · omega

/-- The remainder of the backward rows' shift. -/
theorem back_lane (q s b o : Nat) (hq : q < 64) (hs : s < 64) (hb : b < 2) (ho : o = (q + 64 - s) % 64) (h : ¬ o < 32) :
    (2 * s + b + 128 - (2 + 2 * (63 - o)) % 128) % 128 = 2 * q + b := by
  omega

theorem lt_l (s : Fin 128) (b : Fin 2) : 2 * (s.val / 2) + b.val < 128 := by omega
theorem lt_k (g : Fin 24) (z : Fin 2) : 2 * g.val + z.val < 48 := by omega

/-- The gathered lane holds the scale of the stored pair. -/
theorem fbv_pair (x1 : Vec Ideal S33x24x512 .f32) (b : Fin 2) (q s : Fin 128) (g : Fin 24) :
    fbv x1 ⟨2 * (s.val / 2) + b.val, lt_l s b⟩ (2 * g.val + (half ⟨cidx q s, cidx_lt q s⟩).val) ⟨cidx q s % 128, Nat.mod_lt _ (by decide)⟩
      = x1 (ix3 (rr q s) g (rc b q s)) := by
  have ho : off q s = (q.val / 2 + 64 - s.val / 2) % 64 := rfl
  have hq := q.isLt
  have hs := s.isLt
  have hb := b.isLt
  have hg := g.isLt
  unfold half rr rc
  by_cases h : off q s < 32
  · have hc : cidx q s = (2 * (s.val % 2) + q.val % 2) * 32 + off q s := by unfold cidx; rw [if_pos h]
    have h1 : cidx q s < 128 := by omega
    have hz : (2 * g.val + (0 : Fin 2).val) % 2 = 0 := by show (2 * g.val + 0) % 2 = 0; omega
    simp only [if_pos h1, dif_pos h, if_pos h]
    unfold fbv
    rw [if_pos hz]
    refine congrArg x1 (funext fun a => ?_)
    match a with
    | ⟨0, _⟩ => exact Fin.ext (show cidx q s % 128 % 32 = off q s by omega)
    | ⟨1, _⟩ => exact Fin.ext (show (2 * g.val + 0) / 2 % 24 = g.val by omega)
    | ⟨2, _⟩ => exact Fin.ext (show 128 * (cidx q s % 128 / 32) + (2 * (s.val / 2) + b.val) = 256 * (s.val % 2) + 128 * (q.val % 2) + 2 * (s.val / 2) + b.val by omega)
  · have ho64 : off q s < 64 := by omega
    have hc : cidx q s = 128 + (2 * (q.val % 2) + s.val % 2) * 32 + (63 - off q s) := by unfold cidx; rw [if_neg h]
    have h1 : ¬ cidx q s < 128 := by omega
    have hz : ¬ (2 * g.val + (1 : Fin 2).val) % 2 = 0 := by show ¬ (2 * g.val + 1) % 2 = 0; omega
    simp only [if_neg h1, dif_neg h, if_neg h]
    unfold fbv
    rw [if_neg hz]
    have e32 : cidx q s % 128 % 32 = 63 - off q s := by omega
    have e128 : cidx q s % 128 / 32 = 2 * (q.val % 2) + s.val % 2 := by omega
    have eb := back_lane (q.val / 2) (s.val / 2) b.val (off q s) (by omega) (by omega) hb ho h
    refine congrArg x1 (funext fun a => ?_)
    match a with
    | ⟨0, _⟩ => exact Fin.ext (show cidx q s % 128 % 32 + 1 = 64 - off q s by omega)
    | ⟨1, _⟩ => exact Fin.ext (show (2 * g.val + 1) / 2 % 24 = g.val by omega)
    | ⟨2, _⟩ => exact Fin.ext (show 128 * (cidx q s % 128 / 32) + ((2 * (s.val / 2) + b.val) + 128 - (2 + 2 * (cidx q s % 128 % 32)) % 128) % 128 = 256 * (q.val % 2) + 128 * (s.val % 2) + 2 * (q.val / 2) + b.val by
        rw [e32, e128, eb]; omega)

variable (c : Dev nD) (arg0 : Memref sig .tc .vmem S2x96x128 .i32) (harg0 : arg0.IsWhole) (arg1 : Memref sig .tc .vmem S33x24x512 .f32) (harg1 : arg1.IsWhole) (arg2 : Memref sig .tc .vmem S2x2304x128 .f32) (harg2 : arg2.IsWhole) (arg3 : Memref sig .tc .vmem S2x128x128 .i32) (harg3 : arg3.IsWhole) (arg4 : Memref sig .tc .vmem S3936x128 .f32) (harg4 : arg4.IsWhole) (arg5 : Memref sig .tc .vmem S7168x128 .f32) (harg5 : arg5.IsWhole) (arg6 : Memref sig .tc .vmem S2x3072x128 .f32) (harg6 : arg6.IsWhole) (arg7 : Memref sig .tc .vmem S2x2304x128 .f32) (harg7 : arg7.IsWhole) (x0 : Vec Ideal S2x96x128 .i32) (x1 : Vec Ideal S33x24x512 .f32)

set_option maxHeartbeats 4000000 in
/-- The gathered rows. -/
theorem gsv_at (b : Fin 2) (q s : Fin 128) (g : Fin 24) (k : Fin 128) (hk : k.val < 96) (y : Fin 3072) (hy : y.val = 24 * s.val + g.val)
    (hq : x0 (ix3 b ⟨k.val, hk⟩ s) = BitVec.ofNat 32 q.val) :
    gsv c arg0 harg0 arg1 harg1 arg2 harg2 arg3 harg3 arg4 harg4 arg5 harg5 arg6 harg6 arg7 harg7 x0 x1 (ix3 b y k) = x1 (ix3 (rr q s) g (rc b q s)) := by
  unfold gsv
  have h := gs_val c arg0 harg0 arg1 harg1 arg2 harg2 arg3 harg3 arg4 harg4 arg5 harg5 arg6 harg6 arg7 harg7 (arg3.view.writes (Elt Ideal) arg3.view.junk (kernelRun0_A.sl.HS0_2 (F := Ideal) c arg0 harg0 x0))
    (arg5.view.writes (Elt Ideal) arg5.view.junk (kernelRun0_A.sl.HS2_49 (F := Ideal) c arg1 harg1 arg4 x1)) b s g y hy k ⟨cidx q s, cidx_lt q s⟩
    ((congrFun (View.read_writes_junk_eq_canon _ _) _).trans (cand_val c arg0 harg0 x0 b q s k hk hq)) k0_t1_loop.trips le_rfl
    (lt_of_lt_of_eq (lt_l s b) trips128.symm)
  refine h.trans ?_
  unfold gat
  rw [View.read_writes_junk_eq_canon]
  refine Eq.trans ?_ (fbv_pair x1 b q s g)
  refine Eq.trans ?_ (fb_val c arg1 harg1 arg4 x1 ⟨2 * (s.val / 2) + b.val, lt_l s b⟩ ⟨2 * g.val + (half ⟨cidx q s, cidx_lt q s⟩).val, lt_k g _⟩ _)
  refine congrArg (View.canon _) (funext fun a => ?_)
  have hz := (half ⟨cidx q s, cidx_lt q s⟩).isLt
  match a with
  | ⟨0, _⟩ => exact Fin.ext (show 56 * (2 * (s.val / 2) + b.val) + 24 * (half ⟨cidx q s, cidx_lt q s⟩).val + g.val = 56 * (2 * (s.val / 2) + b.val) + ((2 * g.val + (half ⟨cidx q s, cidx_lt q s⟩).val) / 2 + 24 * ((2 * g.val + (half ⟨cidx q s, cidx_lt q s⟩).val) % 2)) by omega)
  | ⟨1, _⟩ => rfl

theorem key48 (b : Fin 2) (y : Fin 2304) : 24 * b.val + y.val % 24 < 48 := by omega
theorem y96 (y : Fin 2304) : y.val / 24 < 96 := by omega
theorem y24 (y : Fin 2304) : y.val % 24 < 24 := Nat.mod_lt _ (by decide)
theorem y128 (y : Fin 2304) : y.val / 24 < 128 := by omega

set_option maxHeartbeats 4000000 in
/-- The kernel's result. -/
theorem res_at (b : Fin 2) (y : Fin 2304) (q s : Fin 128) (hq : x0 (ix3 b ⟨y.val / 24, y96 y⟩ s) = BitVec.ofNat 32 q.val) :
    View.canon (kernelRun0_A.sl.HS4_48 (F := Ideal) c arg0 harg0 arg1 harg1 arg2 harg2 arg3 harg3 arg4 harg4 arg5 harg5 arg6 harg6 arg7 harg7 x0 x1) (ix3 b y s) = x1 (ix3 (rr q s) ⟨y.val % 24, y24 y⟩ (rc b q s)) := by
  rw [out_48 c arg0 harg0 arg1 harg1 arg2 harg2 arg3 harg3 arg4 harg4 arg5 harg5 arg6 harg6 arg7 harg7 x0 x1 b y s (key48 b y)]
  exact gsv_at c arg0 harg0 arg1 harg1 arg2 harg2 arg3 harg3 arg4 harg4 arg5 harg5 arg6 harg6 arg7 harg7 x0 x1 b q s ⟨y.val % 24, y24 y⟩ ⟨y.val / 24, y128 y⟩ (y96 y) _ rfl hq

end Cert.ScalesIdeal.Value
end
-- ==== Proof.ScRes.lean ====
module

public import proofs.«01_k».proof.Proof.Gen.ScalesIdeal.Value
public import proofs.«01_k».proof.Proof.ScVal
public import Idealize.ShloMosaic.Lib.Pipeline.ValueKit
public import Idealize.ShloMosaic.Lib.Pointwise
public import Idealize.ShloMosaic.Lib.Tactic.RunNames

/-! The scales kernel's output is the array staged in scratch. -/

@[expose] public section

set_option maxRecDepth 16384

noncomputable section
namespace Cert.ScalesIdeal.Value
open Idealize.ShloMosaic Idealize.ShloMosaic.TcCoe Idealize.SL.Sem
open Cert.ScalesIdeal Cert.ScalesIdeal.Gen

open Cert.Spec (off col)
open Cert.ReferenceScalesIdeal.Hand (rr rc)

variable (c : Dev nD) (arg0 : Memref sig .tc .vmem S2x96x128 .i32) (harg0 : arg0.IsWhole) (arg1 : Memref sig .tc .vmem S33x24x512 .f32) (harg1 : arg1.IsWhole) (arg2 : Memref sig .tc .vmem S2x2304x128 .f32) (harg2 : arg2.IsWhole) (arg3 : Memref sig .tc .vmem S2x128x128 .i32) (harg3 : arg3.IsWhole) (arg4 : Memref sig .tc .vmem S3936x128 .f32) (harg4 : arg4.IsWhole) (arg5 : Memref sig .tc .vmem S7168x128 .f32) (harg5 : arg5.IsWhole) (arg6 : Memref sig .tc .vmem S2x3072x128 .f32) (harg6 : arg6.IsWhole) (arg7 : Memref sig .tc .vmem S2x2304x128 .f32) (harg7 : arg7.IsWhole) (x0 : Vec Ideal S2x96x128 .i32) (x1 : Vec Ideal S33x24x512 .f32)

theorem zero3' : (![0, 0, 0] : Fin 3 → Nat) = fun _ => 0 := by funext a; match a with | 0 => rfl | 1 => rfl | 2 => rfl

set_option maxHeartbeats 4000000 in
/-- The output's one piece is the staged rows. -/
theorem out_pieces (b : Fin 2) (y : Fin 2304) (q s : Fin 128) (hq : x0 (ix3 b ⟨y.val / 24, y96 y⟩ s) = BitVec.ofNat 32 q.val) :
    View.canon (kernelRun0_A (F := Ideal) c arg0 harg0 arg1 harg1 arg2 harg2 arg3 harg3 arg4 harg4 arg5 harg5 arg6 harg6 arg7 harg7 x0 x1).1 (ix3 b y s) = x1 (ix3 (rr q s) ⟨y.val % 24, y24 y⟩ (rc b q s)) := by
  refine Eq.trans ?_ (res_at c arg0 harg0 arg1 harg1 arg2 harg2 arg3 harg3 arg4 harg4 arg5 harg5 arg6 harg6 arg7 harg7 x0 x1 b y q s hq)
  unfold kernelRun0_A
  dsimp only
  rw [View.canon_cons_unit_zero zero3']
  unfold kernelRun0_A.sl.v1569
  rw [View.readCov_eq_canon']
  beta_reduce
  generalize kernelRun0_A.sl.HS4_48 (F := Ideal) c arg0 harg0 arg1 harg1 arg2 harg2 arg3 harg3 arg4 harg4 arg5 harg5 arg6 harg6 arg7 harg7 x0 x1 = L
  refine congrArg (View.canon L) (funext fun a => ?_)
  match a with
  | ⟨0, _⟩ => exact Fin.ext (show 0 + 1 * b.val = b.val by omega)
  | ⟨1, _⟩ => exact Fin.ext (show 0 + 1 * y.val = y.val by omega)
  | ⟨2, _⟩ => exact Fin.ext (show 0 + 1 * s.val = s.val by omega)

end Cert.ScalesIdeal.Value
end
-- ==== Proof.ScPair.lean ====
module

public import proofs.«01_k».proof.Defs
public import proofs.«01_k».proof.Proof.ScRes
public import proofs.«01_k».proof.Proof.Pair
public import proofs.«01_k».proof.Proof.Gen.ScalesIdeal.Value
public import Idealize.ShloMosaic.Lib.Pipeline.ValueKit
public import Idealize.ShloMosaic.Lib.StableHlo.RunRead
public import Idealize.ShloMosaic.Lib.Pointwise
public import Idealize.ShloMosaic.Lib.Claim
public import Idealize.ShloMosaic.Lib.StableHlo.Predicate

/-! The scales kernel and its reference end with the same array. -/

@[expose] public section

set_option maxRecDepth 16384

noncomputable section
namespace Cert.ScalesIdeal.Value
open Idealize.ShloMosaic Idealize.ShloMosaic.TcCoe Idealize.SL.Sem
open Cert.ScalesIdeal Cert.ScalesIdeal.Gen
open Cert.ReferenceScalesIdeal.Hand (rr rc)

variable (m : (ℓ : Loc nD τ sig) → Buf (Elt Ideal) ℓ)

theorem blk1 (c : Dev nD) (j : S33x24x512.Idx) : iblk m c 1 t0_0 j = m ((c.tc : Thread nD τ).loc main_arg1) j := by
  have e : win0_1.index t0_0 = ![0, 0, 0] := by decide +kernel
  blk_simp [iblk]
  rw [V_main_arg1]
  refine congrArg (m ((c.tc : Thread nD τ).loc main_arg1)) (funext fun a => Fin.ext ?_)
  blk_simp [e]
  fin_cases a <;> simp

theorem V_main_v0 (c : Dev nD) (b : Fin 2) (k : Fin 96) (s : Fin 128) : V m c main_v0 (ix3 b k s) = m ((c.tc : Thread nD τ).loc main_arg0) (ix3 b s k) := by
  entry_read
  pointwise

theorem blk0 (c : Dev nD) (b : Fin 2) (k : Fin 96) (s : Fin 128) : iblk m c 0 t0_0 (ix3 b k s) = m ((c.tc : Thread nD τ).loc main_arg0) (ix3 b s k) := by
  have e : win0_0.index t0_0 = ![0, 0, 0] := by decide +kernel
  refine Eq.trans ?_ (V_main_v0 m c b k s)
  blk_simp [iblk]
  refine congrArg (V m c main_v0) (funext fun a => Fin.ext ?_)
  blk_simp [e]
  fin_cases a <;> simp

theorem out_value (c : Dev nD) (q : Fin 2 → Fin 128 → Fin 96 → Fin 128)
    (hq : ∀ b s n, (m ((c.tc : Thread nD τ).loc main_arg0) : IVec S2x128x96 32) (ix3 b s n) = BitVec.ofNat 32 (q b s n).val)
    (b : Fin 2) (y : Fin 2304) (s : Fin 128) : ((dats m 0 c).arrAt 2 cfg0.N : Vec Ideal S2x2304x128 .f32) (ix3 b y s)
      = (m ((c.tc : Thread nD τ).loc main_arg1) : Vec Ideal S33x24x512 .f32) (ix3 (rr (q b s ⟨y.val / 24, y96 y⟩) s) ⟨y.val % 24, y24 y⟩ (rc b (q b s ⟨y.val / 24, y96 y⟩) s)) := by
  have hG : (dats m 0 c).arrAt 2 cfg0.N = (fun j : S2x2304x128.Idx => (m ((c.tc : Thread nD τ).loc main_arg1) : Vec Ideal S33x24x512 .f32) (ix3 (rr (q (j 0) (j 2) ⟨(j 1).val / 24, y96 (j 1)⟩) (j 2)) ⟨(j 1).val % 24, y24 (j 1)⟩ (rc (j 0) (q (j 0) (j 2) ⟨(j 1).val / 24, y96 (j 1)⟩) (j 2)))) := by
    refine (dats m 0 c).arrAt_eq_of_after_last 2 t0_0 (by decide +kernel) _ fun j => ?_
    blk_simp
    rw [after0_2]
    frame_out
    unfold outsAt0 out0_A_2
    rw [View.read_writes_junk_eq_canon]
    refine (congrArg (View.canon _) (eq_ix3 (j : S2x2304x128.Idx))).trans ?_
    refine Eq.trans (out_pieces _ _ _ _ _ _ _ _ _ _ _ _ _ _ _ _ _ _ _ _ _ (q (j 0) (j 2) ⟨(j 1).val / 24, y96 (j 1)⟩) _ ((blk0 m c _ _ _).trans (hq _ _ _))) ?_
    exact blk1 m c _
  exact congrFun hG (ix3 b y s)

end Cert.ScalesIdeal.Value

namespace Cert.ScalesPair
open Idealize.ShloMosaic Idealize.ShloMosaic.TcCoe Idealize.SL.Sem

/-- The one shape fact the precondition states. -/
theorem pre_facts : Cert.Pre_scale_neighbours_in_range.Facts := ⟨by decide⟩

attribute [local instance] pre_facts

/-- Under the precondition every neighbour word is the word of an atom. -/
theorem atoms_of (m : (ℓ : Loc Cert.ScalesIdeal.nD Cert.ScalesIdeal.τ Cert.ScalesIdeal.sig) → Buf (Elt Ideal) ℓ)
    (h : Cert.Pre_ScalesIdeal_scale_neighbours_in_range m) (c : Dev Cert.ScalesIdeal.nD) :
    ∃ q : Fin 2 → Fin 128 → Fin 96 → Fin 128, ∀ b s n,
      (m ((c.tc : Thread Cert.ScalesIdeal.nD Cert.ScalesIdeal.τ).loc Cert.ScalesIdeal.main_arg0) : IVec Cert.ScalesIdeal.S2x128x96 32) (ix3 b s n)
        = BitVec.ofNat 32 (q b s n).val := by
  have hw : ∀ (b : Fin 2) (s : Fin 128) (n : Fin 96),
      ((m ((c.tc : Thread Cert.ScalesIdeal.nD Cert.ScalesIdeal.τ).loc Cert.ScalesIdeal.main_arg0) : IVec Cert.ScalesIdeal.S2x128x96 32) (ix3 b s n)).toNat < 128 := by
    intro b s n
    have := congrFun (h c) (ix3 b s n)
    unfold Cert.Pre_scale_neighbours_in_range.fn at this
    exact Cert.Pair.small_of _ this
  refine ⟨fun b s n => ⟨_, hw b s n⟩, fun b s n => ?_⟩
  simp

/-- What both runs leave in their output, from the kernel's arguments. -/
def ends (m : (ℓ : Loc Cert.ScalesIdeal.nD Cert.ScalesIdeal.τ Cert.ScalesIdeal.sig) → Buf (Elt Ideal) ℓ) (c : Dev Cert.ScalesIdeal.nD) :
    Buf (Elt Ideal) ((c.tc : Thread Cert.ScalesIdeal.nD Cert.ScalesIdeal.τ).loc Cert.ScalesIdeal.main_v1) :=
  (Cert.ScalesIdeal.Gen.dats m 0 c).arrAt 2 (Cert.ScalesIdeal.cfgs 0).N

theorem algebraic : Cert.algebraic_ScalesIdeal_ReferenceScalesIdeal_pre_scale_neighbours_in_range (hScalesIdeal := Cert.ScalesIdeal.Gen.facts)
    (hReferenceScalesIdeal := Cert.ReferenceScalesIdeal.Gen.facts) (hPre_scale_neighbours_in_range := pre_facts) := by
  intro m g m' g' hpre hagree
  refine ⟨ends m, ?_, ?_⟩
  · run_from (Cert.ScalesIdeal.Gen.run_main (F := Ideal) m g)
    all_goals rfl
  · have hv : ∀ c, Cert.ReferenceScalesIdeal.Value.res_main_v50 m' c = ends m c := by
      intro c
      obtain ⟨q, hq⟩ := atoms_of m hpre c
      obtain ⟨e0, e1⟩ := hagree c
      refine (Cert.ReferenceScalesIdeal.Read.val_main_v50_eq m' c).trans ?_
      refine funext fun j => ?_
      refine (congrArg _ (eq_ix3 (j : Cert.ReferenceScalesIdeal.S2x2304x128.Idx))).trans ?_
      refine Eq.trans ?_ (congrArg (ends m c) (eq_ix3 (j : Cert.ReferenceScalesIdeal.S2x2304x128.Idx))).symm
      refine (Cert.ReferenceScalesIdeal.Hand.v50_at _ _ (j 0) (j 1) (j 2) _ (Cert.ScalesIdeal.Value.y96 (j 1)) (Cert.ScalesIdeal.Value.y24 (j 1)) ((congrFun e0 _).trans (hq _ _ _))).trans ?_
      refine Eq.trans ?_ (Cert.ScalesIdeal.Value.out_value m c q hq _ _ _).symm
      rw [e1]
    refine θ_run_mono (Cert.ReferenceScalesIdeal.Value.run (F := Ideal) m' g') ?_
    intro r hr c
    obtain ⟨h1, h2⟩ := hr c
    exact ⟨h1.trans (hv c), h2⟩
end Cert.ScalesPair
end
-- ==== Proof.lean ====
/- The certificate: the runs of the three programs, and that the kernel and the reference end with the same array. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Scales
public import proofs.«01_k».proof.Proof.Gen.Scales.Skeleton
public import proofs.«01_k».proof.Proof.Gen.Scales.Loops
public import proofs.«01_k».proof.Proof.Gen.Scales.Launch
public import proofs.«01_k».proof.Proof.Gen.Scales.Points
public import proofs.«01_k».proof.Proof.Gen.Scales.Frame
public import proofs.«01_k».proof.Proof.Gen.ScalesIdeal
public import proofs.«01_k».proof.Proof.Gen.ScalesIdeal.Skeleton
public import proofs.«01_k».proof.Proof.Gen.ScalesIdeal.Loops
public import proofs.«01_k».proof.Proof.Gen.ScalesIdeal.Launch
public import proofs.«01_k».proof.Proof.Gen.ScalesIdeal.Points
public import proofs.«01_k».proof.Proof.Gen.ScalesIdeal.Frame
public import proofs.«01_k».proof.Proof.Gen.ReferenceScalesIdeal
public import proofs.«01_k».proof.Proof.Gen.ReferenceScalesIdeal.Run
public import proofs.«01_k».proof.Proof.Pair
public import proofs.«01_k».proof.Proof.ScPair
public import Idealize.ShloMosaic.Adequacy
public import Idealize.ShloMosaic.Init

@[expose] public section

noncomputable section

namespace Cert.Proof

open Idealize.ShloMosaic Idealize.SL.Sem Cert.Kernel

/-- The scales reference launches nothing: its arguments are unchanged and it declares no semaphore. -/
theorem frame_scales_reference (m : (ℓ : Loc Cert.ReferenceScalesIdeal.nD Cert.ReferenceScalesIdeal.τ Cert.ReferenceScalesIdeal.sig) → Buf (Elt Ideal) ℓ)
    (ρ : Dev Cert.ReferenceScalesIdeal.nD → PrngReg) :
    θ_run (Cert.ReferenceScalesIdeal.defs (F := Ideal)) (onTc (τ := Cert.ReferenceScalesIdeal.τ) (Cert.ReferenceScalesIdeal.main (F := Ideal))) ⟨m, fun _ => 0, ρ⟩ (fun r => (∀ c : Dev Cert.ReferenceScalesIdeal.nD,
      r.2.mem ((c.tc : Thread Cert.ReferenceScalesIdeal.nD Cert.ReferenceScalesIdeal.τ).loc Cert.ReferenceScalesIdeal.main_arg0) = m ((c.tc : Thread Cert.ReferenceScalesIdeal.nD Cert.ReferenceScalesIdeal.τ).loc Cert.ReferenceScalesIdeal.main_arg0)
      ∧ r.2.mem ((c.tc : Thread Cert.ReferenceScalesIdeal.nD Cert.ReferenceScalesIdeal.τ).loc Cert.ReferenceScalesIdeal.main_arg1) = m ((c.tc : Thread Cert.ReferenceScalesIdeal.nD Cert.ReferenceScalesIdeal.τ).loc Cert.ReferenceScalesIdeal.main_arg1))
      ∧ r.2.sem = fun _ => 0) :=
  (θ_run Cert.ReferenceScalesIdeal.defs _ _).mono (fun r h => ⟨fun c => (h c).2, Idealize.ShloMosaic.sem_eq_zero_of_no_sems (by decide) r.2⟩)
    (Cert.ReferenceScalesIdeal.Value.run (F := Ideal) m ρ)

theorem claim : Cert.Claim := ⟨Cert.Kernel.Gen.facts, Cert.KernelIdeal.Gen.facts, Cert.ReferenceIdeal.Gen.facts, Cert.Scales.Gen.facts, Cert.ScalesIdeal.Gen.facts, Cert.ReferenceScalesIdeal.Gen.facts, Cert.Pair.pre_facts, Cert.ScalesPair.pre_facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  fun m ρ _ => Cert.Scales.Gen.frame m ρ,
  fun m ρ _ => Cert.ScalesIdeal.Gen.frame m ρ,
  fun m ρ _ => Cert.ScalesIdeal.Gen.frame m ρ,
  fun m ρ _ => frame_scales_reference m ρ,
  fun m ρ _ => frame_scales_reference m ρ,
  trivial,
  Cert.Pair.algebraic,
  trivial,
  Cert.ScalesPair.algebraic⟩

end Cert.Proof

end
